-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v128_0)) (v1 : (c : Dev Cert.KernelIdeal.nD) → Buf (Elt Ideal) ((c.tc : Thread Cert.KernelIdeal.nD Cert.KernelIdeal.τ).loc Cert.KernelIdeal.main_v128_1)) (v2 : (c : Dev Cert.KernelIdeal.nD) → Buf (Elt Ideal) ((c.tc : Thread Cert.KernelIdeal.nD Cert.KernelIdeal.τ).loc Cert.KernelIdeal.main_v128_2)) (v3 : (c : Dev Cert.KernelIdeal.nD) → Buf (Elt Ideal) ((c.tc : Thread Cert.KernelIdeal.nD Cert.KernelIdeal.τ).loc Cert.KernelIdeal.main_v128_3)) (v4 : (c : Dev Cert.KernelIdeal.nD) → Buf (Elt Ideal) ((c.tc : Thread Cert.KernelIdeal.nD Cert.KernelIdeal.τ).loc Cert.KernelIdeal.main_v128_4)) (v5 : (c : Dev Cert.KernelIdeal.nD) → Buf (Elt Ideal) ((c.tc : Thread Cert.KernelIdeal.nD Cert.KernelIdeal.τ).loc Cert.KernelIdeal.main_v128_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128_0) = v0 c
          ∧ r.2.mem ((c.tc : Thread Cert.KernelIdeal.nD Cert.KernelIdeal.τ).loc Cert.KernelIdeal.main_v128_1) = v1 c
          ∧ r.2.mem ((c.tc : Thread Cert.KernelIdeal.nD Cert.KernelIdeal.τ).loc Cert.KernelIdeal.main_v128_2) = v2 c
          ∧ r.2.mem ((c.tc : Thread Cert.KernelIdeal.nD Cert.KernelIdeal.τ).loc Cert.KernelIdeal.main_v128_3) = v3 c
          ∧ r.2.mem ((c.tc : Thread Cert.KernelIdeal.nD Cert.KernelIdeal.τ).loc Cert.KernelIdeal.main_v128_4) = v4 c
          ∧ r.2.mem ((c.tc : Thread Cert.KernelIdeal.nD Cert.KernelIdeal.τ).loc Cert.KernelIdeal.main_v128_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_v232) = v1 c
          ∧ r.2.mem ((c.tc : Thread Cert.ReferenceIdeal.nD Cert.ReferenceIdeal.τ).loc Cert.ReferenceIdeal.main_v233) = v2 c
          ∧ r.2.mem ((c.tc : Thread Cert.ReferenceIdeal.nD Cert.ReferenceIdeal.τ).loc Cert.ReferenceIdeal.main_v235) = v3 c
          ∧ r.2.mem ((c.tc : Thread Cert.ReferenceIdeal.nD Cert.ReferenceIdeal.τ).loc Cert.ReferenceIdeal.main_v237) = v4 c
          ∧ r.2.mem ((c.tc : Thread Cert.ReferenceIdeal.nD Cert.ReferenceIdeal.τ).loc Cert.ReferenceIdeal.main_v239) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v124) = v0 c
          ∧ r.2.mem ((c.tc : Thread Cert.Reference2Ideal.nD Cert.Reference2Ideal.τ).loc Cert.Reference2Ideal.main_v123) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v19) = v0 c
          ∧ r.2.mem ((c.tc : Thread Cert.Reference11Ideal.nD Cert.Reference11Ideal.τ).loc Cert.Reference11Ideal.main_v2) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8448x3072 : Shape := ⟨2, ![8448, 3072]⟩
abbrev S16 : Shape := ⟨1, ![16]⟩
abbrev S8448x2048 : Shape := ⟨2, ![8448, 2048]⟩
abbrev S_ : Shape := ⟨0, ![]⟩

class Facts : Prop where
  bitsLt_bf16_f32 : FTy.bits .bf16 < FTy.bits .f32
  bcast_S_S8448x3072 : S_.BroadcastsInDim S8448x3072 (![] : Fin 0 → Fin S8448x3072.rank)
  bcast_S_S16 : S_.BroadcastsInDim S16 (![] : Fin 0 → Fin S16.rank)
  bcast_S_S8448x2048 : S_.BroadcastsInDim S8448x2048 (![] : Fin 0 → Fin S8448x2048.rank)

variable [Facts]

def fn {F : FTy → Type} [FloatOps F] (main_arg0 : FVec F S8448x3072 .bf16) (main_arg1 : FVec F S16 .f32) (main_arg2 : FVec F S8448x2048 .f32) : IVec S8448x3072 1 × IVec S16 1 × IVec S8448x2048 1 :=
  let main_v0 : FVec F S8448x3072 .f32 := (extf .f32 · bitsLt_bf16_f32) main_arg0
  let main_v1 : FVec F S8448x3072 .f32 := Host.absf main_v0
  let main_cst : FVec F S_ .f32 := constant S_ .f32 0x7F800000#32
  let main_v2 : FVec F S8448x3072 .f32 := broadcastInDim S8448x3072 ![] bcast_S_S8448x3072 main_cst
  let main_v3 : IVec S8448x3072 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_v7 : FVec F S8448x2048 .f32 := Host.absf main_arg2
  let main_cst_1 : FVec F S_ .f32 := constant S_ .f32 0x7F800000#32
  let main_v8 : FVec F S8448x2048 .f32 := broadcastInDim S8448x2048 ![] bcast_S_S8448x2048 main_cst_1
  let main_v9 : IVec S8448x2048 1 := cmpf .olt main_v7 main_v8
  (main_v3, main_v6, main_v9)
-- ==== Pre_finite2.lean ====
abbrev S8448x3072 : Shape := ⟨2, ![8448, 3072]⟩
abbrev S16 : Shape := ⟨1, ![16]⟩
abbrev S_ : Shape := ⟨0, ![]⟩

class Facts : Prop where
  bitsLt_bf16_f32 : FTy.bits .bf16 < FTy.bits .f32
  bcast_S_S8448x3072 : S_.BroadcastsInDim S8448x3072 (![] : Fin 0 → Fin S8448x3072.rank)
  bcast_S_S16 : S_.BroadcastsInDim S16 (![] : Fin 0 → Fin S16.rank)

variable [Facts]

def fn {F : FTy → Type} [FloatOps F] (main_arg0 : FVec F S8448x3072 .bf16) (main_arg1 : FVec F S16 .f32) : IVec S8448x3072 1 × IVec S16 1 :=
  let main_v0 : FVec F S8448x3072 .f32 := (extf .f32 · bitsLt_bf16_f32) main_arg0
  let main_v1 : FVec F S8448x3072 .f32 := Host.absf main_v0
  let main_cst : FVec F S_ .f32 := constant S_ .f32 0x7F800000#32
  let main_v2 : FVec F S8448x3072 .f32 := broadcastInDim S8448x3072 ![] bcast_S_S8448x3072 main_cst
  let main_v3 : IVec S8448x3072 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  (main_v3, main_v6)
-- ==== Kernel.lean ====
abbrev S8448x3072 : Shape := ⟨2, ![8448, 3072]⟩
abbrev S16 : Shape := ⟨1, ![16]⟩
abbrev S8448x2048 : Shape := ⟨2, ![8448, 2048]⟩
abbrev S256x3072 : Shape := ⟨2, ![256, 3072]⟩
abbrev S256x2048 : Shape := ⟨2, ![256, 2048]⟩
abbrev S256x4x4x128 : Shape := ⟨4, ![256, 4, 4, 128]⟩
abbrev S256x512 : Shape := ⟨2, ![256, 512]⟩
abbrev S256x4x128 : Shape := ⟨3, ![256, 4, 128]⟩
abbrev S8192x3072 : Shape := ⟨2, ![8192, 3072]⟩
abbrev S8192x2048 : Shape := ⟨2, ![8192, 2048]⟩
abbrev S8192x4x4x128 : Shape := ⟨4, ![8192, 4, 4, 128]⟩
abbrev S8192x512 : Shape := ⟨2, ![8192, 512]⟩
abbrev S8192x4x128 : Shape := ⟨3, ![8192, 4, 128]⟩
abbrev S4x4 : Shape := ⟨2, ![4, 4]⟩
abbrev S64x128x4x4x128 : Shape := ⟨5, ![64, 128, 4, 4, 128]⟩
abbrev S4x256x256x4 : Shape := ⟨4, ![4, 256, 256, 4]⟩
abbrev S4x4x256x256 : Shape := ⟨4, ![4, 4, 256, 256]⟩
abbrev S_ : Shape := ⟨0, ![]⟩
abbrev S4x4x1x1 : Shape := ⟨4, ![4, 4, 1, 1]⟩
abbrev S4x4x256x1 : Shape := ⟨4, ![4, 4, 256, 1]⟩
abbrev S4x4x256x257 : Shape := ⟨4, ![4, 4, 256, 257]⟩
abbrev S4x4x256 : Shape := ⟨3, ![4, 4, 256]⟩
abbrev S64x128x4x128 : Shape := ⟨4, ![64, 128, 4, 128]⟩
abbrev S66x128x4x128 : Shape := ⟨4, ![66, 128, 4, 128]⟩
abbrev S64x384x4x128 : Shape := ⟨4, ![64, 384, 4, 128]⟩
abbrev S128 : Shape := ⟨1, ![128]⟩
abbrev S128x1 : Shape := ⟨2, ![128, 1]⟩
abbrev S384 : Shape := ⟨1, ![384]⟩
abbrev S1x384 : Shape := ⟨2, ![1, 384]⟩
abbrev S64 : Shape := ⟨1, ![64]⟩
abbrev S64x1x1 : Shape := ⟨3, ![64, 1, 1]⟩
abbrev S1x1x384 : Shape := ⟨3, ![1, 1, 384]⟩
abbrev S64x1x384 : Shape := ⟨3, ![64, 1, 384]⟩
abbrev S128x384 : Shape := ⟨2, ![128, 384]⟩
abbrev S1x128x384 : Shape := ⟨3, ![1, 128, 384]⟩
abbrev S64x128x384 : Shape := ⟨3, ![64, 128, 384]⟩
abbrev S4x256x64x128x4 : Shape := ⟨5, ![4, 256, 64, 128, 4]⟩
abbrev S64x4x4x128x256 : Shape := ⟨5, ![64, 4, 4, 128, 256]⟩
abbrev S64x4x384x128x4 : Shape := ⟨5, ![64, 4, 384, 128, 4]⟩
abbrev S64x4x4x128x384 : Shape := ⟨5, ![64, 4, 4, 128, 384]⟩
abbrev S64x1x1x128x384 : Shape := ⟨5, ![64, 1, 1, 128, 384]⟩
abbrev S1x4x4x1x1 : Shape := ⟨5, ![1, 4, 4, 1, 1]⟩
abbrev S64x4x4x128x1 : Shape := ⟨5, ![64, 4, 4, 128, 1]⟩
abbrev S64x4x4x128x641 : Shape := ⟨5, ![64, 4, 4, 128, 641]⟩
abbrev S64x4x4x128 : Shape := ⟨4, ![64, 4, 4, 128]⟩
abbrev S4x128x4x256 : Shape := ⟨4, ![4, 128, 4, 256]⟩
abbrev S4x128x64x4x128 : Shape := ⟨5, ![4, 128, 64, 4, 128]⟩
abbrev S64x4x128x4x128 : Shape := ⟨5, ![64, 4, 128, 4, 128]⟩
abbrev S256x4x4 : Shape := ⟨3, ![256, 4, 4]⟩
abbrev S64x128x4x4 : Shape := ⟨4, ![64, 128, 4, 4]⟩
abbrev S8192x4x4 : Shape := ⟨3, ![8192, 4, 4]⟩
abbrev S8448x4x4 : Shape := ⟨3, ![8448, 4, 4]⟩
abbrev S8448x4x128 : Shape := ⟨3, ![8448, 4, 128]⟩
abbrev S8448x512 : Shape := ⟨2, ![8448, 512]⟩
abbrev S4x1x4 : Shape := ⟨3, ![4, 1, 4]⟩
abbrev S4x8x128 : Shape := ⟨3, ![4, 8, 128]⟩
abbrev S66x3x128x512 : Shape := ⟨4, ![66, 3, 128, 512]⟩
abbrev S128x512 : Shape := ⟨2, ![128, 512]⟩
abbrev S128x128 : Shape := ⟨2, ![128, 128]⟩
abbrev S256x128 : Shape := ⟨2, ![256, 128]⟩
abbrev S1x8x128 : Shape := ⟨3, ![1, 8, 128]⟩
abbrev S1x3x128x128 : Shape := ⟨4, ![1, 3, 128, 128]⟩
abbrev S640x128 : Shape := ⟨2, ![640, 128]⟩
abbrev S128x256 : Shape := ⟨2, ![128, 256]⟩
abbrev S128x640 : Shape := ⟨2, ![128, 640]⟩
abbrev S1x128 : Shape := ⟨2, ![1, 128]⟩
abbrev S1x1x1 : Shape := ⟨3, ![1, 1, 1]⟩
abbrev S1x1 : Shape := ⟨2, ![1, 1]⟩
abbrev S1 : Shape := ⟨1, ![1]⟩
abbrev S1x1x128 : Shape := ⟨3, ![1, 1, 128]⟩
abbrev S1x1x128x128 : Shape := ⟨4, ![1, 1, 128, 128]⟩

abbrev nBuf : Space → Nat
  | .hbm => 162
  | .vmem => 38
  | .smem => 0
  | _ => 0

abbrev hbmTy0_0 (i : Nat) : BufTy := match i % 128 with
  | 0 => ⟨S8448x3072, .bf16⟩
  | 1 => ⟨S16, .f32⟩
  | 2 => ⟨S8448x2048, .f32⟩
  | 3 => ⟨S8448x3072, .f32⟩
  | 4 => ⟨S256x3072, .f32⟩
  | 5 => ⟨S256x2048, .f32⟩
  | 6 => ⟨S256x4x4x128, .f32⟩
  | 7 => ⟨S256x512, .f32⟩
  | 8 => ⟨S256x4x128, .f32⟩
  | 9 => ⟨S256x512, .f32⟩
  | 10 => ⟨S256x4x128, .f32⟩
  | 11 => ⟨S8192x3072, .f32⟩
  | 12 => ⟨S8192x2048, .f32⟩
  | 13 => ⟨S8192x4x4x128, .f32⟩
  | 14 => ⟨S8192x512, .f32⟩
  | 15 => ⟨S8192x4x128, .f32⟩
  | 16 => ⟨S8192x512, .f32⟩
  | 17 => ⟨S8192x4x128, .f32⟩
  | 18 => ⟨S4x4, .f32⟩
  | 19 => ⟨S64x128x4x4x128, .f32⟩
  | 20 => ⟨S4x256x256x4, .f32⟩
  | 21 => ⟨S4x4x256x256, .f32⟩
  | 22 => ⟨S_, .f32⟩
  | 23 => ⟨S4x4x256x256, .f32⟩
  | 24 => ⟨S4x4x256x256, .f32⟩
  | 25 => ⟨S4x4x1x1, .f32⟩
  | 26 => ⟨S4x4x256x1, .f32⟩
  | 27 => ⟨S4x4x256x257, .f32⟩
  | 28 => ⟨S_, .f32⟩
  | 29 => ⟨S4x4x256, .f32⟩
  | 30 => ⟨S4x4x256x1, .f32⟩
  | 31 => ⟨S4x4x256x257, .f32⟩
  | 32 => ⟨S4x4x256x257, .f32⟩
  | 33 => ⟨S4x4x256x257, .f32⟩
  | 34 => ⟨S_, .f32⟩
  | 35 => ⟨S4x4x256, .f32⟩
  | 36 => ⟨S4x4x256x1, .f32⟩
  | 37 => ⟨S4x4x256x257, .f32⟩
  | 38 => ⟨S4x4x256x257, .f32⟩
  | 39 => ⟨S4x4x256x1, .f32⟩
  | 40 => ⟨S4x4x256x1, .f32⟩
  | 41 => ⟨S4x4x256, .f32⟩
  | 42 => ⟨S64x128x4x128, .f32⟩
  | 43 => ⟨S_, .i32⟩
  | 44 => ⟨S_, .f32⟩
  | 45 => ⟨S66x128x4x128, .f32⟩
  | 46 => ⟨S64x128x4x128, .f32⟩
  | 47 => ⟨S64x128x4x128, .f32⟩
  | 48 => ⟨S64x128x4x128, .f32⟩
  | 49 => ⟨S64x384x4x128, .f32⟩
  | 50 => ⟨S128, .i32⟩
  | 51 => ⟨S128x1, .i32⟩
  | 52 => ⟨S384, .i32⟩
  | 53 => ⟨S1x384, .i32⟩
  | 54 => ⟨S64, .i32⟩
  | 55 => ⟨S64x1x1, .i32⟩
  | 56 => ⟨S_, .i32⟩
  | 57 => ⟨S64x1x1, .i32⟩
  | 58 => ⟨S64x1x1, .i32⟩
  | 59 => ⟨S_, .i32⟩
  | 60 => ⟨S64x1x1, .i32⟩
  | 61 => ⟨S64x1x1, .i32⟩
  | 62 => ⟨S1x1x384, .i32⟩
  | 63 => ⟨S64x1x384, .i32⟩
  | 64 => ⟨S64x1x384, .i32⟩
  | 65 => ⟨S64x1x384, .i32⟩
  | 66 => ⟨S_, .i32⟩
  | 67 => ⟨S1x384, .i32⟩
  | 68 => ⟨S1x384, .i32⟩
  | 69 => ⟨S128x384, .i32⟩
  | 70 => ⟨S128x384, .i32⟩
  | 71 => ⟨S128x384, .i32⟩
  | 72 => ⟨S128x384, .i32⟩
  | 73 => ⟨S_, .i32⟩
  | 74 => ⟨S128x384, .i32⟩
  | 75 => ⟨S128x384, .i1⟩
  | 76 => ⟨S1x128x384, .i1⟩
  | 77 => ⟨S_, .i32⟩
  | 78 => ⟨S64x1x384, .i32⟩
  | 79 => ⟨S64x1x384, .i1⟩
  | 80 => ⟨S64x128x384, .i1⟩
  | 81 => ⟨S64x128x384, .i1⟩
  | 82 => ⟨S64x128x384, .i1⟩
  | 83 => ⟨S_, .i32⟩
  | 84 => ⟨S64x1x384, .i32⟩
  | 85 => ⟨S64x1x384, .i1⟩
  | 86 => ⟨S64x128x384, .i1⟩
  | 87 => ⟨S64x128x384, .i1⟩
  | 88 => ⟨S4x256x64x128x4, .f32⟩
  | 89 => ⟨S64x4x4x128x256, .f32⟩
  | 90 => ⟨S_, .f32⟩
  | 91 => ⟨S64x4x4x128x256, .f32⟩
  | 92 => ⟨S64x4x4x128x256, .f32⟩
  | 93 => ⟨S64x4x384x128x4, .f32⟩
  | 94 => ⟨S64x4x4x128x384, .f32⟩
  | 95 => ⟨S_, .f32⟩
  | 96 => ⟨S64x4x4x128x384, .f32⟩
  | 97 => ⟨S64x4x4x128x384, .f32⟩
  | 98 => ⟨S64x1x1x128x384, .i1⟩
  | 99 => ⟨S_, .f32⟩
  | 100 => ⟨S_, .f32⟩
  | 101 => ⟨S64x4x4x128x384, .i1⟩
  | 102 => ⟨S64x4x4x128x384, .f32⟩
  | 103 => ⟨S64x4x4x128x384, .f32⟩
  | 104 => ⟨S1x4x4x1x1, .f32⟩
  | 105 => ⟨S64x4x4x128x1, .f32⟩
  | 106 => ⟨S64x4x4x128x641, .f32⟩
  | 107 => ⟨S_, .f32⟩
  | 108 => ⟨S64x4x4x128, .f32⟩
  | 109 => ⟨S64x4x4x128x1, .f32⟩
  | 110 => ⟨S64x4x4x128x641, .f32⟩
  | 111 => ⟨S64x4x4x128x641, .f32⟩
  | 112 => ⟨S64x4x4x128x641, .f32⟩
  | 113 => ⟨S_, .f32⟩
  | 114 => ⟨S64x4x4x128, .f32⟩
  | 115 => ⟨S64x4x4x128x1, .f32⟩
  | 116 => ⟨S64x4x4x128x641, .f32⟩
  | 117 => ⟨S64x4x4x128x641, .f32⟩
  | 118 => ⟨S64x4x4x128x1, .f32⟩
  | 119 => ⟨S64x4x4x128x1, .f32⟩
  | 120 => ⟨S64x4x4x128, .f32⟩
  | 121 => ⟨S4x4x256x256, .f32⟩
  | 122 => ⟨S4x128x4x256, .f32⟩
  | 123 => ⟨S256x4x4x128, .f32⟩
  | 124 => ⟨S256x2048, .f32⟩
  | 125 => ⟨S64x128x4x128, .f32⟩
  | 126 => ⟨S_, .i32⟩
  | 127 => ⟨S_, .f32⟩
  | _ => ⟨S8448x3072, .bf16⟩

abbrev hbmTy0_1 (i : Nat) : BufTy := match i % 128 with
  | 0 => ⟨S66x128x4x128, .f32⟩
  | 1 => ⟨S64x128x4x128, .f32⟩
  | 2 => ⟨S64x128x4x128, .f32⟩
  | 3 => ⟨S64x128x4x128, .f32⟩
  | 4 => ⟨S64x384x4x128, .f32⟩
  | 5 => ⟨S64x4x4x128x256, .f32⟩
  | 6 => ⟨S4x128x64x4x128, .f32⟩
  | 7 => ⟨S64x128x4x4x128, .f32⟩
  | 8 => ⟨S64x4x4x128x384, .f32⟩
  | 9 => ⟨S64x4x128x4x128, .f32⟩
  | 10 => ⟨S64x128x4x4x128, .f32⟩
  | 11 => ⟨S64x128x4x4x128, .f32⟩
  | 12 => ⟨S8192x2048, .f32⟩
  | 13 => ⟨S8448x2048, .f32⟩
  | 14 => ⟨S256x4x4, .f32⟩
  | 15 => ⟨S64x128x4x4, .f32⟩
  | 16 => ⟨S8192x4x4, .f32⟩
  | 17 => ⟨S8448x4x4, .f32⟩
  | 18 => ⟨S_, .i32⟩
  | 19 => ⟨S_, .f32⟩
  | 20 => ⟨S8448x4x128, .f32⟩
  | 21 => ⟨S8448x512, .f32⟩
  | 22 => ⟨S8448x2048, .bf16⟩
  | 23 => ⟨S4x4, .f32⟩
  | 24 => ⟨S4x1x4, .f32⟩
  | 25 => ⟨S_, .i32⟩
  | 26 => ⟨S_, .f32⟩
  | 27 => ⟨S4x8x128, .f32⟩
  | 28 => ⟨S8448x2048, .f32⟩
  | 29 => ⟨S256x512, .f32⟩
  | 30 => ⟨S256x512, .f32⟩
  | 31 => ⟨S66x3x128x512, .f32⟩
  | 32 => ⟨S66x3x128x512, .f32⟩
  | 33 => ⟨S4x8x128, .f32⟩
  | _ => ⟨S8448x3072, .bf16⟩

abbrev hbmTy (i : Nat) : BufTy := match i / 128 with
  | 0 => hbmTy0_0 i
  | 1 => hbmTy0_1 i
  | _ => ⟨S8448x3072, .bf16⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S128x512, .bf16⟩
  | .local _ .vmem, ⟨3, _⟩ => ⟨S128x512, .bf16⟩
  | .local _ .vmem, ⟨4, _⟩ => ⟨S128x128, .f32⟩
  | .local _ .vmem, ⟨5, _⟩ => ⟨S128x128, .f32⟩
  | .local _ .vmem, ⟨6, _⟩ => ⟨S128x512, .bf16⟩
  | .local _ .vmem, ⟨7, _⟩ => ⟨S128x512, .bf16⟩
  | .local _ .vmem, ⟨8, _⟩ => ⟨S256x128, .bf16⟩
  | .local _ .vmem, ⟨9, _⟩ => ⟨S256x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128x128, .bf16⟩
  | .local _ .vmem, ⟨15, _⟩ => ⟨S128x128, .bf16⟩
  | .local _ .vmem, ⟨16, _⟩ => ⟨S256x128, .bf16⟩
  | .local _ .vmem, ⟨17, _⟩ => ⟨S256x128, .bf16⟩
  | .local _ .vmem, ⟨18, _⟩ => ⟨S128x128, .bf16⟩
  | .local _ .vmem, ⟨19, _⟩ => ⟨S128x128, .bf16⟩
  | .local _ .vmem, ⟨20, _⟩ => ⟨S128x128, .bf16⟩
  | .local _ .vmem, ⟨21, _⟩ => ⟨S128x128, .bf16⟩
  | .local _ .vmem, ⟨22, _⟩ => ⟨S128x128, .bf16⟩
  | .local _ .vmem, ⟨23, _⟩ => ⟨S128x128, .bf16⟩
  | .local _ .vmem, ⟨24, _⟩ => ⟨S1x8x128, .f32⟩
  | .local _ .vmem, ⟨25, _⟩ => ⟨S1x8x128, .f32⟩
  | .local _ .vmem, ⟨26, _⟩ => ⟨S128x512, .f32⟩
  | .local _ .vmem, ⟨27, _⟩ => ⟨S128x512, .f32⟩
  | .local _ .vmem, ⟨28, _⟩ => ⟨S256x128, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S1x3x128x128, .f32⟩
  | .local _ .vmem, ⟨33, _⟩ => ⟨S1x3x128x128, .f32⟩
  | .local _ .vmem, ⟨34, _⟩ => ⟨S1x3x128x128, .f32⟩
  | .local _ .vmem, ⟨35, _⟩ => ⟨S1x3x128x128, .f32⟩
  | .local _ .vmem, ⟨36, _⟩ => ⟨S1x8x128, .f32⟩
  | .local _ .vmem, ⟨37, _⟩ => ⟨S1x8x128, .f32⟩
  | _, _ => ⟨S8448x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_c : Ref sig .tc := ⟨.hbm, 43, rfl⟩
abbrev main_call0_v0 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_c_2 : Ref sig .tc := ⟨.hbm, 56, rfl⟩
abbrev main_v48 : Ref sig .tc := ⟨.hbm, 57, rfl⟩
abbrev main_v49 : Ref sig .tc := ⟨.hbm, 58, rfl⟩
abbrev main_c_3 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_c_4 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_c_5 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_c_6 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_c_7 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_8 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_9 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_10 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_11 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_12 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_c_13 : Ref sig .tc := ⟨.hbm, 126, rfl⟩
abbrev main_call2_v0 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_c_14 : Ref sig .tc := ⟨.hbm, 146, rfl⟩
abbrev main_call3_v0 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_c_15 : Ref sig .tc := ⟨.hbm, 153, rfl⟩
abbrev main_call4_v0 : Ref sig .tc := ⟨.hbm, 154, rfl⟩
abbrev main_v127 : Ref sig .tc := ⟨.hbm, 155, rfl⟩
abbrev main_v128_0 : Ref sig .tc := ⟨.hbm, 156, rfl⟩
abbrev main_v128_1 : Ref sig .tc := ⟨.hbm, 157, rfl⟩
abbrev main_v128_2 : Ref sig .tc := ⟨.hbm, 158, rfl⟩
abbrev main_v128_3 : Ref sig .tc := ⟨.hbm, 159, rfl⟩
abbrev main_v128_4 : Ref sig .tc := ⟨.hbm, 160, rfl⟩
abbrev main_v128_5 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![4, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c65_i32 : BitVec 32 := 65#32
  let v1 : BitVec 32 := Scalar.minsi v0 c65_i32
  let c16_i32 : BitVec 32 := 16#32
  let v2 : BitVec 32 := Scalar.addi c16_i32 arg0
  let c0_i32 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c20_i32 : BitVec 32 := 20#32
  let v2 : BitVec 32 := Scalar.addi c20_i32 arg0
  let c0_i32_0 : BitVec 32 := 0#32
  ![v1.toNat, v2.toNat]

def cc0_transform_10 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c65_i32 : BitVec 32 := 65#32
  let v1 : BitVec 32 := Scalar.minsi v0 c65_i32
  let c20_i32 : BitVec 32 := 20#32
  let v2 : BitVec 32 := Scalar.addi c20_i32 arg0
  let c0_i32 : BitVec 32 := 0#32
  ![v1.toNat, v2.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x3x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x3x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== ReferenceIdeal.lean ====
abbrev S8448x3072 : Shape := ⟨2, ![8448, 3072]⟩
abbrev S16 : Shape := ⟨1, ![16]⟩
abbrev S8448x2048 : Shape := ⟨2, ![8448, 2048]⟩
abbrev S256x3072 : Shape := ⟨2, ![256, 3072]⟩
abbrev S256x2048 : Shape := ⟨2, ![256, 2048]⟩
abbrev S256x4x4x128 : Shape := ⟨4, ![256, 4, 4, 128]⟩
abbrev S256x512 : Shape := ⟨2, ![256, 512]⟩
abbrev S256x4x128 : Shape := ⟨3, ![256, 4, 128]⟩
abbrev S8192x3072 : Shape := ⟨2, ![8192, 3072]⟩
abbrev S8192x2048 : Shape := ⟨2, ![8192, 2048]⟩
abbrev S8192x4x4x128 : Shape := ⟨4, ![8192, 4, 4, 128]⟩
abbrev S8192x512 : Shape := ⟨2, ![8192, 512]⟩
abbrev S8192x4x128 : Shape := ⟨3, ![8192, 4, 128]⟩
abbrev S4x4 : Shape := ⟨2, ![4, 4]⟩
abbrev S64x128x4x4x128 : Shape := ⟨5, ![64, 128, 4, 4, 128]⟩
abbrev S64x128x4x128 : Shape := ⟨4, ![64, 128, 4, 128]⟩
abbrev S_ : Shape := ⟨0, ![]⟩
abbrev S66x128x4x128 : Shape := ⟨4, ![66, 128, 4, 128]⟩
abbrev S64x384x4x128 : Shape := ⟨4, ![64, 384, 4, 128]⟩
abbrev S4x256x256x4 : Shape := ⟨4, ![4, 256, 256, 4]⟩
abbrev S4x4x256x256 : Shape := ⟨4, ![4, 4, 256, 256]⟩
abbrev S4x4x1x1 : Shape := ⟨4, ![4, 4, 1, 1]⟩
abbrev S4x4x256x1 : Shape := ⟨4, ![4, 4, 256, 1]⟩
abbrev S4x4x256x257 : Shape := ⟨4, ![4, 4, 256, 257]⟩
abbrev S4x4x256 : Shape := ⟨3, ![4, 4, 256]⟩
abbrev S128 : Shape := ⟨1, ![128]⟩
abbrev S128x1 : Shape := ⟨2, ![128, 1]⟩
abbrev S384 : Shape := ⟨1, ![384]⟩
abbrev S1x384 : Shape := ⟨2, ![1, 384]⟩
abbrev S64 : Shape := ⟨1, ![64]⟩
abbrev S64x1x1 : Shape := ⟨3, ![64, 1, 1]⟩
abbrev S1x1x384 : Shape := ⟨3, ![1, 1, 384]⟩
abbrev S64x1x384 : Shape := ⟨3, ![64, 1, 384]⟩
abbrev S128x384 : Shape := ⟨2, ![128, 384]⟩
abbrev S1x128x384 : Shape := ⟨3, ![1, 128, 384]⟩
abbrev S64x128x384 : Shape := ⟨3, ![64, 128, 384]⟩
abbrev S4x256x64x128x4 : Shape := ⟨5, ![4, 256, 64, 128, 4]⟩
abbrev S64x4x4x128x256 : Shape := ⟨5, ![64, 4, 4, 128, 256]⟩
abbrev S64x4x384x128x4 : Shape := ⟨5, ![64, 4, 384, 128, 4]⟩
abbrev S64x4x4x128x384 : Shape := ⟨5, ![64, 4, 4, 128, 384]⟩
abbrev S64x1x1x128x384 : Shape := ⟨5, ![64, 1, 1, 128, 384]⟩
abbrev S1x4x4x1x1 : Shape := ⟨5, ![1, 4, 4, 1, 1]⟩
abbrev S64x4x4x128x1 : Shape := ⟨5, ![64, 4, 4, 128, 1]⟩
abbrev S64x4x4x128x641 : Shape := ⟨5, ![64, 4, 4, 128, 641]⟩
abbrev S64x4x4x128 : Shape := ⟨4, ![64, 4, 4, 128]⟩
abbrev S4x128x4x256 : Shape := ⟨4, ![4, 128, 4, 256]⟩
abbrev S4x128x64x4x128 : Shape := ⟨5, ![4, 128, 64, 4, 128]⟩
abbrev S64x4x128x4x128 : Shape := ⟨5, ![64, 4, 128, 4, 128]⟩
abbrev S64x4x128x384 : Shape := ⟨4, ![64, 4, 128, 384]⟩
abbrev S4x64x4x128x256 : Shape := ⟨5, ![4, 64, 4, 128, 256]⟩
abbrev S4x128x256 : Shape := ⟨3, ![4, 128, 256]⟩
abbrev S64x4x384x128 : Shape := ⟨4, ![64, 4, 384, 128]⟩
abbrev S4x64x128x4x128 : Shape := ⟨5, ![4, 64, 128, 4, 128]⟩
abbrev S4x256x128 : Shape := ⟨3, ![4, 256, 128]⟩
abbrev S4x256x4x128 : Shape := ⟨4, ![4, 256, 4, 128]⟩
abbrev S64x3x128x512 : Shape := ⟨4, ![64, 3, 128, 512]⟩
abbrev S66x3x128x512 : Shape := ⟨4, ![66, 3, 128, 512]⟩
abbrev S4x1x4 : Shape := ⟨3, ![4, 1, 4]⟩
abbrev S4x8x128 : Shape := ⟨3, ![4, 8, 128]⟩

abbrev nBuf : Space → Nat
  | .hbm => 304
  | .vmem => 0
  | .smem => 0
  | _ => 0

abbrev hbmTy0_0 (i : Nat) : BufTy := match i % 128 with
  | 0 => ⟨S8448x3072, .bf16⟩
  | 1 => ⟨S16, .f32⟩
  | 2 => ⟨S8448x2048, .f32⟩
  | 3 => ⟨S8448x3072, .f32⟩
  | 4 => ⟨S256x3072, .f32⟩
  | 5 => ⟨S256x2048, .f32⟩
  | 6 => ⟨S256x4x4x128, .f32⟩
  | 7 => ⟨S256x512, .f32⟩
  | 8 => ⟨S256x4x128, .f32⟩
  | 9 => ⟨S256x512, .f32⟩
  | 10 => ⟨S256x4x128, .f32⟩
  | 11 => ⟨S8192x3072, .f32⟩
  | 12 => ⟨S8192x2048, .f32⟩
  | 13 => ⟨S8192x4x4x128, .f32⟩
  | 14 => ⟨S8192x512, .f32⟩
  | 15 => ⟨S8192x4x128, .f32⟩
  | 16 => ⟨S8192x512, .f32⟩
  | 17 => ⟨S8192x4x128, .f32⟩
  | 18 => ⟨S4x4, .f32⟩
  | 19 => ⟨S64x128x4x4x128, .f32⟩
  | 20 => ⟨S256x2048, .f32⟩
  | 21 => ⟨S256x4x4x128, .f32⟩
  | 22 => ⟨S8192x2048, .f32⟩
  | 23 => ⟨S64x128x4x4x128, .f32⟩
  | 24 => ⟨S64x128x4x128, .f32⟩
  | 25 => ⟨S_, .i32⟩
  | 26 => ⟨S_, .f32⟩
  | 27 => ⟨S66x128x4x128, .f32⟩
  | 28 => ⟨S64x128x4x128, .f32⟩
  | 29 => ⟨S64x128x4x128, .f32⟩
  | 30 => ⟨S64x128x4x128, .f32⟩
  | 31 => ⟨S64x384x4x128, .f32⟩
  | 32 => ⟨S64x128x4x128, .f32⟩
  | 33 => ⟨S_, .i32⟩
  | 34 => ⟨S_, .f32⟩
  | 35 => ⟨S66x128x4x128, .f32⟩
  | 36 => ⟨S64x128x4x128, .f32⟩
  | 37 => ⟨S64x128x4x128, .f32⟩
  | 38 => ⟨S64x128x4x128, .f32⟩
  | 39 => ⟨S64x384x4x128, .f32⟩
  | 40 => ⟨S4x256x256x4, .f32⟩
  | 41 => ⟨S4x4x256x256, .f32⟩
  | 42 => ⟨S_, .f32⟩
  | 43 => ⟨S4x4x256x256, .f32⟩
  | 44 => ⟨S4x4x256x256, .f32⟩
  | 45 => ⟨S4x4x1x1, .f32⟩
  | 46 => ⟨S4x4x256x1, .f32⟩
  | 47 => ⟨S4x4x256x257, .f32⟩
  | 48 => ⟨S_, .f32⟩
  | 49 => ⟨S4x4x256, .f32⟩
  | 50 => ⟨S4x4x256x1, .f32⟩
  | 51 => ⟨S4x4x256x257, .f32⟩
  | 52 => ⟨S4x4x256x257, .i1⟩
  | 53 => ⟨S4x4x256x257, .f32⟩
  | 54 => ⟨S_, .f32⟩
  | 55 => ⟨S4x4x256, .f32⟩
  | 56 => ⟨S_, .f32⟩
  | 57 => ⟨S4x4x256, .f32⟩
  | 58 => ⟨S4x4x256, .f32⟩
  | 59 => ⟨S_, .f32⟩
  | 60 => ⟨S4x4x256, .f32⟩
  | 61 => ⟨S4x4x256, .i1⟩
  | 62 => ⟨S_, .f32⟩
  | 63 => ⟨S4x4x256, .f32⟩
  | 64 => ⟨S4x4x256, .i1⟩
  | 65 => ⟨S_, .f32⟩
  | 66 => ⟨S4x4x256, .f32⟩
  | 67 => ⟨S_, .f32⟩
  | 68 => ⟨S4x4x256, .f32⟩
  | 69 => ⟨S_, .f32⟩
  | 70 => ⟨S4x4x256, .f32⟩
  | 71 => ⟨S4x4x256, .f32⟩
  | 72 => ⟨S4x4x256, .f32⟩
  | 73 => ⟨S4x4x256x1, .f32⟩
  | 74 => ⟨S4x4x256x257, .f32⟩
  | 75 => ⟨S4x4x256x257, .f32⟩
  | 76 => ⟨S4x4x256x257, .f32⟩
  | 77 => ⟨S_, .f32⟩
  | 78 => ⟨S4x4x256, .f32⟩
  | 79 => ⟨S4x4x256x1, .f32⟩
  | 80 => ⟨S4x4x256x257, .f32⟩
  | 81 => ⟨S4x4x256x257, .f32⟩
  | 82 => ⟨S4x4x256x1, .f32⟩
  | 83 => ⟨S_, .f32⟩
  | 84 => ⟨S4x4x256x1, .f32⟩
  | 85 => ⟨S4x4x256x1, .f32⟩
  | 86 => ⟨S128, .i32⟩
  | 87 => ⟨S128x1, .i32⟩
  | 88 => ⟨S384, .i32⟩
  | 89 => ⟨S1x384, .i32⟩
  | 90 => ⟨S64, .i32⟩
  | 91 => ⟨S64x1x1, .i32⟩
  | 92 => ⟨S_, .i32⟩
  | 93 => ⟨S64x1x1, .i32⟩
  | 94 => ⟨S64x1x1, .i32⟩
  | 95 => ⟨S_, .i32⟩
  | 96 => ⟨S64x1x1, .i32⟩
  | 97 => ⟨S64x1x1, .i32⟩
  | 98 => ⟨S1x1x384, .i32⟩
  | 99 => ⟨S64x1x384, .i32⟩
  | 100 => ⟨S64x1x384, .i32⟩
  | 101 => ⟨S64x1x384, .i32⟩
  | 102 => ⟨S_, .i32⟩
  | 103 => ⟨S1x384, .i32⟩
  | 104 => ⟨S1x384, .i32⟩
  | 105 => ⟨S128x384, .i32⟩
  | 106 => ⟨S128x384, .i32⟩
  | 107 => ⟨S128x384, .i32⟩
  | 108 => ⟨S128x384, .i32⟩
  | 109 => ⟨S_, .i32⟩
  | 110 => ⟨S128x384, .i32⟩
  | 111 => ⟨S128x384, .i1⟩
  | 112 => ⟨S1x128x384, .i1⟩
  | 113 => ⟨S_, .i32⟩
  | 114 => ⟨S64x1x384, .i32⟩
  | 115 => ⟨S64x1x384, .i1⟩
  | 116 => ⟨S64x128x384, .i1⟩
  | 117 => ⟨S64x128x384, .i1⟩
  | 118 => ⟨S64x128x384, .i1⟩
  | 119 => ⟨S_, .i32⟩
  | 120 => ⟨S64x1x384, .i32⟩
  | 121 => ⟨S64x1x384, .i1⟩
  | 122 => ⟨S64x128x384, .i1⟩
  | 123 => ⟨S64x128x384, .i1⟩
  | 124 => ⟨S4x256x64x128x4, .f32⟩
  | 125 => ⟨S64x4x4x128x256, .f32⟩
  | 126 => ⟨S_, .f32⟩
  | 127 => ⟨S64x4x4x128x256, .f32⟩
  | _ => ⟨S8448x3072, .bf16⟩

abbrev hbmTy0_1 (i : Nat) : BufTy := match i % 128 with
  | 0 => ⟨S64x4x4x128x256, .f32⟩
  | 1 => ⟨S64x4x384x128x4, .f32⟩
  | 2 => ⟨S64x4x4x128x384, .f32⟩
  | 3 => ⟨S_, .f32⟩
  | 4 => ⟨S64x4x4x128x384, .f32⟩
  | 5 => ⟨S64x4x4x128x384, .f32⟩
  | 6 => ⟨S64x1x1x128x384, .i1⟩
  | 7 => ⟨S_, .f32⟩
  | 8 => ⟨S_, .f32⟩
  | 9 => ⟨S64x4x4x128x384, .i1⟩
  | 10 => ⟨S64x4x4x128x384, .f32⟩
  | 11 => ⟨S64x4x4x128x384, .f32⟩
  | 12 => ⟨S_, .f32⟩
  | 13 => ⟨S64x4x4x128x384, .f32⟩
  | 14 => ⟨S1x4x4x1x1, .f32⟩
  | 15 => ⟨S64x4x4x128x1, .f32⟩
  | 16 => ⟨S64x4x4x128x641, .f32⟩
  | 17 => ⟨S_, .f32⟩
  | 18 => ⟨S64x4x4x128, .f32⟩
  | 19 => ⟨S64x4x4x128x1, .f32⟩
  | 20 => ⟨S64x4x4x128x641, .f32⟩
  | 21 => ⟨S64x4x4x128x641, .i1⟩
  | 22 => ⟨S64x4x4x128x641, .f32⟩
  | 23 => ⟨S_, .f32⟩
  | 24 => ⟨S64x4x4x128, .f32⟩
  | 25 => ⟨S_, .f32⟩
  | 26 => ⟨S64x4x4x128, .f32⟩
  | 27 => ⟨S64x4x4x128, .f32⟩
  | 28 => ⟨S_, .f32⟩
  | 29 => ⟨S64x4x4x128, .f32⟩
  | 30 => ⟨S64x4x4x128, .i1⟩
  | 31 => ⟨S_, .f32⟩
  | 32 => ⟨S64x4x4x128, .f32⟩
  | 33 => ⟨S64x4x4x128, .i1⟩
  | 34 => ⟨S_, .f32⟩
  | 35 => ⟨S64x4x4x128, .f32⟩
  | 36 => ⟨S_, .f32⟩
  | 37 => ⟨S64x4x4x128, .f32⟩
  | 38 => ⟨S_, .f32⟩
  | 39 => ⟨S64x4x4x128, .f32⟩
  | 40 => ⟨S64x4x4x128, .f32⟩
  | 41 => ⟨S64x4x4x128, .f32⟩
  | 42 => ⟨S64x4x4x128x1, .f32⟩
  | 43 => ⟨S64x4x4x128x641, .f32⟩
  | 44 => ⟨S64x4x4x128x641, .f32⟩
  | 45 => ⟨S64x4x4x128x641, .f32⟩
  | 46 => ⟨S_, .f32⟩
  | 47 => ⟨S64x4x4x128, .f32⟩
  | 48 => ⟨S64x4x4x128x1, .f32⟩
  | 49 => ⟨S64x4x4x128x641, .f32⟩
  | 50 => ⟨S64x4x4x128x641, .f32⟩
  | 51 => ⟨S64x4x4x128x1, .f32⟩
  | 52 => ⟨S_, .f32⟩
  | 53 => ⟨S64x4x4x128x1, .f32⟩
  | 54 => ⟨S64x4x4x128x1, .f32⟩
  | 55 => ⟨S4x4x256x256, .f32⟩
  | 56 => ⟨S4x128x4x256, .f32⟩
  | 57 => ⟨S256x4x4x128, .f32⟩
  | 58 => ⟨S64x4x4x128x256, .f32⟩
  | 59 => ⟨S4x128x64x4x128, .f32⟩
  | 60 => ⟨S64x128x4x4x128, .f32⟩
  | 61 => ⟨S64x4x4x128x384, .f32⟩
  | 62 => ⟨S64x4x128x4x128, .f32⟩
  | 63 => ⟨S64x128x4x4x128, .f32⟩
  | 64 => ⟨S64x128x4x4x128, .f32⟩
  | 65 => ⟨S64x4x128x4x128, .f32⟩
  | 66 => ⟨S64x4x4x128x384, .f32⟩
  | 67 => ⟨S64x4x128x384, .f32⟩
  | 68 => ⟨S64x384x4x128, .f32⟩
  | 69 => ⟨S_, .f32⟩
  | 70 => ⟨S64x4x4x128x641, .f32⟩
  | 71 => ⟨S4x128x64x4x128, .f32⟩
  | 72 => ⟨S4x64x4x128x256, .f32⟩
  | 73 => ⟨S64x4x4x128x256, .f32⟩
  | 74 => ⟨S4x128x256, .f32⟩
  | 75 => ⟨S256x4x128, .f32⟩
  | 76 => ⟨S_, .f32⟩
  | 77 => ⟨S64x4x4x128x641, .f32⟩
  | 78 => ⟨S64x4x4x128x641, .f32⟩
  | 79 => ⟨S4x128x4x256, .f32⟩
  | 80 => ⟨S4x4x256x256, .f32⟩
  | 81 => ⟨S4x128x256, .f32⟩
  | 82 => ⟨S256x4x128, .f32⟩
  | 83 => ⟨S256x4x128, .f32⟩
  | 84 => ⟨S_, .f32⟩
  | 85 => ⟨S4x4x256x257, .f32⟩
  | 86 => ⟨S64x4x4x128x641, .f32⟩
  | 87 => ⟨S64x4x4x128x641, .f32⟩
  | 88 => ⟨S64x4x4x128x641, .f32⟩
  | 89 => ⟨S_, .f32⟩
  | 90 => ⟨S64x4x4x128, .f32⟩
  | 91 => ⟨S64x4x4x128x1, .f32⟩
  | 92 => ⟨S64x4x4x128x1, .f32⟩
  | 93 => ⟨S64x4x4x128x641, .f32⟩
  | 94 => ⟨S64x4x4x128x641, .f32⟩
  | 95 => ⟨S_, .f32⟩
  | 96 => ⟨S64x4x4x128, .f32⟩
  | 97 => ⟨S64x4x4x128x641, .f32⟩
  | 98 => ⟨S64x4x4x128x641, .f32⟩
  | 99 => ⟨S64x4x4x128x641, .f32⟩
  | 100 => ⟨S64x4x4x128x256, .f32⟩
  | 101 => ⟨S64x4x4x128x384, .f32⟩
  | 102 => ⟨S64x4x4x128x1, .f32⟩
  | 103 => ⟨S_, .f32⟩
  | 104 => ⟨S4x4, .f32⟩
  | 105 => ⟨S1x4x4x1x1, .f32⟩
  | 106 => ⟨S_, .f32⟩
  | 107 => ⟨S4x4, .f32⟩
  | 108 => ⟨S_, .f32⟩
  | 109 => ⟨S64x4x4x128x384, .f32⟩
  | 110 => ⟨S64x4x4x128x384, .f32⟩
  | 111 => ⟨S_, .f32⟩
  | 112 => ⟨S64x4x4x128x384, .f32⟩
  | 113 => ⟨S64x4x4x128x384, .f32⟩
  | 114 => ⟨S64x4x384x128x4, .f32⟩
  | 115 => ⟨S64x4x128x4x128, .f32⟩
  | 116 => ⟨S64x128x4x4x128, .f32⟩
  | 117 => ⟨S64x4x384x128, .f32⟩
  | 118 => ⟨S64x384x4x128, .f32⟩
  | 119 => ⟨S_, .f32⟩
  | 120 => ⟨S64x4x4x128x256, .f32⟩
  | 121 => ⟨S64x4x4x128x256, .f32⟩
  | 122 => ⟨S4x256x64x128x4, .f32⟩
  | 123 => ⟨S4x64x128x4x128, .f32⟩
  | 124 => ⟨S64x128x4x4x128, .f32⟩
  | 125 => ⟨S64x128x4x4x128, .f32⟩
  | 126 => ⟨S4x256x128, .f32⟩
  | 127 => ⟨S256x4x128, .f32⟩
  | _ => ⟨S8448x3072, .bf16⟩

abbrev hbmTy0_2 (i : Nat) : BufTy := match i % 128 with
  | 0 => ⟨S4x4x256x257, .f32⟩
  | 1 => ⟨S4x4x256x257, .f32⟩
  | 2 => ⟨S4x4x256x257, .f32⟩
  | 3 => ⟨S_, .f32⟩
  | 4 => ⟨S4x4x256, .f32⟩
  | 5 => ⟨S4x4x256x1, .f32⟩
  | 6 => ⟨S4x4x256x1, .f32⟩
  | 7 => ⟨S4x4x256x257, .f32⟩
  | 8 => ⟨S4x4x256x257, .f32⟩
  | 9 => ⟨S_, .f32⟩
  | 10 => ⟨S4x4x256, .f32⟩
  | 11 => ⟨S4x4x256x257, .f32⟩
  | 12 => ⟨S4x4x256x257, .f32⟩
  | 13 => ⟨S4x4x256x257, .f32⟩
  | 14 => ⟨S4x4x256x256, .f32⟩
  | 15 => ⟨S4x4x256x1, .f32⟩
  | 16 => ⟨S_, .f32⟩
  | 17 => ⟨S4x4, .f32⟩
  | 18 => ⟨S4x4x1x1, .f32⟩
  | 19 => ⟨S_, .f32⟩
  | 20 => ⟨S4x4, .f32⟩
  | 21 => ⟨S4x4, .f32⟩
  | 22 => ⟨S_, .f32⟩
  | 23 => ⟨S4x4x256x256, .f32⟩
  | 24 => ⟨S4x4x256x256, .f32⟩
  | 25 => ⟨S4x256x256x4, .f32⟩
  | 26 => ⟨S4x256x4x128, .f32⟩
  | 27 => ⟨S256x4x4x128, .f32⟩
  | 28 => ⟨S4x256x128, .f32⟩
  | 29 => ⟨S256x4x128, .f32⟩
  | 30 => ⟨S256x4x128, .f32⟩
  | 31 => ⟨S256x2048, .f32⟩
  | 32 => ⟨S8192x2048, .f32⟩
  | 33 => ⟨S8448x2048, .f32⟩
  | 34 => ⟨S256x512, .f32⟩
  | 35 => ⟨S256x512, .f32⟩
  | 36 => ⟨S64x3x128x512, .f32⟩
  | 37 => ⟨S_, .i32⟩
  | 38 => ⟨S_, .f32⟩
  | 39 => ⟨S66x3x128x512, .f32⟩
  | 40 => ⟨S64x3x128x512, .f32⟩
  | 41 => ⟨S_, .i32⟩
  | 42 => ⟨S_, .f32⟩
  | 43 => ⟨S66x3x128x512, .f32⟩
  | 44 => ⟨S4x1x4, .f32⟩
  | 45 => ⟨S_, .i32⟩
  | 46 => ⟨S_, .f32⟩
  | 47 => ⟨S4x8x128, .f32⟩
  | _ => ⟨S8448x3072, .bf16⟩

abbrev hbmTy (i : Nat) : BufTy := match i / 128 with
  | 0 => hbmTy0_0 i
  | 1 => hbmTy0_1 i
  | 2 => hbmTy0_2 i
  | _ => ⟨S8448x3072, .bf16⟩

abbrev bufTy : (tb : Table) → Fin (tcTables nBuf tb) → BufTy
  | .hbm, ⟨i, _⟩ => hbmTy i
  | _, _ => ⟨S8448x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_call0_v0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c_0 : Ref sig .tc := ⟨.hbm, 33, rfl⟩
abbrev main_call1_v0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_1 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_2 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c_11 : Ref sig .tc := ⟨.hbm, 92, rfl⟩
abbrev main_v74 : Ref sig .tc := ⟨.hbm, 93, rfl⟩
abbrev main_v75 : Ref sig .tc := ⟨.hbm, 94, rfl⟩
abbrev main_c_12 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_c_13 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_c_14 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_c_15 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_c_16 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_17 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_18 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_19 : Ref sig .tc := ⟨.hbm, 135, rfl⟩
abbrev main_call2_v0 : Ref sig .tc := ⟨.hbm, 136, rfl⟩
abbrev main_v109_1 : Ref sig .tc := ⟨.hbm, 137, rfl⟩
abbrev main_call2_v2 : Ref sig .tc := ⟨.hbm, 138, rfl⟩
abbrev main_v109_0 : Ref sig .tc := ⟨.hbm, 139, rfl⟩
abbrev main_call2_cst : Ref sig .tc := ⟨.hbm, 140, rfl⟩
abbrev main_v109_2 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_20 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_21 : Ref sig .tc := ⟨.hbm, 151, rfl⟩
abbrev main_v118 : Ref sig .tc := ⟨.hbm, 152, rfl⟩
abbrev main_cst_22 : Ref sig .tc := ⟨.hbm, 153, rfl⟩
abbrev main_v119 : Ref sig .tc := ⟨.hbm, 154, rfl⟩
abbrev main_v120 : Ref sig .tc := ⟨.hbm, 155, rfl⟩
abbrev main_cst_23 : Ref sig .tc := ⟨.hbm, 156, rfl⟩
abbrev main_v121 : Ref sig .tc := ⟨.hbm, 157, rfl⟩
abbrev main_v122 : Ref sig .tc := ⟨.hbm, 158, rfl⟩
abbrev main_cst_24 : Ref sig .tc := ⟨.hbm, 159, rfl⟩
abbrev main_v123 : Ref sig .tc := ⟨.hbm, 160, rfl⟩
abbrev main_v124 : Ref sig .tc := ⟨.hbm, 161, rfl⟩
abbrev main_cst_25 : Ref sig .tc := ⟨.hbm, 162, rfl⟩
abbrev main_v125 : Ref sig .tc := ⟨.hbm, 163, rfl⟩
abbrev main_cst_26 : Ref sig .tc := ⟨.hbm, 164, rfl⟩
abbrev main_v126 : Ref sig .tc := ⟨.hbm, 165, rfl⟩
abbrev main_cst_27 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_28 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_29 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_cst_30 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_31 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_cst_32 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_cst_33 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_cst_34 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_cst_35 : Ref sig .tc := ⟨.hbm, 231, rfl⟩
abbrev main_v184 : Ref sig .tc := ⟨.hbm, 232, rfl⟩
abbrev main_v185 : Ref sig .tc := ⟨.hbm, 233, rfl⟩
abbrev main_cst_36 : Ref sig .tc := ⟨.hbm, 234, rfl⟩
abbrev main_v186 : Ref sig .tc := ⟨.hbm, 235, rfl⟩
abbrev main_call3_cst : Ref sig .tc := ⟨.hbm, 236, rfl⟩
abbrev main_call3_v0 : Ref sig .tc := ⟨.hbm, 237, rfl⟩
abbrev main_v187 : Ref sig .tc := ⟨.hbm, 238, rfl⟩
abbrev main_cst_37 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_cst_38 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_cst_39 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_cst_40 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_cst_41 : Ref sig .tc := ⟨.hbm, 272, rfl⟩
abbrev main_v217 : Ref sig .tc := ⟨.hbm, 273, rfl⟩
abbrev main_v218 : Ref sig .tc := ⟨.hbm, 274, rfl⟩
abbrev main_cst_42 : Ref sig .tc := ⟨.hbm, 275, rfl⟩
abbrev main_v219 : Ref sig .tc := ⟨.hbm, 276, rfl⟩
abbrev main_v220 : Ref sig .tc := ⟨.hbm, 277, rfl⟩
abbrev main_cst_43 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_c_44 : Ref sig .tc := ⟨.hbm, 293, rfl⟩
abbrev main_call4_v0 : Ref sig .tc := ⟨.hbm, 294, rfl⟩
abbrev main_v235 : Ref sig .tc := ⟨.hbm, 295, rfl⟩
abbrev main_v236 : Ref sig .tc := ⟨.hbm, 296, rfl⟩
abbrev main_c_45 : Ref sig .tc := ⟨.hbm, 297, rfl⟩
abbrev main_call5_v0 : Ref sig .tc := ⟨.hbm, 298, rfl⟩
abbrev main_v237 : Ref sig .tc := ⟨.hbm, 299, rfl⟩
abbrev main_v238 : Ref sig .tc := ⟨.hbm, 300, rfl⟩
abbrev main_c_46 : Ref sig .tc := ⟨.hbm, 301, rfl⟩
abbrev main_call6_v0 : Ref sig .tc := ⟨.hbm, 302, rfl⟩
abbrev main_v239 : Ref sig .tc := ⟨.hbm, 303, rfl⟩

abbrev nD : Nat := 1
abbrev τ : Topo := Topo.v7x

variable {F : FTy → Type} [FloatOps F]
-- ==== Kernel2.lean ====
abbrev S8448x3072 : Shape := ⟨2, ![8448, 3072]⟩
abbrev S16 : Shape := ⟨1, ![16]⟩
abbrev S4x4 : Shape := ⟨2, ![4, 4]⟩
abbrev S4x1x4 : Shape := ⟨3, ![4, 1, 4]⟩
abbrev S_ : Shape := ⟨0, ![]⟩
abbrev S4x8x128 : Shape := ⟨3, ![4, 8, 128]⟩
abbrev S8448x2048 : Shape := ⟨2, ![8448, 2048]⟩
abbrev S8448x512 : Shape := ⟨2, ![8448, 512]⟩
abbrev S128x512 : Shape := ⟨2, ![128, 512]⟩
abbrev S256x128 : Shape := ⟨2, ![256, 128]⟩
abbrev S128x128 : Shape := ⟨2, ![128, 128]⟩
abbrev S1x8x128 : Shape := ⟨3, ![1, 8, 128]⟩
abbrev S640x128 : Shape := ⟨2, ![640, 128]⟩
abbrev S128x256 : Shape := ⟨2, ![128, 256]⟩
abbrev S128x640 : Shape := ⟨2, ![128, 640]⟩
abbrev S512x640 : Shape := ⟨2, ![512, 640]⟩
abbrev S512x128 : Shape := ⟨2, ![512, 128]⟩
abbrev S1x1x1 : Shape := ⟨3, ![1, 1, 1]⟩
abbrev S1x1 : Shape := ⟨2, ![1, 1]⟩
abbrev S128x1 : Shape := ⟨2, ![128, 1]⟩
abbrev S512x1 : Shape := ⟨2, ![512, 1]⟩
abbrev S512 : Shape := ⟨1, ![512]⟩

abbrev nBuf : Space → Nat
  | .hbm => 9
  | .vmem => 24
  | .smem => 0
  | _ => 0

abbrev bufTy : (tb : Table) → Fin (tcTables nBuf tb) → BufTy
  | .hbm, ⟨0, _⟩ => ⟨S8448x3072, .bf16⟩
  | .hbm, ⟨1, _⟩ => ⟨S16, .f32⟩
  | .hbm, ⟨2, _⟩ => ⟨S4x4, .f32⟩
  | .hbm, ⟨3, _⟩ => ⟨S4x1x4, .f32⟩
  | .hbm, ⟨4, _⟩ => ⟨S_, .i32⟩
  | .hbm, ⟨5, _⟩ => ⟨S_, .f32⟩
  | .hbm, ⟨6, _⟩ => ⟨S4x8x128, .f32⟩
  | .hbm, ⟨7, _⟩ => ⟨S8448x2048, .bf16⟩
  | .hbm, ⟨8, _⟩ => ⟨S8448x512, .f32⟩
  | .local _ .vmem, ⟨0, _⟩ => ⟨S128x512, .bf16⟩
  | .local _ .vmem, ⟨1, _⟩ => ⟨S128x512, .bf16⟩
  | .local _ .vmem, ⟨2, _⟩ => ⟨S256x128, .bf16⟩
  | .local _ .vmem, ⟨3, _⟩ => ⟨S256x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S256x128, .bf16⟩
  | .local _ .vmem, ⟨11, _⟩ => ⟨S256x128, .bf16⟩
  | .local _ .vmem, ⟨12, _⟩ => ⟨S128x128, .bf16⟩
  | .local _ .vmem, ⟨13, _⟩ => ⟨S128x128, .bf16⟩
  | .local _ .vmem, ⟨14, _⟩ => ⟨S128x128, .bf16⟩
  | .local _ .vmem, ⟨15, _⟩ => ⟨S128x128, .bf16⟩
  | .local _ .vmem, ⟨16, _⟩ => ⟨S128x128, .bf16⟩
  | .local _ .vmem, ⟨17, _⟩ => ⟨S128x128, .bf16⟩
  | .local _ .vmem, ⟨18, _⟩ => ⟨S1x8x128, .f32⟩
  | .local _ .vmem, ⟨19, _⟩ => ⟨S1x8x128, .f32⟩
  | .local _ .vmem, ⟨20, _⟩ => ⟨S128x512, .bf16⟩
  | .local _ .vmem, ⟨21, _⟩ => ⟨S128x512, .bf16⟩
  | .local _ .vmem, ⟨22, _⟩ => ⟨S128x128, .f32⟩
  | .local _ .vmem, ⟨23, _⟩ => ⟨S128x128, .f32⟩
  | _, _ => ⟨S8448x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c65_i32 : BitVec 32 := 65#32
  let v1 : BitVec 32 := Scalar.minsi v0 c65_i32
  let c16_i32 : BitVec 32 := 16#32
  let v2 : BitVec 32 := Scalar.addi c16_i32 arg0
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c20_i32 : BitVec 32 := 20#32
  let v2 : BitVec 32 := Scalar.addi c20_i32 arg0
  let c0_i32_0 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c65_i32 : BitVec 32 := 65#32
  let v1 : BitVec 32 := Scalar.minsi v0 c65_i32
  let c20_i32 : BitVec 32 := 20#32
  let v2 : BitVec 32 := Scalar.addi c20_i32 arg0
  let c0_i32 : BitVec 32 := 0#32
  ![v1.toNat, v2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8448x3072 : Shape := ⟨2, ![8448, 3072]⟩
abbrev S16 : Shape := ⟨1, ![16]⟩
abbrev S256x3072 : Shape := ⟨2, ![256, 3072]⟩
abbrev S256x2048 : Shape := ⟨2, ![256, 2048]⟩
abbrev S256x4x4x128 : Shape := ⟨4, ![256, 4, 4, 128]⟩
abbrev S256x512 : Shape := ⟨2, ![256, 512]⟩
abbrev S256x4x128 : Shape := ⟨3, ![256, 4, 128]⟩
abbrev S8192x3072 : Shape := ⟨2, ![8192, 3072]⟩
abbrev S8192x2048 : Shape := ⟨2, ![8192, 2048]⟩
abbrev S8192x4x4x128 : Shape := ⟨4, ![8192, 4, 4, 128]⟩
abbrev S8192x512 : Shape := ⟨2, ![8192, 512]⟩
abbrev S8192x4x128 : Shape := ⟨3, ![8192, 4, 128]⟩
abbrev S4x4 : Shape := ⟨2, ![4, 4]⟩
abbrev S64x128x4x4x128 : Shape := ⟨5, ![64, 128, 4, 4, 128]⟩
abbrev S4x256x256x4 : Shape := ⟨4, ![4, 256, 256, 4]⟩
abbrev S4x4x256x256 : Shape := ⟨4, ![4, 4, 256, 256]⟩
abbrev S_ : Shape := ⟨0, ![]⟩
abbrev S4x4x1x1 : Shape := ⟨4, ![4, 4, 1, 1]⟩
abbrev S4x4x256x1 : Shape := ⟨4, ![4, 4, 256, 1]⟩
abbrev S4x4x256x257 : Shape := ⟨4, ![4, 4, 256, 257]⟩
abbrev S4x4x256 : Shape := ⟨3, ![4, 4, 256]⟩
abbrev S64x128x4x128 : Shape := ⟨4, ![64, 128, 4, 128]⟩
abbrev S66x128x4x128 : Shape := ⟨4, ![66, 128, 4, 128]⟩
abbrev S64x384x4x128 : Shape := ⟨4, ![64, 384, 4, 128]⟩
abbrev S128 : Shape := ⟨1, ![128]⟩
abbrev S128x1 : Shape := ⟨2, ![128, 1]⟩
abbrev S384 : Shape := ⟨1, ![384]⟩
abbrev S1x384 : Shape := ⟨2, ![1, 384]⟩
abbrev S64 : Shape := ⟨1, ![64]⟩
abbrev S64x1x1 : Shape := ⟨3, ![64, 1, 1]⟩
abbrev S1x1x384 : Shape := ⟨3, ![1, 1, 384]⟩
abbrev S64x1x384 : Shape := ⟨3, ![64, 1, 384]⟩
abbrev S128x384 : Shape := ⟨2, ![128, 384]⟩
abbrev S1x128x384 : Shape := ⟨3, ![1, 128, 384]⟩
abbrev S64x128x384 : Shape := ⟨3, ![64, 128, 384]⟩
abbrev S4x256x64x128x4 : Shape := ⟨5, ![4, 256, 64, 128, 4]⟩
abbrev S64x4x4x128x256 : Shape := ⟨5, ![64, 4, 4, 128, 256]⟩
abbrev S64x4x384x128x4 : Shape := ⟨5, ![64, 4, 384, 128, 4]⟩
abbrev S64x4x4x128x384 : Shape := ⟨5, ![64, 4, 4, 128, 384]⟩
abbrev S64x1x1x128x384 : Shape := ⟨5, ![64, 1, 1, 128, 384]⟩
abbrev S1x4x4x1x1 : Shape := ⟨5, ![1, 4, 4, 1, 1]⟩
abbrev S64x4x4x128x1 : Shape := ⟨5, ![64, 4, 4, 128, 1]⟩
abbrev S64x4x4x128x641 : Shape := ⟨5, ![64, 4, 4, 128, 641]⟩
abbrev S64x4x4x128 : Shape := ⟨4, ![64, 4, 4, 128]⟩
abbrev S4x128x4x256 : Shape := ⟨4, ![4, 128, 4, 256]⟩
abbrev S4x128x64x4x128 : Shape := ⟨5, ![4, 128, 64, 4, 128]⟩
abbrev S64x4x128x4x128 : Shape := ⟨5, ![64, 4, 128, 4, 128]⟩
abbrev S8448x2048 : Shape := ⟨2, ![8448, 2048]⟩
abbrev S256x4x4 : Shape := ⟨3, ![256, 4, 4]⟩
abbrev S64x128x4x4 : Shape := ⟨4, ![64, 128, 4, 4]⟩
abbrev S8192x4x4 : Shape := ⟨3, ![8192, 4, 4]⟩
abbrev S8448x4x4 : Shape := ⟨3, ![8448, 4, 4]⟩
abbrev S8448x4x128 : Shape := ⟨3, ![8448, 4, 128]⟩
abbrev S8448x512 : Shape := ⟨2, ![8448, 512]⟩

abbrev nBuf : Space → Nat
  | .hbm => 150
  | .vmem => 0
  | .smem => 0
  | _ => 0

abbrev hbmTy0_0 (i : Nat) : BufTy := match i % 128 with
  | 0 => ⟨S8448x3072, .bf16⟩
  | 1 => ⟨S16, .f32⟩
  | 2 => ⟨S8448x3072, .f32⟩
  | 3 => ⟨S256x3072, .f32⟩
  | 4 => ⟨S256x2048, .f32⟩
  | 5 => ⟨S256x4x4x128, .f32⟩
  | 6 => ⟨S256x512, .f32⟩
  | 7 => ⟨S256x4x128, .f32⟩
  | 8 => ⟨S256x512, .f32⟩
  | 9 => ⟨S256x4x128, .f32⟩
  | 10 => ⟨S8192x3072, .f32⟩
  | 11 => ⟨S8192x2048, .f32⟩
  | 12 => ⟨S8192x4x4x128, .f32⟩
  | 13 => ⟨S8192x512, .f32⟩
  | 14 => ⟨S8192x4x128, .f32⟩
  | 15 => ⟨S8192x512, .f32⟩
  | 16 => ⟨S8192x4x128, .f32⟩
  | 17 => ⟨S4x4, .f32⟩
  | 18 => ⟨S64x128x4x4x128, .f32⟩
  | 19 => ⟨S4x256x256x4, .f32⟩
  | 20 => ⟨S4x4x256x256, .f32⟩
  | 21 => ⟨S_, .f32⟩
  | 22 => ⟨S4x4x256x256, .f32⟩
  | 23 => ⟨S4x4x256x256, .f32⟩
  | 24 => ⟨S4x4x1x1, .f32⟩
  | 25 => ⟨S4x4x256x1, .f32⟩
  | 26 => ⟨S4x4x256x257, .f32⟩
  | 27 => ⟨S_, .f32⟩
  | 28 => ⟨S4x4x256, .f32⟩
  | 29 => ⟨S4x4x256x1, .f32⟩
  | 30 => ⟨S4x4x256x257, .f32⟩
  | 31 => ⟨S4x4x256x257, .f32⟩
  | 32 => ⟨S4x4x256x257, .f32⟩
  | 33 => ⟨S_, .f32⟩
  | 34 => ⟨S4x4x256, .f32⟩
  | 35 => ⟨S4x4x256x1, .f32⟩
  | 36 => ⟨S4x4x256x257, .f32⟩
  | 37 => ⟨S4x4x256x257, .f32⟩
  | 38 => ⟨S4x4x256x1, .f32⟩
  | 39 => ⟨S4x4x256x1, .f32⟩
  | 40 => ⟨S4x4x256, .f32⟩
  | 41 => ⟨S64x128x4x128, .f32⟩
  | 42 => ⟨S_, .i32⟩
  | 43 => ⟨S_, .f32⟩
  | 44 => ⟨S66x128x4x128, .f32⟩
  | 45 => ⟨S64x128x4x128, .f32⟩
  | 46 => ⟨S64x128x4x128, .f32⟩
  | 47 => ⟨S64x128x4x128, .f32⟩
  | 48 => ⟨S64x384x4x128, .f32⟩
  | 49 => ⟨S128, .i32⟩
  | 50 => ⟨S128x1, .i32⟩
  | 51 => ⟨S384, .i32⟩
  | 52 => ⟨S1x384, .i32⟩
  | 53 => ⟨S64, .i32⟩
  | 54 => ⟨S64x1x1, .i32⟩
  | 55 => ⟨S_, .i32⟩
  | 56 => ⟨S64x1x1, .i32⟩
  | 57 => ⟨S64x1x1, .i32⟩
  | 58 => ⟨S_, .i32⟩
  | 59 => ⟨S64x1x1, .i32⟩
  | 60 => ⟨S64x1x1, .i32⟩
  | 61 => ⟨S1x1x384, .i32⟩
  | 62 => ⟨S64x1x384, .i32⟩
  | 63 => ⟨S64x1x384, .i32⟩
  | 64 => ⟨S64x1x384, .i32⟩
  | 65 => ⟨S_, .i32⟩
  | 66 => ⟨S1x384, .i32⟩
  | 67 => ⟨S1x384, .i32⟩
  | 68 => ⟨S128x384, .i32⟩
  | 69 => ⟨S128x384, .i32⟩
  | 70 => ⟨S128x384, .i32⟩
  | 71 => ⟨S128x384, .i32⟩
  | 72 => ⟨S_, .i32⟩
  | 73 => ⟨S128x384, .i32⟩
  | 74 => ⟨S128x384, .i1⟩
  | 75 => ⟨S1x128x384, .i1⟩
  | 76 => ⟨S_, .i32⟩
  | 77 => ⟨S64x1x384, .i32⟩
  | 78 => ⟨S64x1x384, .i1⟩
  | 79 => ⟨S64x128x384, .i1⟩
  | 80 => ⟨S64x128x384, .i1⟩
  | 81 => ⟨S64x128x384, .i1⟩
  | 82 => ⟨S_, .i32⟩
  | 83 => ⟨S64x1x384, .i32⟩
  | 84 => ⟨S64x1x384, .i1⟩
  | 85 => ⟨S64x128x384, .i1⟩
  | 86 => ⟨S64x128x384, .i1⟩
  | 87 => ⟨S4x256x64x128x4, .f32⟩
  | 88 => ⟨S64x4x4x128x256, .f32⟩
  | 89 => ⟨S_, .f32⟩
  | 90 => ⟨S64x4x4x128x256, .f32⟩
  | 91 => ⟨S64x4x4x128x256, .f32⟩
  | 92 => ⟨S64x4x384x128x4, .f32⟩
  | 93 => ⟨S64x4x4x128x384, .f32⟩
  | 94 => ⟨S_, .f32⟩
  | 95 => ⟨S64x4x4x128x384, .f32⟩
  | 96 => ⟨S64x4x4x128x384, .f32⟩
  | 97 => ⟨S64x1x1x128x384, .i1⟩
  | 98 => ⟨S_, .f32⟩
  | 99 => ⟨S_, .f32⟩
  | 100 => ⟨S64x4x4x128x384, .i1⟩
  | 101 => ⟨S64x4x4x128x384, .f32⟩
  | 102 => ⟨S64x4x4x128x384, .f32⟩
  | 103 => ⟨S1x4x4x1x1, .f32⟩
  | 104 => ⟨S64x4x4x128x1, .f32⟩
  | 105 => ⟨S64x4x4x128x641, .f32⟩
  | 106 => ⟨S_, .f32⟩
  | 107 => ⟨S64x4x4x128, .f32⟩
  | 108 => ⟨S64x4x4x128x1, .f32⟩
  | 109 => ⟨S64x4x4x128x641, .f32⟩
  | 110 => ⟨S64x4x4x128x641, .f32⟩
  | 111 => ⟨S64x4x4x128x641, .f32⟩
  | 112 => ⟨S_, .f32⟩
  | 113 => ⟨S64x4x4x128, .f32⟩
  | 114 => ⟨S64x4x4x128x1, .f32⟩
  | 115 => ⟨S64x4x4x128x641, .f32⟩
  | 116 => ⟨S64x4x4x128x641, .f32⟩
  | 117 => ⟨S64x4x4x128x1, .f32⟩
  | 118 => ⟨S64x4x4x128x1, .f32⟩
  | 119 => ⟨S64x4x4x128, .f32⟩
  | 120 => ⟨S4x4x256x256, .f32⟩
  | 121 => ⟨S4x128x4x256, .f32⟩
  | 122 => ⟨S256x4x4x128, .f32⟩
  | 123 => ⟨S256x2048, .f32⟩
  | 124 => ⟨S64x128x4x128, .f32⟩
  | 125 => ⟨S_, .i32⟩
  | 126 => ⟨S_, .f32⟩
  | 127 => ⟨S66x128x4x128, .f32⟩
  | _ => ⟨S8448x3072, .bf16⟩

abbrev hbmTy0_1 (i : Nat) : BufTy := match i % 128 with
  | 0 => ⟨S64x128x4x128, .f32⟩
  | 1 => ⟨S64x128x4x128, .f32⟩
  | 2 => ⟨S64x128x4x128, .f32⟩
  | 3 => ⟨S64x384x4x128, .f32⟩
  | 4 => ⟨S64x4x4x128x256, .f32⟩
  | 5 => ⟨S4x128x64x4x128, .f32⟩
  | 6 => ⟨S64x128x4x4x128, .f32⟩
  | 7 => ⟨S64x4x4x128x384, .f32⟩
  | 8 => ⟨S64x4x128x4x128, .f32⟩
  | 9 => ⟨S64x128x4x4x128, .f32⟩
  | 10 => ⟨S64x128x4x4x128, .f32⟩
  | 11 => ⟨S8192x2048, .f32⟩
  | 12 => ⟨S8448x2048, .f32⟩
  | 13 => ⟨S256x4x4, .f32⟩
  | 14 => ⟨S64x128x4x4, .f32⟩
  | 15 => ⟨S8192x4x4, .f32⟩
  | 16 => ⟨S8448x4x4, .f32⟩
  | 17 => ⟨S_, .i32⟩
  | 18 => ⟨S_, .f32⟩
  | 19 => ⟨S8448x4x128, .f32⟩
  | 20 => ⟨S8448x512, .f32⟩
  | 21 => ⟨S8448x2048, .bf16⟩
  | _ => ⟨S8448x3072, .bf16⟩

abbrev hbmTy (i : Nat) : BufTy := match i / 128 with
  | 0 => hbmTy0_0 i
  | 1 => hbmTy0_1 i
  | _ => ⟨S8448x3072, .bf16⟩

abbrev bufTy : (tb : Table) → Fin (tcTables nBuf tb) → BufTy
  | .hbm, ⟨i, _⟩ => hbmTy i
  | _, _ => ⟨S8448x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_1 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_c : Ref sig .tc := ⟨.hbm, 42, rfl⟩
abbrev main_call0_v0 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_c_2 : Ref sig .tc := ⟨.hbm, 55, rfl⟩
abbrev main_v48 : Ref sig .tc := ⟨.hbm, 56, rfl⟩
abbrev main_v49 : Ref sig .tc := ⟨.hbm, 57, rfl⟩
abbrev main_c_3 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_c_4 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_c_5 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_c_6 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_c_7 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_8 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_9 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_10 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_11 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_12 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_c_13 : Ref sig .tc := ⟨.hbm, 125, rfl⟩
abbrev main_call2_v0 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_c_14 : Ref sig .tc := ⟨.hbm, 145, rfl⟩
abbrev main_call3_v0 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩

abbrev nD : Nat := 1
abbrev τ : Topo := Topo.v7x

variable {F : FTy → Type} [FloatOps F]
-- ==== Kernel3.lean ====
abbrev S2x8448x5632 : Shape := ⟨3, ![2, 8448, 5632]⟩
abbrev S4x2048x2816 : Shape := ⟨3, ![4, 2048, 2816]⟩
abbrev S8448x2048 : Shape := ⟨2, ![8448, 2048]⟩
abbrev S1x1408x1408 : Shape := ⟨3, ![1, 1408, 1408]⟩
abbrev S1x1024x1408 : Shape := ⟨3, ![1, 1024, 1408]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8448x5632, .bf16⟩
  | .hbm, ⟨1, _⟩ => ⟨S4x2048x2816, .bf16⟩
  | .hbm, ⟨2, _⟩ => ⟨S8448x2048, .f32⟩
  | .local _ .vmem, ⟨0, _⟩ => ⟨S1x1408x1408, .bf16⟩
  | .local _ .vmem, ⟨1, _⟩ => ⟨S1x1408x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S2x8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg2 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg1.toNat, v27.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg2 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x8448x5632 : Shape := ⟨3, ![2, 8448, 5632]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S8448x2x5632 : Shape := ⟨3, ![8448, 2, 5632]⟩
abbrev S8448x11264 : Shape := ⟨2, ![8448, 11264]⟩
abbrev S_ : Shape := ⟨0, ![]⟩
abbrev S8448x2048 : Shape := ⟨2, ![8448, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x8448x5632, .bf16⟩
  | .hbm, ⟨1, _⟩ => ⟨S4x2048x2816, .bf16⟩
  | .hbm, ⟨2, _⟩ => ⟨S4x2048x2816, .f32⟩
  | .hbm, ⟨3, _⟩ => ⟨S2048x4x2816, .f32⟩
  | .hbm, ⟨4, _⟩ => ⟨S2048x11264, .f32⟩
  | .hbm, ⟨5, _⟩ => ⟨S2x8448x5632, .f32⟩
  | .hbm, ⟨6, _⟩ => ⟨S8448x2x5632, .f32⟩
  | .hbm, ⟨7, _⟩ => ⟨S8448x11264, .f32⟩
  | .hbm, ⟨8, _⟩ => ⟨S_, .f32⟩
  | .hbm, ⟨9, _⟩ => ⟨S8448x2048, .f32⟩
  | .hbm, ⟨10, _⟩ => ⟨S8448x11264, .f32⟩
  | .hbm, ⟨11, _⟩ => ⟨S8448x2048, .f32⟩
  | _, _ => ⟨S2x8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8448x2048 : Shape := ⟨2, ![8448, 2048]⟩
abbrev S2x8448x5632 : Shape := ⟨3, ![2, 8448, 5632]⟩
abbrev S4x8192x2816 : Shape := ⟨3, ![4, 8192, 2816]⟩
abbrev S1408x512 : Shape := ⟨2, ![1408, 512]⟩
abbrev S1x1408x1408 : Shape := ⟨3, ![1, 1408, 1408]⟩
abbrev S1x512x1408 : Shape := ⟨3, ![1, 512, 1408]⟩
abbrev S512x1408 : Shape := ⟨2, ![512, 1408]⟩
abbrev S1408x1408 : Shape := ⟨2, ![1408, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2x8448x5632, .bf16⟩
  | .hbm, ⟨2, _⟩ => ⟨S4x8192x2816, .bf16⟩
  | .hbm, ⟨3, _⟩ => ⟨S4x8192x2816, .bf16⟩
  | .local _ .vmem, ⟨0, _⟩ => ⟨S1408x512, .bf16⟩
  | .local _ .vmem, ⟨1, _⟩ => ⟨S1408x512, .bf16⟩
  | .local _ .vmem, ⟨2, _⟩ => ⟨S1x1408x1408, .bf16⟩
  | .local _ .vmem, ⟨3, _⟩ => ⟨S1x1408x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg1
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x2048 : Shape := ⟨2, ![8448, 2048]⟩
abbrev S2x8448x5632 : Shape := ⟨3, ![2, 8448, 5632]⟩
abbrev S4x8192x2816 : Shape := ⟨3, ![4, 8192, 2816]⟩
abbrev S8448x2x5632 : Shape := ⟨3, ![8448, 2, 5632]⟩
abbrev S8448x11264 : Shape := ⟨2, ![8448, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩
abbrev S4x6144x2816 : Shape := ⟨3, ![4, 6144, 2816]⟩

abbrev nBuf : Space → Nat
  | .hbm => 18
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2x8448x5632, .bf16⟩
  | .hbm, ⟨2, _⟩ => ⟨S4x8192x2816, .bf16⟩
  | .hbm, ⟨3, _⟩ => ⟨S8448x2048, .f32⟩
  | .hbm, ⟨4, _⟩ => ⟨S2x8448x5632, .f32⟩
  | .hbm, ⟨5, _⟩ => ⟨S8448x2x5632, .f32⟩
  | .hbm, ⟨6, _⟩ => ⟨S8448x11264, .f32⟩
  | .hbm, ⟨7, _⟩ => ⟨S_, .f32⟩
  | .hbm, ⟨8, _⟩ => ⟨S2048x11264, .f32⟩
  | .hbm, ⟨9, _⟩ => ⟨S8448x11264, .f32⟩
  | .hbm, ⟨10, _⟩ => ⟨S11264x2048, .f32⟩
  | .hbm, ⟨11, _⟩ => ⟨S2048x11264, .f32⟩
  | .hbm, ⟨12, _⟩ => ⟨S2048x4x2816, .f32⟩
  | .hbm, ⟨13, _⟩ => ⟨S4x2048x2816, .f32⟩
  | .hbm, ⟨14, _⟩ => ⟨S4x6144x2816, .bf16⟩
  | .hbm, ⟨15, _⟩ => ⟨S4x6144x2816, .f32⟩
  | .hbm, ⟨16, _⟩ => ⟨S4x8192x2816, .f32⟩
  | .hbm, ⟨17, _⟩ => ⟨S4x8192x2816, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel5.lean ====
abbrev S8448x2048 : Shape := ⟨2, ![8448, 2048]⟩
abbrev S4x2048x2816 : Shape := ⟨3, ![4, 2048, 2816]⟩
abbrev S8448x11264 : Shape := ⟨2, ![8448, 11264]⟩
abbrev S1408x1024 : Shape := ⟨2, ![1408, 1024]⟩
abbrev S1x1024x1408 : Shape := ⟨3, ![1, 1024, 1408]⟩
abbrev S1408x1408 : Shape := ⟨2, ![1408, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S4x2048x2816, .bf16⟩
  | .hbm, ⟨2, _⟩ => ⟨S8448x11264, .bf16⟩
  | .local _ .vmem, ⟨0, _⟩ => ⟨S1408x1024, .bf16⟩
  | .local _ .vmem, ⟨1, _⟩ => ⟨S1408x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1408x1408, .bf16⟩
  | .local _ .vmem, ⟨5, _⟩ => ⟨S1408x1408, .bf16⟩
  | .local _ .vmem, ⟨6, _⟩ => ⟨S1408x1408, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8448x2048 : Shape := ⟨2, ![8448, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S8448x11264 : Shape := ⟨2, ![8448, 11264]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x2816, .bf16⟩
  | .hbm, ⟨2, _⟩ => ⟨S8448x2048, .f32⟩
  | .hbm, ⟨3, _⟩ => ⟨S4x2048x2816, .f32⟩
  | .hbm, ⟨4, _⟩ => ⟨S2048x4x2816, .f32⟩
  | .hbm, ⟨5, _⟩ => ⟨S2048x11264, .f32⟩
  | .hbm, ⟨6, _⟩ => ⟨S8448x11264, .f32⟩
  | .hbm, ⟨7, _⟩ => ⟨S8448x11264, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel6.lean ====
abbrev S8448x2048 : Shape := ⟨2, ![8448, 2048]⟩
abbrev S5632x2048 : Shape := ⟨2, ![5632, 2048]⟩
abbrev S8448x5632 : Shape := ⟨2, ![8448, 5632]⟩
abbrev S1408x1024 : Shape := ⟨2, ![1408, 1024]⟩
abbrev S1408x1408 : Shape := ⟨2, ![1408, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .bf16⟩
  | .hbm, ⟨2, _⟩ => ⟨S8448x5632, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1408, .f32⟩
  | .local _ .vmem, ⟨5, _⟩ => ⟨S1408x1408, .f32⟩
  | .local _ .vmem, ⟨6, _⟩ => ⟨S1408x1408, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8448x2048 : Shape := ⟨2, ![8448, 2048]⟩
abbrev S5632x2048 : Shape := ⟨2, ![5632, 2048]⟩
abbrev S_ : Shape := ⟨0, ![]⟩
abbrev S8448x5632 : Shape := ⟨2, ![8448, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .bf16⟩
  | .hbm, ⟨2, _⟩ => ⟨S5632x2048, .f32⟩
  | .hbm, ⟨3, _⟩ => ⟨S8448x2048, .f32⟩
  | .hbm, ⟨4, _⟩ => ⟨S_, .f32⟩
  | .hbm, ⟨5, _⟩ => ⟨S8448x5632, .f32⟩
  | .hbm, ⟨6, _⟩ => ⟨S8448x2048, .f32⟩
  | .hbm, ⟨7, _⟩ => ⟨S8448x5632, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8448x10368 : Shape := ⟨2, ![8448, 10368]⟩
abbrev S2048x10368 : Shape := ⟨2, ![2048, 10368]⟩
abbrev S8448x2048 : Shape := ⟨2, ![8448, 2048]⟩
abbrev S1408x1152 : Shape := ⟨2, ![1408, 1152]⟩
abbrev S1024x1152 : Shape := ⟨2, ![1024, 1152]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x10368, .bf16⟩
  | .hbm, ⟨1, _⟩ => ⟨S2048x10368, .bf16⟩
  | .hbm, ⟨2, _⟩ => ⟨S8448x2048, .f32⟩
  | .local _ .vmem, ⟨0, _⟩ => ⟨S1408x1152, .bf16⟩
  | .local _ .vmem, ⟨1, _⟩ => ⟨S1408x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 9], ![false, false, false]⟩

def k0_cond3 (i : grid0.Coords) : BitVec 1 :=
  let arg2 : BitVec 32 := BitVec.ofNat 32 (i 2).val
  let c8_i32 : BitVec 32 := 8#32
  let v9 : BitVec 1 := Scalar.cmpi .eq arg2 c8_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1408x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8448x10368 : Shape := ⟨2, ![8448, 10368]⟩
abbrev S2048x10368 : Shape := ⟨2, ![2048, 10368]⟩
abbrev S_ : Shape := ⟨0, ![]⟩
abbrev S8448x2048 : Shape := ⟨2, ![8448, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8448x10368, .bf16⟩
  | .hbm, ⟨1, _⟩ => ⟨S2048x10368, .bf16⟩
  | .hbm, ⟨2, _⟩ => ⟨S2048x10368, .f32⟩
  | .hbm, ⟨3, _⟩ => ⟨S8448x10368, .f32⟩
  | .hbm, ⟨4, _⟩ => ⟨S_, .f32⟩
  | .hbm, ⟨5, _⟩ => ⟨S8448x2048, .f32⟩
  | .hbm, ⟨6, _⟩ => ⟨S8448x10368, .f32⟩
  | .hbm, ⟨7, _⟩ => ⟨S8448x2048, .f32⟩
  | _, _ => ⟨S8448x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8448x2048 : Shape := ⟨2, ![8448, 2048]⟩
abbrev S8448x10368 : Shape := ⟨2, ![8448, 10368]⟩
abbrev S2048x10368 : Shape := ⟨2, ![2048, 10368]⟩
abbrev S1408x512 : Shape := ⟨2, ![1408, 512]⟩
abbrev S1408x1152 : Shape := ⟨2, ![1408, 1152]⟩
abbrev S512x1152 : Shape := ⟨2, ![512, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x10368, .bf16⟩
  | .hbm, ⟨2, _⟩ => ⟨S2048x10368, .f32⟩
  | .local _ .vmem, ⟨0, _⟩ => ⟨S1408x512, .bf16⟩
  | .local _ .vmem, ⟨1, _⟩ => ⟨S1408x512, .bf16⟩
  | .local _ .vmem, ⟨2, _⟩ => ⟨S1408x1152, .bf16⟩
  | .local _ .vmem, ⟨3, _⟩ => ⟨S1408x1152, .bf16⟩
  | .local _ .vmem, ⟨4, _⟩ => ⟨S512x1152, .f32⟩
  | .local _ .vmem, ⟨5, _⟩ => ⟨S512x1152, .f32⟩
  | .local _ .vmem, ⟨6, _⟩ => ⟨S512x1152, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 4, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8448x2048 : Shape := ⟨2, ![8448, 2048]⟩
abbrev S8448x10368 : Shape := ⟨2, ![8448, 10368]⟩
abbrev S_ : Shape := ⟨0, ![]⟩
abbrev S2048x10368 : Shape := ⟨2, ![2048, 10368]⟩
abbrev S10368x2048 : Shape := ⟨2, ![10368, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x10368, .bf16⟩
  | .hbm, ⟨2, _⟩ => ⟨S8448x2048, .f32⟩
  | .hbm, ⟨3, _⟩ => ⟨S8448x10368, .f32⟩
  | .hbm, ⟨4, _⟩ => ⟨S_, .f32⟩
  | .hbm, ⟨5, _⟩ => ⟨S2048x10368, .f32⟩
  | .hbm, ⟨6, _⟩ => ⟨S8448x10368, .f32⟩
  | .hbm, ⟨7, _⟩ => ⟨S10368x2048, .f32⟩
  | .hbm, ⟨8, _⟩ => ⟨S2048x10368, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8448x2048 : Shape := ⟨2, ![8448, 2048]⟩
abbrev S2048x10368 : Shape := ⟨2, ![2048, 10368]⟩
abbrev S8448x10368 : Shape := ⟨2, ![8448, 10368]⟩
abbrev S1408x1024 : Shape := ⟨2, ![1408, 1024]⟩
abbrev S1024x1152 : Shape := ⟨2, ![1024, 1152]⟩
abbrev S1408x1152 : Shape := ⟨2, ![1408, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2048x10368, .bf16⟩
  | .hbm, ⟨2, _⟩ => ⟨S8448x10368, .f32⟩
  | .local _ .vmem, ⟨0, _⟩ => ⟨S1408x1024, .bf16⟩
  | .local _ .vmem, ⟨1, _⟩ => ⟨S1408x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1408x1152, .f32⟩
  | .local _ .vmem, ⟨5, _⟩ => ⟨S1408x1152, .f32⟩
  | .local _ .vmem, ⟨6, _⟩ => ⟨S1408x1152, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 6, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8448x2048 : Shape := ⟨2, ![8448, 2048]⟩
abbrev S2048x10368 : Shape := ⟨2, ![2048, 10368]⟩
abbrev S8448x10368 : Shape := ⟨2, ![8448, 10368]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x10368, .bf16⟩
  | .hbm, ⟨2, _⟩ => ⟨S8448x2048, .f32⟩
  | .hbm, ⟨3, _⟩ => ⟨S2048x10368, .f32⟩
  | .hbm, ⟨4, _⟩ => ⟨S8448x10368, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8448x5632 : Shape := ⟨2, ![8448, 5632]⟩
abbrev S8448x2048 : Shape := ⟨2, ![8448, 2048]⟩
abbrev S4x5632x2048 : Shape := ⟨3, ![4, 5632, 2048]⟩
abbrev S1408x1408 : Shape := ⟨2, ![1408, 1408]⟩
abbrev S1408x1024 : Shape := ⟨2, ![1408, 1024]⟩
abbrev S1x1408x1024 : Shape := ⟨3, ![1, 1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S4x5632x2048, .bf16⟩
  | .hbm, ⟨3, _⟩ => ⟨S4x5632x2048, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg0.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8448x5632 : Shape := ⟨2, ![8448, 5632]⟩
abbrev S8448x2048 : Shape := ⟨2, ![8448, 2048]⟩
abbrev S4x5632x2048 : Shape := ⟨3, ![4, 5632, 2048]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩
abbrev S4x4224x2048 : Shape := ⟨3, ![4, 4224, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S4x5632x2048, .bf16⟩
  | .hbm, ⟨3, _⟩ => ⟨S8448x5632, .f32⟩
  | .hbm, ⟨4, _⟩ => ⟨S8448x2048, .f32⟩
  | .hbm, ⟨5, _⟩ => ⟨S_, .f32⟩
  | .hbm, ⟨6, _⟩ => ⟨S5632x2048, .f32⟩
  | .hbm, ⟨7, _⟩ => ⟨S8448x2048, .f32⟩
  | .hbm, ⟨8, _⟩ => ⟨S2048x5632, .f32⟩
  | .hbm, ⟨9, _⟩ => ⟨S5632x2048, .f32⟩
  | .hbm, ⟨10, _⟩ => ⟨S4x1408x2048, .f32⟩
  | .hbm, ⟨11, _⟩ => ⟨S4x4224x2048, .bf16⟩
  | .hbm, ⟨12, _⟩ => ⟨S4x4224x2048, .f32⟩
  | .hbm, ⟨13, _⟩ => ⟨S4x5632x2048, .f32⟩
  | .hbm, ⟨14, _⟩ => ⟨S4x5632x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel11.lean ====
abbrev S8448x5632 : Shape := ⟨2, ![8448, 5632]⟩
abbrev S5632x2048 : Shape := ⟨2, ![5632, 2048]⟩
abbrev S8448x2048 : Shape := ⟨2, ![8448, 2048]⟩
abbrev S2x2048 : Shape := ⟨2, ![2, 2048]⟩
abbrev S768x1408 : Shape := ⟨2, ![768, 1408]⟩
abbrev S1408x1024 : Shape := ⟨2, ![1408, 1024]⟩
abbrev S768x1024 : Shape := ⟨2, ![768, 1024]⟩
abbrev S2x1024 : Shape := ⟨2, ![2, 1024]⟩
abbrev S768x1 : Shape := ⟨2, ![768, 1]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .hbm, ⟨3, _⟩ => ⟨S2x2048, .f32⟩
  | .hbm, ⟨4, _⟩ => ⟨S8448x2048, .f32⟩
  | .hbm, ⟨5, _⟩ => ⟨S8448x2048, .f32⟩
  | .local _ .vmem, ⟨0, _⟩ => ⟨S768x1408, .bf16⟩
  | .local _ .vmem, ⟨1, _⟩ => ⟨S768x1408, .bf16⟩
  | .local _ .vmem, ⟨2, _⟩ => ⟨S1408x1024, .bf16⟩
  | .local _ .vmem, ⟨3, _⟩ => ⟨S1408x1024, .bf16⟩
  | .local _ .vmem, ⟨4, _⟩ => ⟨S768x1024, .f32⟩
  | .local _ .vmem, ⟨5, _⟩ => ⟨S768x1024, .f32⟩
  | .local _ .vmem, ⟨6, _⟩ => ⟨S2x1024, .f32⟩
  | .local _ .vmem, ⟨7, _⟩ => ⟨S2x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .f32⟩
  | .local _ .vmem, ⟨12, _⟩ => ⟨S768x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S8448x5632 : Shape := ⟨2, ![8448, 5632]⟩
abbrev S5632x2048 : Shape := ⟨2, ![5632, 2048]⟩
abbrev S8448x2048 : Shape := ⟨2, ![8448, 2048]⟩
abbrev S2x2048 : Shape := ⟨2, ![2, 2048]⟩
abbrev S256x2048 : Shape := ⟨2, ![256, 2048]⟩
abbrev S1x2048 : Shape := ⟨2, ![1, 2048]⟩
abbrev S2048 : Shape := ⟨1, ![2048]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .hbm, ⟨3, _⟩ => ⟨S2x2048, .f32⟩
  | .hbm, ⟨4, _⟩ => ⟨S8448x5632, .f32⟩
  | .hbm, ⟨5, _⟩ => ⟨S5632x2048, .f32⟩
  | .hbm, ⟨6, _⟩ => ⟨S8448x2048, .f32⟩
  | .hbm, ⟨7, _⟩ => ⟨S256x2048, .f32⟩
  | .hbm, ⟨8, _⟩ => ⟨S1x2048, .f32⟩
  | .hbm, ⟨9, _⟩ => ⟨S2048, .f32⟩
  | .hbm, ⟨10, _⟩ => ⟨S256x2048, .f32⟩
  | .hbm, ⟨11, _⟩ => ⟨S1x2048, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S8192x2048, .f32⟩
  | .hbm, ⟨16, _⟩ => ⟨S1x2048, .f32⟩
  | .hbm, ⟨17, _⟩ => ⟨S2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8448x2048, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Proof.Finite.lean ====
/- Arrays of extended reals whose entries are real numbers, and how the operations of the two programs act on them. -/
module

public import Idealize.ShloMosaic.Lib.Pointwise
public import Mathlib.Data.EReal.Operations
public import Mathlib.Tactic.Linarith
public import Mathlib.Tactic.NormNum

@[expose] public section

set_option maxRecDepth 16384

noncomputable section

namespace Cert.AttnGrad

open Idealize.ShloMosaic

/-- The matrix `x` holds the real numbers `f`. -/
def Holds2 {s0 s1 : ℕ} (x : (⟨2, ![s0, s1]⟩ : Shape).Idx → EReal) (f : ℕ → ℕ → ℝ) : Prop :=
  ∀ (a : Fin s0) (b : Fin s1), x (ix2 a b) = ((f a b : ℝ) : EReal)

/-- The same for arrays of three, four and five axes. -/
def Holds3 {s0 s1 s2 : ℕ} (x : (⟨3, ![s0, s1, s2]⟩ : Shape).Idx → EReal) (f : ℕ → ℕ → ℕ → ℝ) : Prop :=
  ∀ (a : Fin s0) (b : Fin s1) (c : Fin s2), x (ix3 a b c) = ((f a b c : ℝ) : EReal)

def Holds4 {s0 s1 s2 s3 : ℕ} (x : (⟨4, ![s0, s1, s2, s3]⟩ : Shape).Idx → EReal) (f : ℕ → ℕ → ℕ → ℕ → ℝ) : Prop :=
  ∀ (a : Fin s0) (b : Fin s1) (c : Fin s2) (d : Fin s3), x (ix4 a b c d) = ((f a b c d : ℝ) : EReal)

def Holds5 {s0 s1 s2 s3 s4 : ℕ} (x : (⟨5, ![s0, s1, s2, s3, s4]⟩ : Shape).Idx → EReal)
    (f : ℕ → ℕ → ℕ → ℕ → ℕ → ℝ) : Prop :=
  ∀ (a : Fin s0) (b : Fin s1) (c : Fin s2) (d : Fin s3) (e : Fin s4), x (ix5 a b c d e) = ((f a b c d e : ℝ) : EReal)

/-- A holding matrix read at indices with known values. -/
theorem Holds2.read {s0 s1 : ℕ} {x : (⟨2, ![s0, s1]⟩ : Shape).Idx → EReal} {f : ℕ → ℕ → ℝ} (h : Holds2 x f) {a : Fin s0} {b : Fin s1}
    {i j : ℕ} (hi : (a : ℕ) = i) (hj : (b : ℕ) = j) : x (ix2 a b) = ((f i j : ℝ) : EReal) := by
  rw [h a b, hi, hj]

/-- A sum of real numbers is the same in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale both programs multiply the logits by. -/
def scale : ℝ := (Ideal.ofBits .f32 0x3DB504F3#32).toReal

theorem scale_eq : Ideal.ofBits .f32 0x3DB504F3#32 = ((scale : ℝ) : EReal) := by
  have h : ∃ r : ℝ, Ideal.ofBits .f32 0x3DB504F3#32 = ((r : ℝ) : EReal) := by
    simp only [Ideal.ofBits, Ideal.ieee]
    norm_num
    exact ⟨_, (EReal.coe_mul _ _).symm⟩
  obtain ⟨r, hr⟩ := h
  rw [scale, hr, EReal.toReal_coe]

theorem neg_inf : Ideal.ofBits .f32 0xFF800000#32 = ⊥ := by simp [Ideal.ofBits, Ideal.ieee]

/-- The largest entry of a row without `⊤` that is not all `⊥` is a real number. -/
theorem row_max {N : ℕ} (x : Fin N → EReal) (hx : ∀ n, x n ≠ ⊤) (n0 : Fin N) (h0 : x n0 ≠ ⊥) :
    ∃ M : ℝ, Finset.univ.fold max ⊥ x = ((M : ℝ) : EReal) := by
  have ht : Finset.univ.fold max ⊥ x ≠ ⊤ := by
    intro h
    have := (Finset.le_fold_max (s := Finset.univ) (f := x) (b := ⊥) ⊤).mp h.ge
    rcases this with h | ⟨n, _, h⟩
    · exact absurd h (by simp)
    · exact hx n (top_le_iff.mp h)
  have hb : Finset.univ.fold max ⊥ x ≠ ⊥ := by
    intro h
    have := (Finset.le_fold_max (s := Finset.univ) (f := x) (b := ⊥) (x n0)).mpr (.inr ⟨n0, Finset.mem_univ _, le_rfl⟩)
    exact h0 (le_bot_iff.mp (h ▸ this))
  exact ⟨_, (EReal.coe_toReal ht hb).symm⟩

/-- The exponential of a masked number less the row's largest one. -/
theorem exp_shift (p : Prop) [Decidable p] (a M : ℝ) :
    Ideal.exp ((if p then (a : EReal) else ⊥) - (M : EReal)) = (((if p then Real.exp a else 0) * Real.exp (-M) : ℝ) : EReal) := by
  split
  · rw [← EReal.coe_sub, Ideal.exp_coe, ← Real.exp_add, sub_eq_add_neg]
  · rw [EReal.bot_sub, Ideal.exp_bot, zero_mul, EReal.coe_zero]

/-- A quotient of real numbers. -/
theorem div_coe {y : ℝ} (h : y ≠ 0) (x : ℝ) : Ideal.div (x : EReal) (y : EReal) = ((x / y : ℝ) : EReal) := by
  rw [Ideal.div_coe h, ← EReal.coe_mul, mul_one_div]

/-- The exponential of a masked number. -/
theorem exp_masked (p : Prop) [Decidable p] (x y : ℝ) :
    Ideal.exp ((x : EReal) + (if p then 0 else ⊥) - (y : EReal)) = ((if p then Real.exp (x - y) else 0 : ℝ) : EReal) := by
  split
  · rw [add_zero, ← EReal.coe_sub, Ideal.exp_coe]
  · rw [EReal.add_bot, EReal.bot_sub, Ideal.exp_bot, EReal.coe_zero]

theorem and_bits (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

theorem select_bit (p : Prop) [Decidable p] (x y : EReal) :
    Scalar.select (BitVec.ofBool (decide p)) x y = if p then x else y := by
  by_cases hp : p <;> simp [Scalar.select, hp]

end Cert.AttnGrad

end
-- ==== Proof.Spec.lean ====
/- The gradient of one attention call over the real numbers: what both programs are compared with.
   A token row is `128 * b + r` (block `b`, row `r` of the block); a query head is the `g`-th of the four that share
   the key/value head `h`; `n` counts the 640 key rows a block sees: the 256 context rows, then the previous, the own
   and the next block. Arrays are functions of natural numbers, read only inside their extents. -/
module

public import Mathlib.Analysis.SpecialFunctions.Log.Basic
public import Mathlib.Algebra.BigOperators.Fin
public import Mathlib.Data.EReal.Operations
public import Mathlib.Tactic.Ring
public import Mathlib.Tactic.FieldSimp
public import Mathlib.Tactic.Linarith

@[expose] public section

noncomputable section

namespace Cert.AttnGrad

open Finset

/-- The token row of key `n` as seen from block `b`. Past the first and the last block the row is clamped; those keys
    are never visible. -/
def keyRow (b n : ℕ) : ℕ := if n < 256 then n else 128 * min (b + (n - 256) / 128 - 1) 65 + (n - 256) % 128

/-- Key `n` is visible from row `r` of block `b`: a context key always; a latent key from a latent block (`2 ≤ b`)
    when it lies within 128 positions and inside the sequence. -/
def Visible (b r n : ℕ) : Prop :=
  n < 256 ∨ (2 ≤ b ∧ (384 ≤ n ∨ (3 ≤ b ∧ r + 256 ≤ n)) ∧ (n < 512 ∨ (b ≤ 64 ∧ n ≤ r + 512)))

instance (b r n : ℕ) : Decidable (Visible b r n) := by unfold Visible; infer_instance

section
variable (c : ℝ) (X : ℕ → ℕ → ℝ) (S : ℕ → ℝ) (D : ℕ → ℕ → ℝ)

/-- The scaled product of a query row and a key row. -/
def logit (b r h g n : ℕ) : ℝ :=
  (∑ d : Fin 128, X (128 * b + r) (512 * h + 128 * g + d) * X (keyRow b n) (2048 + 128 * h + d)) * c

/-- The unnormalised weight of key `n`; zero where it is not visible. -/
def weight (b r h g n : ℕ) : ℝ := if Visible b r n then Real.exp (logit c X b r h g n) else 0

/-- The softmax denominator of a row: the sink and every weight. -/
def den (b r h g : ℕ) : ℝ := Real.exp (S (4 * h + g)) + ∑ n : Fin 640, weight c X b r h g n

def prob (b r h g n : ℕ) : ℝ := weight c X b r h g n / den c X S b r h g

/-- The cotangent of a probability: the output's cotangent against the value row. -/
def dprob (b r h g n : ℕ) : ℝ :=
  ∑ d : Fin 128, D (128 * b + r) (512 * h + 128 * g + d) * X (keyRow b n) (2560 + 128 * h + d)

def delta (b r h g : ℕ) : ℝ := ∑ n : Fin 640, prob c X S b r h g n * dprob X D b r h g n

/-- The cotangent of a logit: the softmax's derivative. -/
def dlogit (b r h g n : ℕ) : ℝ := prob c X S b r h g n * (dprob X D b r h g n - delta c X S D b r h g)

/-- The output of the attention. -/
def out (b r h g d : ℕ) : ℝ := ∑ n : Fin 640, prob c X S b r h g n * X (keyRow b n) (2560 + 128 * h + d)

/-- Gradient of a query entry. -/
def dquery (b r h g d : ℕ) : ℝ := (∑ n : Fin 640, dlogit c X S D b r h g n * X (keyRow b n) (2048 + 128 * h + d)) * c

/-- What block `b` contributes to the gradient of key `n`. -/
def dkey (b h n d : ℕ) : ℝ :=
  (∑ g : Fin 4, ∑ r : Fin 128, dlogit c X S D b r h g n * X (128 * b + r) (512 * h + 128 * g + d)) * c

/-- What block `b` contributes to the gradient of value row `n`. -/
def dvalue (b h n d : ℕ) : ℝ :=
  ∑ g : Fin 4, ∑ r : Fin 128, prob c X S b r h g n * D (128 * b + r) (512 * h + 128 * g + d)

/-- What block `b` contributes to the gradient of a sink. -/
def dsink (b h g : ℕ) : ℝ := -∑ r : Fin 128, Real.exp (S (4 * h + g)) / den c X S b r h g * delta c X S D b r h g

theorem weight_nonneg (b r h g n : ℕ) : 0 ≤ weight c X b r h g n := by
  unfold weight; split
  · exact (Real.exp_pos _).le
  · exact le_rfl

theorem den_pos (b r h g : ℕ) : 0 < den c X S b r h g :=
  add_pos_of_pos_of_nonneg (Real.exp_pos _) (sum_nonneg fun _ _ => weight_nonneg ..)

theorem den_ne (b r h g : ℕ) : den c X S b r h g ≠ 0 := (den_pos ..).ne'

/-- The saved log-sum-exp turns a logit into its probability by one exponential. -/
theorem exp_sub_log_den (b r h g : ℕ) (x : ℝ) :
    Real.exp (x - Real.log (den c X S b r h g)) = Real.exp x / den c X S b r h g := by
  rw [Real.exp_sub, Real.exp_log (den_pos ..)]

/-- The output's cotangent against the output is the sum `delta`. -/
theorem sum_out_eq_delta (b r h g : ℕ) :
    ∑ d : Fin 128, D (128 * b + r) (512 * h + 128 * g + d) * out c X S b r h g d = delta c X S D b r h g := by
  simp only [delta, out, dprob, mul_sum]
  rw [sum_comm]
  refine sum_congr rfl fun n _ => sum_congr rfl fun d _ => by ring

/-- A context row sees context keys only. -/
theorem weight_context {b : ℕ} (hb : b < 2) (r h g : ℕ) {n : ℕ} (hn : 256 ≤ n) : weight c X b r h g n = 0 := by
  unfold weight; rw [if_neg]; unfold Visible; omega

/-- A sum over all keys of terms that vanish past the context is a sum over the context. -/
theorem sum_context (f : ℕ → ℝ) (hf : ∀ n, 256 ≤ n → f n = 0) : ∑ n : Fin 640, f n = ∑ n : Fin 256, f n := by
  have := Fin.sum_univ_add (a := 256) (b := 384) fun i => f i
  rw [show (∑ i : Fin 640, f i) = ∑ i : Fin (256 + 384), f i from rfl, this]
  simp only [Fin.val_castAdd, Fin.val_natAdd]
  rw [sum_eq_zero (s := (univ : Finset (Fin 384))) fun i _ => hf _ (by omega), add_zero]

/-- A sum over all keys, the context apart from the band. -/
theorem sum_split (f : ℕ → ℝ) : ∑ n : Fin 640, f n = (∑ n : Fin 256, f n) + ∑ n : Fin 384, f (256 + n) := by
  have := Fin.sum_univ_add (a := 256) (b := 384) fun i => f i
  rw [show (∑ i : Fin 640, f i) = ∑ i : Fin (256 + 384), f i from rfl, this]
  rfl

/-- A sum over all blocks, the two context blocks apart from the latent ones. -/
theorem sum_blocks (f : ℕ → ℝ) : ∑ b : Fin 66, f b = (f 0 + f 1) + ∑ k : Fin 64, f (2 + k) := by
  have := Fin.sum_univ_add (a := 2) (b := 64) fun i => f i
  rw [show (∑ i : Fin 66, f i) = ∑ i : Fin (2 + 64), f i from rfl, this]
  simp only [Fin.val_castAdd, Fin.val_natAdd, Fin.sum_univ_two, Fin.val_zero, Fin.val_one]

/-- The softmax's transposed derivative, as it is written with the unnormalised weights, is the product rule's form. -/
theorem row_grad {ι : Type} [Fintype ι] (e C : ι → ℝ) {Z : ℝ} (hZ : Z ≠ 0) (k : ι) :
    (C k / Z + -∑ j, C j * (1 / (Z * Z)) * e j) * e k = e k / Z * (C k - ∑ j, e j / Z * C j) := by
  have : ∑ j, C j * (1 / (Z * Z)) * e j = (1 / Z) * ∑ j, e j / Z * C j := by
    rw [mul_sum]; exact sum_congr rfl fun j _ => by field_simp
  rw [this]
  generalize ∑ j, e j / Z * C j = s
  field_simp
  ring

/-- Shifting every logit by one number changes no probability. -/
theorem shift_div (x M Z : ℝ) : Real.exp (x - M) / (Z * Real.exp (-M)) = Real.exp x / Z := by
  rw [Real.exp_sub, Real.exp_neg]; field_simp

end

end Cert.AttnGrad

end
-- ==== Proof.Words.lean ====
/- Index words of 32 bits that hold small signed integers, and the window test the reference writes with them. -/
module

public import proofs.«01_k».proof.Proof.Finite
public import proofs.«01_k».proof.Proof.Spec

@[expose] public section

noncomputable section

namespace Cert.AttnGrad

open Idealize.ShloMosaic

theorem sword_nat {n : ℕ} (h : n < 2 ^ 20) : (BitVec.ofNat 32 n).toInt = n := by
  rw [BitVec.toInt_eq_toNat_cond, BitVec.toNat_ofNat]; omega

theorem sword_sub {x y : BitVec 32} {a b : ℤ} (hx : x.toInt = a) (hy : y.toInt = b) (h : |a - b| < 2 ^ 20) : (IntOp.subi x y).toInt = a - b := by
  obtain ⟨h1, h2⟩ := abs_lt.mp h
  simp only [IntOp.subi, BitVec.toInt_sub, hx, hy]
  rw [Int.bmod_eq_of_le] <;> omega

theorem sword_abs {x : BitVec 32} {a : ℤ} (hx : x.toInt = a) (h : |a| < 2 ^ 20) : (IntOp.absi x).toInt = |a| := by
  obtain ⟨h1, h2⟩ := abs_lt.mp h
  have := BitVec.toInt_eq_msb_cond x
  unfold IntOp.absi
  split
  · rename_i hm
    have hneg : a < 0 := by rw [hm] at this; simp at this; have := x.isLt; omega
    rw [BitVec.toInt_neg, hx, abs_of_neg hneg, Int.bmod_eq_of_le] <;> omega
  · rename_i hm
    have hneg : 0 ≤ a := by simp [hm] at this; omega
    rw [hx, abs_of_nonneg hneg]

theorem sword_add {x y : BitVec 32} {a b : ℤ} (hx : x.toInt = a) (hy : y.toInt = b) (h : |a + b| < 2 ^ 20) : (IntOp.addi x y).toInt = a + b := by
  obtain ⟨h1, h2⟩ := abs_lt.mp h
  simp only [IntOp.addi, BitVec.toInt_add, hx, hy]
  rw [Int.bmod_eq_of_le] <;> omega

theorem sword_mul {x y : BitVec 32} {a b : ℤ} (hx : x.toInt = a) (hy : y.toInt = b) (h : |a * b| < 2 ^ 20) : (IntOp.muli x y).toInt = a * b := by
  obtain ⟨h1, h2⟩ := abs_lt.mp h
  simp only [IntOp.muli, BitVec.toInt_mul, hx, hy]
  rw [Int.bmod_eq_of_le] <;> omega

theorem sword_le {x y : BitVec 32} {a b : ℤ} (hx : x.toInt = a) (hy : y.toInt = b) :
    IntOp.cmpi CmpIPredicate.sle x y = BitVec.ofBool (decide (a ≤ b)) := by
  simp only [IntOp.cmpi, BitVec.sle, hx, hy]

theorem sword_ge {x y : BitVec 32} {a b : ℤ} (hx : x.toInt = a) (hy : y.toInt = b) :
    IntOp.cmpi CmpIPredicate.sge x y = BitVec.ofBool (decide (b ≤ a)) := by
  simp only [IntOp.cmpi, BitVec.sle, hx, hy]

theorem sword_lt {x y : BitVec 32} {a b : ℤ} (hx : x.toInt = a) (hy : y.toInt = b) :
    IntOp.cmpi CmpIPredicate.slt x y = BitVec.ofBool (decide (a < b)) := by
  simp only [IntOp.cmpi, BitVec.slt, hx, hy]

/-- The window test of latent block `k`, row `r`, band key `n`. -/
theorem window_word {k r n : ℕ} (hk : k < 64) (hr : r < 128) (hn : n < 384) :
    IntOp.andi (IntOp.andi (IntOp.cmpi CmpIPredicate.sle (IntOp.absi (IntOp.subi (IntOp.subi (BitVec.ofNat 32 n) 128#32) (BitVec.ofNat 32 r))) 128#32)
        (IntOp.cmpi CmpIPredicate.sge (IntOp.addi (IntOp.muli (IntOp.subi (BitVec.ofNat 32 k) 1#32) 128#32) (BitVec.ofNat 32 n)) 0#32))
      (IntOp.cmpi CmpIPredicate.slt (IntOp.addi (IntOp.muli (IntOp.subi (BitVec.ofNat 32 k) 1#32) 128#32) (BitVec.ofNat 32 n)) 8192#32)
      = BitVec.ofBool (decide (Visible (k + 2) r (256 + n))) := by
  have hc : ∀ x : ℕ, x < 2 ^ 20 → (BitVec.ofNat 32 x).toInt = x := fun x h => sword_nat h
  have e1 := sword_sub (sword_sub (hc n (by omega)) (hc 128 (by omega)) (by rw [abs_lt]; omega)) (hc r (by omega)) (by rw [abs_lt]; omega)
  have e2 := sword_abs e1 (by rw [abs_lt]; omega)
  have e3 := sword_mul (sword_sub (hc k (by omega)) (hc 1 (by omega)) (by rw [abs_lt]; omega)) (hc 128 (by omega)) (by rw [abs_lt]; push_cast; omega)
  have e4 := sword_add e3 (hc n (by omega)) (by rw [abs_lt]; push_cast; omega)
  rw [sword_le e2 (hc 128 (by omega)), sword_ge e4 (hc 0 (by omega)), sword_lt e4 (hc 8192 (by omega)), and_bits, and_bits]
  congr 1
  rw [decide_eq_decide, abs_le]
  unfold Visible
  push_cast
  clear e1 e2 e3 e4 hc
  constructor
  · rintro ⟨⟨⟨h1, h2⟩, h3⟩, h4⟩
    refine .inr ⟨trivial, ?_, ?_⟩
    · by_cases h : 384 ≤ 256 + n
      · exact .inl h
      · exact .inr ⟨by omega, by omega⟩
    · by_cases h : 256 + n < 512
      · exact .inl h
      · exact .inr ⟨by omega, by omega⟩
  · rintro (h | ⟨h1, h2, h3⟩)
    · omega
    · refine ⟨⟨⟨?_, ?_⟩, ?_⟩, ?_⟩ <;> rcases h2 with h2 | h2 <;> rcases h3 with h3 | h3 <;> omega

end Cert.AttnGrad
end
-- ==== Proof.Forward.lean ====
/- The forward pass as the reference writes it, read over the real numbers: the queries, keys and values, the logits. -/
module

public import proofs.«01_k».proof.Proof.Gen.Reference2Ideal.Read
public import proofs.«01_k».proof.Proof.Finite
public import proofs.«01_k».proof.Proof.Spec
public import proofs.«01_k».proof.Proof.Words

@[expose] public section

set_option maxRecDepth 16384

noncomputable section

namespace Cert.AttnGrad

open Idealize.ShloMosaic Idealize.ShloMosaic.TcCoe Idealize.SL.Sem
open Cert.Reference2Ideal Cert.Reference2Ideal.Gen Cert.Reference2Ideal.Read

variable {x0 : FVec Ideal S8448x3072 .bf16} {x1 : FVec Ideal S16 .f32} {X : ℕ → ℕ → ℝ} {S : ℕ → ℝ}

theorem query_ctx (hX : Holds2 x0 X) :
    Holds4 (val_main_v3 (F := Ideal) x0) fun r h g d => X r (512 * h + 128 * g + d) := by
  intro r h g d
  pointwise [val_main_v3, val_main_v2, val_main_v1, val_main_v0]
  exact hX.read rfl (by dsimp only; omega)

theorem key_ctx (hX : Holds2 x0 X) : Holds3 (val_main_v5 (F := Ideal) x0) fun s h d => X s (2048 + 128 * h + d) := by
  intro s h d
  pointwise [val_main_v5, val_main_v4, val_main_v1, val_main_v0]
  exact hX.read rfl (by dsimp only; omega)

theorem value_ctx (hX : Holds2 x0 X) : Holds3 (val_main_v7 (F := Ideal) x0) fun s h d => X s (2560 + 128 * h + d) := by
  intro s h d
  pointwise [val_main_v7, val_main_v6, val_main_v1, val_main_v0]
  exact hX.read rfl (by dsimp only; omega)

theorem query_lat (hX : Holds2 x0 X) :
    Holds5 (val_main_v16 (F := Ideal) x0) fun k r h g d => X (128 * (k + 2) + r) (512 * h + 128 * g + d) := by
  intro k r h g d
  pointwise [val_main_v16, val_main_v10, val_main_v9, val_main_v8, val_main_v0]
  exact hX.read (by dsimp only; omega) (by dsimp only; omega)

theorem sinks_holds (hS : ∀ a : Fin 16, x1 (ix1 a) = ((S a : ℝ) : EReal)) :
    Holds2 (val_main_v15 (F := Ideal) x1) fun h g => S (4 * h + g) := by
  intro h g
  pointwise [val_main_v15, hS]
  rw [show (h : ℕ) * 4 + (g : ℕ) = 4 * h + g by omega]

/-- A column of the band around latent block `k`, zero outside the sequence. -/
def bandR (X : ℕ → ℕ → ℝ) (k n col : ℕ) : ℝ :=
  if (k = 0 ∧ n < 128) ∨ (k = 63 ∧ 256 ≤ n) then 0 else X (128 * (k + 1) + n) col

theorem pad_zero : val_main_call0_v0 (F := Ideal) (Shape.Idx.first h_S_) = ((0 : ℝ) : EReal) := by
  unfold val_main_call0_v0 val_main_c
  pointwise
  show (((0#32 : BitVec 32).toInt : ℝ) : EReal) = _
  simp

theorem mask_lat (k : Fin 64) (r : Fin 128) (n : Fin 384) :
    val_main_v73 (F := Ideal) (ix3 k r n) = BitVec.ofBool (decide (Visible (k + 2) r (256 + n))) := by
  pointwise [val_main_v73, val_main_v72, val_main_v71, val_main_v70, val_main_c_7, val_main_v69, val_main_v68, val_main_v67, val_main_v66, val_main_v65, val_main_c_6, val_main_v64, val_main_v63, val_main_v62, val_main_c_5,
    val_main_v61, val_main_v60, val_main_v59, val_main_v58, val_main_v57, val_main_v56, val_main_c_4, val_main_v55, val_main_v54, val_main_v53, val_main_v52,
    val_main_v51, val_main_v50, val_main_c_3, val_main_v49, val_main_v48, val_main_c_2, val_main_v47, val_main_v46, val_main_v45, val_main_v44, val_main_v43, val_main_v42]
  exact window_word k.isLt r.isLt n.isLt

theorem key_rows (hX : Holds2 x0 X) : Holds3 (val_main_v12 (F := Ideal) x0) fun s h d => X (256 + s) (2048 + 128 * h + d) := by
  intro s h d
  pointwise [val_main_v12, val_main_v11, val_main_v8, val_main_v0]
  exact hX.read rfl (by dsimp only; omega)

/-- The latent tokens of a stream, in blocks. -/
def blocks (y : FVec Ideal S8192x4x128 .f32) : FVec Ideal S64x128x4x128 .f32 := shapeCast _ y shapeCasts_S8192x4x128_S64x128x4x128

/-- The blocks with a block of zeros before and after. -/
def padded (y : FVec Ideal S8192x4x128 .f32) : FVec Ideal S66x128x4x128 .f32 :=
  pad S66x128x4x128 ![1, 0, 0, 0] ![1, 0, 0, 0] ![0, 0, 0, 0] (blocks y) (val_main_call0_v0 (F := Ideal)) pads_S64x128x4x128_S66x128x4x128_110_000_000_000 h_S_

theorem blocks_holds {y : FVec Ideal S8192x4x128 .f32} {Y : ℕ → ℕ → ℕ → ℝ} (hy : Holds3 y Y) :
    Holds4 (blocks y) fun k n h d => Y (128 * k + n) h d := by
  intro k n h d
  have e : ∀ (a : Fin 8192) (b : Fin 4) (c : Fin 128), (a : ℕ) = 128 * k + n → (b : ℕ) = h → (c : ℕ) = d → y (ix3 a b c) = ((Y (128 * k + n) h d : ℝ) : EReal) := by
    intro a b c ha hb hc
    rw [hy a b c, ha, hb, hc]
  pointwise [blocks]
  exact e _ _ _ (by dsimp only; omega) rfl rfl

theorem padded_holds {y : FVec Ideal S8192x4x128 .f32} {Y : ℕ → ℕ → ℕ → ℝ} (hy : Holds3 y Y) :
    Holds4 (padded y) fun k n h d => if k = 0 ∨ k = 65 then 0 else Y (128 * (k - 1) + n) h d := by
  intro k n h d
  have hk := k.isLt
  have h1 := fun k' => blocks_holds hy k' n h d
  pointwise [padded, h1]
  rw [pad_zero]
  by_cases hc : 1 ≤ (k : ℕ) ∧ (k : ℕ) - 1 < 64
  · rw [dif_pos hc, if_neg (by omega)]
  · rw [dif_neg hc, if_pos (by omega)]

/-- Previous, own and next block of every block. -/
def banded (y : FVec Ideal S8192x4x128 .f32) : FVec Ideal S64x384x4x128 .f32 :=
  concatenate S64x384x4x128 1 [⟨S64x128x4x128, extractStridedSlice S64x128x4x128 ![0, 0, 0, 0] (padded y) slices_S66x128x4x128_S64x128x4x128_0_0_0_0⟩,
    ⟨S64x128x4x128, extractStridedSlice S64x128x4x128 ![1, 0, 0, 0] (padded y) slices_S66x128x4x128_S64x128x4x128_1_0_0_0⟩,
    ⟨S64x128x4x128, extractStridedSlice S64x128x4x128 ![2, 0, 0, 0] (padded y) slices_S66x128x4x128_S64x128x4x128_2_0_0_0⟩]
    concatenates_S64x128x4x128_S64x128x4x128_S64x128x4x128_S64x384x4x128_d1

theorem banded_holds {y : FVec Ideal S8192x4x128 .f32} {Y : ℕ → ℕ → ℕ → ℝ} (hy : Holds3 y Y) :
    Holds4 (banded y) fun k n h d => if (k = 0 ∧ n < 128) ∨ (k = 63 ∧ 256 ≤ n) then 0 else Y (128 * k + n - 128) h d := by
  intro k n h d
  have hk := k.isLt
  have hn := n.isLt
  have h1 := fun k' n' => padded_holds hy k' n' h d
  pointwise [banded, h1]
  clear h1
  generalize (h : ℕ) = h'
  generalize (d : ℕ) = d'
  by_cases h2 : (n : ℕ) < 128
  · rw [dif_pos h2]
    by_cases h3 : (k : ℕ) = 0
    · rw [if_pos (by omega), if_pos (by omega)]
    · rw [if_neg (by omega), if_neg (by omega)]
      congr 2; omega
  · rw [dif_neg h2]
    by_cases h4 : (n : ℕ) - 128 < 128
    · rw [dif_pos h4, if_neg (by omega), if_neg (by omega)]
      congr 2; omega
    · rw [dif_neg h4]
      by_cases h3 : (k : ℕ) = 63
      · rw [if_pos (by omega), if_pos (by omega)]
      · rw [if_neg (by omega), if_neg (by omega)]
        congr 2; omega

theorem value_rows (hX : Holds2 x0 X) : Holds3 (val_main_v14 (F := Ideal) x0) fun s h d => X (256 + s) (2560 + 128 * h + d) := by
  intro s h d
  pointwise [val_main_v14, val_main_v13, val_main_v8, val_main_v0]
  exact hX.read rfl (by dsimp only; omega)

theorem key_band (hX : Holds2 x0 X) :
    Holds4 (val_main_v41 (F := Ideal) x0) fun k n h d => bandR X k n (2048 + 128 * h + d) := by
  intro k n h d
  have e := banded_holds (key_rows hX) k n h d
  have e2 : bandR X k n (2048 + 128 * h + d) = if ((k : ℕ) = 0 ∧ (n : ℕ) < 128) ∨ ((k : ℕ) = 63 ∧ 256 ≤ (n : ℕ)) then 0 else X (256 + (128 * k + n - 128)) (2048 + 128 * h + d) := by
    unfold bandR
    split
    · rfl
    · congr 1; omega
  exact e.trans (congrArg _ e2.symm)

theorem value_band (hX : Holds2 x0 X) :
    Holds4 (val_main_v108 (F := Ideal) x0) fun k n h d => bandR X k n (2560 + 128 * h + d) := by
  intro k n h d
  have e := banded_holds (value_rows hX) k n h d
  have e2 : bandR X k n (2560 + 128 * h + d) = if ((k : ℕ) = 0 ∧ (n : ℕ) < 128) ∨ ((k : ℕ) = 63 ∧ 256 ≤ (n : ℕ)) then 0 else X (256 + (128 * k + n - 128)) (2560 + 128 * h + d) := by
    unfold bandR
    split
    · rfl
    · congr 1; omega
  exact e.trans (congrArg _ e2.symm)

/-- A visible key of the band is the key row the block sees there. -/
theorem bandR_row {X : ℕ → ℕ → ℝ} {k r n : ℕ} (hk : k < 64) (hn : n < 384) (hv : Visible (k + 2) r (256 + n)) (col : ℕ) :
    bandR X k n col = X (keyRow (k + 2) (256 + n)) col := by
  unfold Visible at hv
  unfold bandR keyRow
  rw [if_neg (by omega), if_neg (by omega)]
  congr 1; omega

/-- The logits of a row and its sink, last. -/
def rowLogit (N : ℕ) (X : ℕ → ℕ → ℝ) (S : ℕ → ℝ) (b r h g n : ℕ) : ℝ :=
  if n < N then logit scale X b r h g n else S (4 * h + g)

theorem lat_context (hX : Holds2 x0 X) (k : Fin 64) (h g : Fin 4) (r : Fin 128) (n : Fin 256) :
    val_main_v77 (F := Ideal) x0 (ix5 k h g r n) = ((logit scale X (k + 2) r h g n : ℝ) : EReal) := by
  have h1 := fun (d : Fin 128) => query_lat hX k r h g d
  have h2 := fun (d : Fin 128) => key_ctx hX n h d
  pointwise [val_main_v77, val_main_v76, val_main_v75, val_main_cst_8, val_main_v74, h1, h2, scale_eq]
  have ek : keyRow (k + 2) n = n := if_pos n.isLt
  simp only [← EReal.coe_mul, ← coe_sum, logit, ek, mul_comm (X n _)]

theorem lat_band (hX : Holds2 x0 X) (k : Fin 64) (h g : Fin 4) (r : Fin 128) (n : Fin 384) :
    val_main_v83 (F := Ideal) x0 (ix5 k h g r n)
      = if Visible (k + 2) r (256 + n) then ((logit scale X (k + 2) r h g (256 + n) : ℝ) : EReal) else ⊥ := by
  have h1 := fun (d : Fin 128) => query_lat hX k r h g d
  have h2 := fun (d : Fin 128) => key_band hX k n h d
  have h3 := mask_lat k r n
  pointwise [val_main_v83, val_main_call1_v0, val_main_call1_v1, val_main_call1_v2, val_main_cst_10, val_main_v82, val_main_v81, val_main_v80, val_main_cst_9, val_main_v79, val_main_v78, h1, h2, h3, scale_eq, neg_inf]
  split
  · rename_i hv
    simp only [bandR_row k.isLt n.isLt hv, ← EReal.coe_mul, ← coe_sum, logit, mul_comm (X (keyRow _ _) _)]
  · rfl

theorem logits_lat (hX : Holds2 x0 X) (hS : ∀ a : Fin 16, x1 (ix1 a) = ((S a : ℝ) : EReal)) (k : Fin 64) (h g : Fin 4) (r : Fin 128) (n : Fin 641) :
    val_main_v86 (F := Ideal) x0 x1 (ix5 k h g r n)
      = if 640 ≤ (n : ℕ) ∨ Visible (k + 2) r n then ((rowLogit 640 X S (k + 2) r h g n : ℝ) : EReal) else ⊥ := by
  have h1 := lat_context hX k h g r
  have h2 := lat_band hX k h g r
  have h3 := sinks_holds hS h g
  have hn := n.isLt
  pointwise [val_main_v86, val_main_v85, val_main_v84, h1, h2, h3]
  unfold rowLogit
  by_cases hc : (n : ℕ) < 256
  · rw [dif_pos hc, if_pos (.inr (.inl hc)), if_pos (by omega)]
  · rw [dif_neg hc]
    by_cases hb : (n : ℕ) - 256 < 384
    · rw [dif_pos hb, show 256 + ((n : ℕ) - 256) = n by omega]
      by_cases hv : Visible (k + 2) r n
      · rw [if_pos hv, if_pos (.inr hv), if_pos (by omega)]
      · rw [if_neg hv, if_neg]
        rintro (h | h)
        · omega
        · exact hv h
    · rw [dif_neg hb, if_pos (.inl (by omega)), if_neg (by omega)]

theorem logits_ctx (hX : Holds2 x0 X) (hS : ∀ a : Fin 16, x1 (ix1 a) = ((S a : ℝ) : EReal)) (h g : Fin 4) (r : Fin 256) (n : Fin 257) :
    val_main_v23 (F := Ideal) x0 x1 (ix4 h g r n) = ((rowLogit 256 X S (r / 128) (r % 128) h g n : ℝ) : EReal) := by
  have h1 := fun (d : Fin 128) => query_ctx hX r h g d
  have h2 := fun (s : Fin 256) (d : Fin 128) => key_ctx hX s h d
  have h3 := sinks_holds hS h g
  pointwise [val_main_v23, val_main_v22, val_main_v21, val_main_v20, val_main_v19, val_main_cst, val_main_v18, val_main_v17, h1, h2, h3, scale_eq]
  unfold rowLogit logit
  have e : 128 * ((r : ℕ) / 128) + (r : ℕ) % 128 = r := Nat.div_add_mod _ _
  split
  · rename_i hn
    have ek : keyRow ((r : ℕ) / 128) n = n := if_pos hn
    simp only [← EReal.coe_mul, ← coe_sum, e, ek, mul_comm (X r _)]
  · rfl

end Cert.AttnGrad

end
-- ==== Proof.Softmax.lean ====
/- The forward pass over the real numbers, continued: the softmax of every row, the output, the log-sum-exp. -/
module

public import proofs.«01_k».proof.Proof.Forward
public import proofs.«01_k».proof.Proof.Finite
public import proofs.«01_k».proof.Proof.Spec
public import proofs.«01_k».proof.Proof.Words

@[expose] public section

set_option maxRecDepth 16384

noncomputable section

namespace Cert.AttnGrad

open Idealize.ShloMosaic Idealize.ShloMosaic.TcCoe Idealize.SL.Sem
open Cert.Reference2Ideal Cert.Reference2Ideal.Gen Cert.Reference2Ideal.Read

/-- A row of masked real logits: its largest entry is a real number, and so is every exponential less it. -/
theorem soft_row {N : ℕ} (l : Fin N → EReal) (V : Fin N → Prop) [∀ n, Decidable (V n)] (x : Fin N → ℝ)
    (hl : ∀ n, l n = if V n then ((x n : ℝ) : EReal) else ⊥) (n0 : Fin N) (h0 : V n0) :
    ∃ M : ℝ, Finset.univ.fold max ⊥ l = ((M : ℝ) : EReal)
      ∧ ∀ n, Ideal.exp (l n - (M : EReal)) = (((if V n then Real.exp (x n) else 0) * Real.exp (-M) : ℝ) : EReal) := by
  obtain ⟨M, hM⟩ := row_max l (fun n => by rw [hl]; split <;> simp) n0 (by rw [hl, if_pos h0]; simp)
  exact ⟨M, hM, fun n => by rw [hl]; exact exp_shift ..⟩

/-- The unnormalised weights of a row, the sink's last. -/
def rowW (N : ℕ) (X : ℕ → ℕ → ℝ) (S : ℕ → ℝ) (b r h g n : ℕ) : ℝ :=
  if n < N then weight scale X b r h g n else Real.exp (S (4 * h + g))

theorem sum_last {N : ℕ} (f : ℕ → ℝ) : ∑ n : Fin (N + 1), f n = f N + ∑ n : Fin N, f n := by
  rw [Fin.sum_univ_castSucc, add_comm]
  rfl

theorem sum_rowW (X : ℕ → ℕ → ℝ) (S : ℕ → ℝ) (b r h g : ℕ) : ∑ n : Fin 641, rowW 640 X S b r h g n = den scale X S b r h g := by
  rw [sum_last, den]
  congr 1

theorem sum_rowW_ctx (X : ℕ → ℕ → ℝ) (S : ℕ → ℝ) {b : ℕ} (hb : b < 2) (r h g : ℕ) :
    ∑ n : Fin 257, rowW 256 X S b r h g n = den scale X S b r h g := by
  rw [sum_last, den, sum_context _ fun n hn => weight_context scale X hb r h g hn]
  congr 1

/-- The quotient by the sum of the shifted weights is the probability; the sum's logarithm, shifted back, is the row's. -/
theorem quot_shift {Z M : ℝ} (hZ : 0 < Z) (w : ℝ) :
    Ideal.div ((w * Real.exp (-M) : ℝ) : EReal) ((Z * Real.exp (-M) : ℝ) : EReal) = ((w / Z : ℝ) : EReal) := by
  have := Real.exp_pos (-M)
  rw [div_coe (mul_pos hZ this).ne', mul_div_mul_right _ _ this.ne']

theorem log_shift {Z M : ℝ} (hZ : 0 < Z) : ((M : ℝ) : EReal) + Ideal.log ((Z * Real.exp (-M) : ℝ) : EReal) = ((Real.log Z : ℝ) : EReal) := by
  have := Real.exp_pos (-M)
  rw [Ideal.log_coe, if_neg (not_le.mpr (mul_pos hZ this)), ← EReal.coe_add, Real.log_mul hZ.ne' this.ne', Real.log_exp]
  congr 1; ring

variable {x0 : FVec Ideal S8448x3072 .bf16} {x1 : FVec Ideal S16 .f32} {X : ℕ → ℕ → ℝ} {S : ℕ → ℝ}

/-- A context row: its largest logit and its shifted weights. -/
theorem row_ctx (hX : Holds2 x0 X) (hS : ∀ a : Fin 16, x1 (ix1 a) = ((S a : ℝ) : EReal)) (h g : Fin 4) (r : Fin 256) :
    ∃ M : ℝ, Finset.univ.fold max ⊥ (fun n => val_main_v23 (F := Ideal) x0 x1 (ix4 h g r n)) = ((M : ℝ) : EReal)
      ∧ ∀ n : Fin 257, Ideal.exp (val_main_v23 (F := Ideal) x0 x1 (ix4 h g r n) - (M : EReal))
        = ((rowW 256 X S (r / 128) (r % 128) h g n * Real.exp (-M) : ℝ) : EReal) := by
  obtain ⟨M, h1, h2⟩ := soft_row (fun n => val_main_v23 (F := Ideal) x0 x1 (ix4 h g r n)) (fun _ => True)
    (fun n => rowLogit 256 X S (r / 128) (r % 128) h g n) (fun n => by rw [if_pos trivial]; exact logits_ctx hX hS h g r n) 0 trivial
  refine ⟨M, h1, fun n => (h2 n).trans ?_⟩
  rw [if_pos trivial]
  unfold rowLogit rowW weight
  by_cases hn : (n : ℕ) < 256
  · rw [if_pos hn, if_pos hn, if_pos (.inl hn)]
  · rw [if_neg hn, if_neg hn]

/-- A latent row likewise. -/
theorem row_lat (hX : Holds2 x0 X) (hS : ∀ a : Fin 16, x1 (ix1 a) = ((S a : ℝ) : EReal)) (k : Fin 64) (h g : Fin 4) (r : Fin 128) :
    ∃ M : ℝ, Finset.univ.fold max ⊥ (fun n => val_main_v86 (F := Ideal) x0 x1 (ix5 k h g r n)) = ((M : ℝ) : EReal)
      ∧ ∀ n : Fin 641, Ideal.exp (val_main_v86 (F := Ideal) x0 x1 (ix5 k h g r n) - (M : EReal))
        = ((rowW 640 X S (k + 2) r h g n * Real.exp (-M) : ℝ) : EReal) := by
  obtain ⟨M, h1, h2⟩ := soft_row (fun n => val_main_v86 (F := Ideal) x0 x1 (ix5 k h g r n)) (fun n => 640 ≤ (n : ℕ) ∨ Visible (k + 2) r n)
    (fun n => rowLogit 640 X S (k + 2) r h g n) (fun n => logits_lat hX hS k h g r n) 0 (.inr (.inl (by decide)))
  refine ⟨M, h1, fun n => (h2 n).trans ?_⟩
  unfold rowLogit rowW weight
  by_cases hn : (n : ℕ) < 640
  · rw [if_pos hn, if_pos hn]
    by_cases hv : Visible (k + 2) r n
    · rw [if_pos (.inr hv), if_pos hv]
    · rw [if_neg hv, if_neg (by rintro (h | h); · omega
                                · exact hv h)]
  · rw [if_neg hn, if_neg hn, if_pos (.inl (by omega))]

/-- A context row's largest logit and denominator, as the reference computes them. -/
theorem stat_ctx (hX : Holds2 x0 X) (hS : ∀ a : Fin 16, x1 (ix1 a) = ((S a : ℝ) : EReal)) (h g : Fin 4) (r : Fin 256) :
    ∃ M : ℝ, val_main_v24 (F := Ideal) x0 x1 (ix3 h g r) = ((M : ℝ) : EReal)
      ∧ (∀ n : Fin 257, val_main_v28 (F := Ideal) x0 x1 (ix4 h g r n) = ((rowW 256 X S (r / 128) (r % 128) h g n * Real.exp (-M) : ℝ) : EReal))
      ∧ val_main_v29 (F := Ideal) x0 x1 (ix3 h g r) = ((den scale X S (r / 128) (r % 128) h g * Real.exp (-M) : ℝ) : EReal) := by
  obtain ⟨M, h1, h2⟩ := row_ctx hX hS h g r
  have h3 : val_main_v24 (F := Ideal) x0 x1 (ix3 h g r) = ((M : ℝ) : EReal) := by
    pointwise [val_main_v24, val_main_cst_0, neg_inf, h1]
  have h4 : ∀ n : Fin 257, val_main_v28 (F := Ideal) x0 x1 (ix4 h g r n) = ((rowW 256 X S (r / 128) (r % 128) h g n * Real.exp (-M) : ℝ) : EReal) := by
    intro n
    pointwise [val_main_v28, val_main_v27, val_main_v26, val_main_v25, h3, h2]
  refine ⟨M, h3, h4, ?_⟩
  pointwise [val_main_v29, val_main_cst_1, h4]
  rw [← coe_sum, ← Finset.sum_mul, sum_rowW_ctx X S (by omega)]

theorem prob_ctx (hX : Holds2 x0 X) (hS : ∀ a : Fin 16, x1 (ix1 a) = ((S a : ℝ) : EReal)) (h g : Fin 4) (r : Fin 256) (n : Fin 257) :
    val_main_v32 (F := Ideal) x0 x1 (ix4 h g r n)
      = ((rowW 256 X S (r / 128) (r % 128) h g n / den scale X S (r / 128) (r % 128) h g : ℝ) : EReal) := by
  obtain ⟨M, h1, h2, h3⟩ := stat_ctx hX hS h g r
  pointwise [val_main_v32, val_main_v31, val_main_v30, h2, h3]
  exact quot_shift (den_pos ..) _

theorem lse_ctx_col (hX : Holds2 x0 X) (hS : ∀ a : Fin 16, x1 (ix1 a) = ((S a : ℝ) : EReal)) (h g : Fin 4) (r : Fin 256) (z : Fin 1) :
    val_main_v34 (F := Ideal) x0 x1 (ix4 h g r z) = ((Real.log (den scale X S (r / 128) (r % 128) h g) : ℝ) : EReal) := by
  obtain ⟨M, h1, h2, h3⟩ := stat_ctx hX hS h g r
  have e : idx_main_v25 (ix4 h g r z) = ix3 h g r := by
    funext a
    match a with
    | ⟨0, _⟩ => rfl
    | ⟨1, _⟩ => rfl
    | ⟨2, _⟩ => rfl
  rw [val_main_v34_apply, val_main_v33_apply, val_main_v25_apply, val_main_v30_apply, show idx_main_v30 (ix4 h g r z) = ix3 h g r from e, e, h1, h3]
  exact log_shift (den_pos ..)

theorem lse_ctx (hX : Holds2 x0 X) (hS : ∀ a : Fin 16, x1 (ix1 a) = ((S a : ℝ) : EReal)) (h g : Fin 4) (r : Fin 256) :
    val_main_v35 (F := Ideal) x0 x1 (ix3 h g r) = ((Real.log (den scale X S (r / 128) (r % 128) h g) : ℝ) : EReal) := by
  rw [← lse_ctx_col hX hS h g r 0]
  pointwise [val_main_v35]

/-- A latent row's likewise. -/
theorem stat_lat (hX : Holds2 x0 X) (hS : ∀ a : Fin 16, x1 (ix1 a) = ((S a : ℝ) : EReal)) (k : Fin 64) (h g : Fin 4) (r : Fin 128) :
    ∃ M : ℝ, val_main_v87 (F := Ideal) x0 x1 (ix4 k h g r) = ((M : ℝ) : EReal)
      ∧ (∀ n : Fin 641, val_main_v91 (F := Ideal) x0 x1 (ix5 k h g r n) = ((rowW 640 X S (k + 2) r h g n * Real.exp (-M) : ℝ) : EReal))
      ∧ val_main_v92 (F := Ideal) x0 x1 (ix4 k h g r) = ((den scale X S (k + 2) r h g * Real.exp (-M) : ℝ) : EReal) := by
  obtain ⟨M, h1, h2⟩ := row_lat hX hS k h g r
  have h3 : val_main_v87 (F := Ideal) x0 x1 (ix4 k h g r) = ((M : ℝ) : EReal) := by
    pointwise [val_main_v87, val_main_cst_11, neg_inf, h1]
  have h4 : ∀ n : Fin 641, val_main_v91 (F := Ideal) x0 x1 (ix5 k h g r n) = ((rowW 640 X S (k + 2) r h g n * Real.exp (-M) : ℝ) : EReal) := by
    intro n
    pointwise [val_main_v91, val_main_v90, val_main_v89, val_main_v88, h3, h2]
  refine ⟨M, h3, h4, ?_⟩
  pointwise [val_main_v92, val_main_cst_12, h4]
  rw [← coe_sum, ← Finset.sum_mul, sum_rowW]

theorem prob_lat (hX : Holds2 x0 X) (hS : ∀ a : Fin 16, x1 (ix1 a) = ((S a : ℝ) : EReal)) (k : Fin 64) (h g : Fin 4) (r : Fin 128) (n : Fin 641) :
    val_main_v95 (F := Ideal) x0 x1 (ix5 k h g r n)
      = ((rowW 640 X S (k + 2) r h g n / den scale X S (k + 2) r h g : ℝ) : EReal) := by
  obtain ⟨M, h1, h2, h3⟩ := stat_lat hX hS k h g r
  pointwise [val_main_v95, val_main_v94, val_main_v93, h2, h3]
  exact quot_shift (den_pos ..) _

theorem lse_lat_col (hX : Holds2 x0 X) (hS : ∀ a : Fin 16, x1 (ix1 a) = ((S a : ℝ) : EReal)) (k : Fin 64) (h g : Fin 4) (r : Fin 128) (z : Fin 1) :
    val_main_v97 (F := Ideal) x0 x1 (ix5 k h g r z) = ((Real.log (den scale X S (k + 2) r h g) : ℝ) : EReal) := by
  obtain ⟨M, h1, h2, h3⟩ := stat_lat hX hS k h g r
  have e : idx_main_v88 (ix5 k h g r z) = ix4 k h g r := by
    funext a
    match a with
    | ⟨0, _⟩ => rfl
    | ⟨1, _⟩ => rfl
    | ⟨2, _⟩ => rfl
    | ⟨3, _⟩ => rfl
  rw [val_main_v97_apply, val_main_v96_apply, val_main_v88_apply, val_main_v93_apply, show idx_main_v93 (ix5 k h g r z) = ix4 k h g r from e, e, h1, h3]
  exact log_shift (den_pos ..)

theorem lse_lat (hX : Holds2 x0 X) (hS : ∀ a : Fin 16, x1 (ix1 a) = ((S a : ℝ) : EReal)) (k : Fin 64) (h g : Fin 4) (r : Fin 128) :
    val_main_v98 (F := Ideal) x0 x1 (ix4 k h g r) = ((Real.log (den scale X S (k + 2) r h g) : ℝ) : EReal) := by
  rw [← lse_lat_col hX hS k h g r 0]
  pointwise [val_main_v98]

/-- The probabilities of the keys alone. -/
theorem rowW_key {N b r h g n : ℕ} (hn : n < N) : rowW N X S b r h g n / den scale X S b r h g = prob scale X S b r h g n := by
  unfold rowW prob; rw [if_pos hn]

theorem out_context {b : ℕ} (hb : b < 2) (r h g d : ℕ) :
    out scale X S b r h g d = ∑ n : Fin 256, prob scale X S b r h g n * X n (2560 + 128 * h + d) := by
  unfold out
  rw [sum_context (fun n => prob scale X S b r h g n * X (keyRow b n) (2560 + 128 * h + d)) fun n hn => by
    simp only [prob, weight_context scale X hb r h g hn, zero_div, zero_mul]]
  exact Finset.sum_congr rfl fun n _ => by rw [show keyRow b n = n from if_pos n.isLt]

/-- A key that is not visible has no probability, so what the band holds there does not matter. -/
theorem prob_band {k r h g n : ℕ} (hk : k < 64) (hn : n < 384) (col : ℕ) :
    prob scale X S (k + 2) r h g (256 + n) * bandR X k n col = prob scale X S (k + 2) r h g (256 + n) * X (keyRow (k + 2) (256 + n)) col := by
  by_cases hv : Visible (k + 2) r (256 + n)
  · rw [bandR_row hk hn hv]
  · have : prob scale X S (k + 2) r h g (256 + n) = 0 := by unfold prob weight; rw [if_neg hv, zero_div]
    rw [this, zero_mul, zero_mul]

theorem out_latent {k : ℕ} (hk : k < 64) (r h g d : ℕ) :
    out scale X S (k + 2) r h g d = (∑ n : Fin 256, prob scale X S (k + 2) r h g n * X n (2560 + 128 * h + d))
      + ∑ n : Fin 384, prob scale X S (k + 2) r h g (256 + n) * bandR X k n (2560 + 128 * h + d) := by
  unfold out
  rw [sum_split fun n => prob scale X S (k + 2) r h g n * X (keyRow (k + 2) n) (2560 + 128 * h + d)]
  have e1 : ∀ n : Fin 256, prob scale X S (k + 2) r h g n * X (keyRow (k + 2) n) (2560 + 128 * h + d)
      = prob scale X S (k + 2) r h g n * X n (2560 + 128 * h + d) := fun n => by rw [show keyRow (k + 2) n = n from if_pos n.isLt]
  rw [Finset.sum_congr rfl fun n _ => e1 n]
  exact congrArg _ (Finset.sum_congr rfl fun n _ => (prob_band hk n.isLt _).symm)

theorem ctx_out (hX : Holds2 x0 X) (hS : ∀ a : Fin 16, x1 (ix1 a) = ((S a : ℝ) : EReal)) (r : Fin 256) (h g : Fin 4) (d : Fin 128) :
    val_main_v101 (F := Ideal) x0 x1 (ix4 r h g d) = ((out scale X S (r / 128) (r % 128) h g d : ℝ) : EReal) := by
  have h1 := fun n : Fin 257 => prob_ctx hX hS h g r n
  have h2 := fun n : Fin 256 => value_ctx hX n h d
  pointwise [val_main_v101, val_main_v100, val_main_v99, h1, h2]
  rw [out_context (by omega)]
  simp only [← EReal.coe_mul, ← coe_sum]
  congr 1
  exact Finset.sum_congr rfl fun n _ => by rw [rowW_key n.isLt, mul_comm]

theorem lat_out (hX : Holds2 x0 X) (hS : ∀ a : Fin 16, x1 (ix1 a) = ((S a : ℝ) : EReal)) (k : Fin 64) (r : Fin 128) (h g : Fin 4) (d : Fin 128) :
    val_main_v115 (F := Ideal) x0 x1 (ix5 k r h g d) = ((out scale X S (k + 2) r h g d : ℝ) : EReal) := by
  have h1 := fun n : Fin 641 => prob_lat hX hS k h g r n
  have h2 := fun n : Fin 256 => value_ctx hX n h d
  have h3 := fun n : Fin 384 => value_band hX k n h d
  pointwise [val_main_v115, val_main_v114, val_main_v113, val_main_v112, val_main_v111, val_main_v110, val_main_v109, h1, h2, h3]
  rw [out_latent k.isLt]
  simp only [← EReal.coe_mul, ← coe_sum, ← EReal.coe_add]
  congr 2
  · exact Finset.sum_congr rfl fun n _ => by rw [rowW_key (by omega), mul_comm]
  · exact Finset.sum_congr rfl fun n _ => by rw [rowW_key (by omega), mul_comm]

/-- The output of the reference's forward pass. -/
theorem forward_out (hX : Holds2 x0 X) (hS : ∀ a : Fin 16, x1 (ix1 a) = ((S a : ℝ) : EReal)) :
    Holds2 (val_main_v124 (F := Ideal) x0 x1) fun t c => out scale X S (t / 128) (t % 128) (c / 512) (c / 128 % 4) (c % 128) := by
  intro t c
  have ht := t.isLt
  have hc := c.isLt
  have h1 := ctx_out hX hS
  have h2 := lat_out hX hS
  pointwise [val_main_v124, val_main_v117, val_main_v116, val_main_v102, h1, h2]
  by_cases hl : (t : ℕ) < 256
  · rw [dif_pos hl]
  · rw [dif_neg hl, show ((t : ℕ) - 256) / 128 + 2 = t / 128 by omega, show ((t : ℕ) - 256) % 128 = t % 128 by omega]

/-- The log-sum-exp of the reference's forward pass. -/
theorem forward_lse (hX : Holds2 x0 X) (hS : ∀ a : Fin 16, x1 (ix1 a) = ((S a : ℝ) : EReal)) :
    Holds2 (val_main_v123 (F := Ideal) x0 x1) fun t c => if c % 128 < 4 then Real.log (den scale X S (t / 128) (t % 128) (c / 128) (c % 128)) else 0 := by
  intro t c
  have ht := t.isLt
  have hc := c.isLt
  have h1 := lse_ctx hX hS
  have h2 := lse_lat hX hS
  have h3 : val_main_call3_v0 (F := Ideal) (Shape.Idx.first h_S_) = ((0 : ℝ) : EReal) := pad_zero
  pointwise [val_main_v123, val_main_v122, val_main_v121, val_main_v120, val_main_v119, val_main_v118, h1, h2]
  by_cases hg : (c : ℕ) % 128 < 4
  · rw [dif_pos ⟨by omega, hg⟩, if_pos hg]
    by_cases hl : (t : ℕ) < 256
    · rw [dif_pos hl]
    · rw [dif_neg hl, show ((t : ℕ) - 256) / 128 + 2 = t / 128 by omega, show ((t : ℕ) - 256) % 128 = t % 128 by omega]
  · rw [dif_neg (fun h => hg h.2), if_neg hg, h3]

end Cert.AttnGrad

end
-- ==== Proof.Saved.lean ====
/- What the host hands to the gradient's kernel: the reference forward's output and log-sum-exps, and the packed sinks. -/
module

public import proofs.«01_k».proof.Proof.Gen.KernelIdeal.Frame
public import proofs.«01_k».proof.Proof.Softmax
public import Idealize.ShloMosaic.Lib.Pipeline.ValueKit

@[expose] public section

set_option maxRecDepth 16384

noncomputable section

namespace Cert.AttnGrad

open Idealize.ShloMosaic Idealize.ShloMosaic.TcCoe Idealize.SL.Sem
open Cert.KernelIdeal Cert.KernelIdeal.Gen Idealize.ShloMosaic.StableHlo

variable (m : (ℓ : Loc nD τ sig) → Buf (Elt Ideal) ℓ) (c : Dev nD)

theorem concat_two {α : Type} {t s0 s1 : Shape} {a : Fin t.rank} {A A' : s0.Idx → α} {B B' : s1.Idx → α}
    (h h' : Shape.Concatenates [s0, s1] t a) (hA : A = A') (hB : B = B') :
    concatenate t a [⟨s0, A⟩, ⟨s1, B⟩] h = concatenate t a [⟨s0, A'⟩, ⟨s1, B'⟩] h' := by subst hA hB; rfl

set_option maxRecDepth 200000 in
set_option maxHeartbeats 4000000 in
/-- The output the kernel is handed is the reference forward's. -/
theorem saved_out : V m c main_v124 = Cert.Reference2Ideal.Read.val_main_v124 (F := Ideal) (m (c, main_arg0)) (m (c, main_arg1)) := by
  entry_read
  simp only [hostOps0, hostOps0_1, hostOps0_2, hostOps0_3, hostOps0_4, hostOps0_5, hostOps0_6, hostOps0_7, hostOps0_8, hostOps0_9,
    List.flatten_cons, List.flatten_nil, List.append_nil, List.cons_append, List.nil_append, TRef.binary, TRef.ternary, TRef.unary,
    TRef.toBuf, TRef.ofBuf, cast_eq]
  after_results_simp
  try dsimp only [Matrix.cons_val]
  try after_results_simp
  rw [Cert.Reference2Ideal.Read.val_main_v124, Cert.Reference2Ideal.Read.val_main_v117]
  refine congrArg (fun z : FVec Ideal S8448x2048 .f32 => truncf .bf16 z bitsLt_bf16_f32) ?_
  refine concat_two _ _ ?_ ?_
  · after_results_simp; try dsimp only [Matrix.cons_val]
    try after_results_simp
    rfl
  · after_results_simp; try dsimp only [Matrix.cons_val]
    try after_results_simp
    rfl

set_option maxRecDepth 200000 in
set_option maxHeartbeats 4000000 in
/-- So are the log-sum-exps. -/
theorem saved_lse : V m c main_v123 = Cert.Reference2Ideal.Read.val_main_v123 (F := Ideal) (m (c, main_arg0)) (m (c, main_arg1)) := by
  entry_read
  simp only [hostOps0, hostOps0_1, hostOps0_2, hostOps0_3, hostOps0_4, hostOps0_5, hostOps0_6, hostOps0_7, hostOps0_8, hostOps0_9,
    List.flatten_cons, List.flatten_nil, List.append_nil, List.cons_append, List.nil_append, TRef.binary, TRef.ternary, TRef.unary,
    TRef.toBuf, TRef.ofBuf, cast_eq]
  after_results_simp
  try dsimp only [Matrix.cons_val]
  try after_results_simp
  rw [Cert.Reference2Ideal.Read.val_main_v123, Cert.Reference2Ideal.Read.val_main_v122, Cert.Reference2Ideal.Read.val_main_v121]
  refine congrArg (fun z : FVec Ideal S8448x4x4 .f32 => shapeCast S8448x512 (pad S8448x4x128 ![0, 0, 0] ![0, 0, 124] ![0, 0, 0] z
    (Cert.Reference2Ideal.Read.val_main_call3_v0 (F := Ideal)) pads_S8448x4x4_S8448x4x128_000_000_01240 h_S_) shapeCasts_S8448x4x128_S8448x512) ?_
  refine concat_two _ _ ?_ ?_
  · after_results_simp; try dsimp only [Matrix.cons_val]
    try after_results_simp
    rfl
  · after_results_simp; try dsimp only [Matrix.cons_val]
    try after_results_simp
    rfl

theorem packed_sinks (x : FVec Ideal S16 .f32) (hx : m (c, main_arg1) = x) (h g : Fin 4) :
    V m c main_v127 (ix3 h 0 ⟨g, by omega⟩) = x (ix1 ⟨4 * h + g, by omega⟩) := by
  entry_read
  simp only [hostOps0, hostOps0_1, hostOps0_2, hostOps0_3, hostOps0_4, hostOps0_5, hostOps0_6, hostOps0_7, hostOps0_8, hostOps0_9,
    List.flatten_cons, List.flatten_nil, List.append_nil, List.cons_append, List.nil_append, TRef.binary, TRef.ternary, TRef.unary,
    TRef.toBuf, TRef.ofBuf, cast_eq]
  after_results_simp
  try dsimp only [Matrix.cons_val]
  try after_results_simp
  pointwise [hx]
  congr 2
  apply Fin.ext
  show (h : ℕ) * 4 + g = 4 * h + g
  omega

end Cert.AttnGrad

end
-- ==== Proof.Body.lean ====
/- What one grid point of the gradient kernel computes for one query head, over real-valued blocks. -/
module

public import proofs.«01_k».proof.Proof.Gen.KernelIdeal.Skeleton
public import proofs.«01_k».proof.Proof.Finite
public import proofs.«01_k».proof.Proof.Spec

@[expose] public section

set_option maxRecDepth 16384

noncomputable section

namespace Cert.AttnGrad

open Idealize.ShloMosaic Idealize.ShloMosaic.TcCoe Idealize.SL.Sem
open Cert.KernelIdeal Cert.KernelIdeal.Gen

variable {k v : FVec Ideal S640x128 .bf16} {bias : FVec Ideal S128x640 .f32} {q dob o : FVec Ideal S128x128 .bf16}
  {dof : FVec Ideal S128x128 .f32} {l dl : FVec Ideal S128x1 .f32} {p : FVec Ideal S128x640 .f32}
  {acc : FVec Ideal S640x128 .f32}
  {K V Q D P O A : ℕ → ℕ → ℝ} {L E : ℕ → ℝ} {Vis : ℕ → ℕ → Prop} [∀ r n, Decidable (Vis r n)]

/-- The mask, added to the logits. -/
def Masks (bias : FVec Ideal S128x640 .f32) (Vis : ℕ → ℕ → Prop) [∀ r n, Decidable (Vis r n)] : Prop :=
  ∀ (r : Fin 128) (n : Fin 640), bias (ix2 r n) = if Vis r n then 0 else ⊥

theorem prob_holds (hk : Holds2 k K) (hb : Masks bias Vis) (hq : Holds2 q Q) (hl : Holds2 l fun r _ => L r) :
    Holds2 (k0_pay24 k bias q l) fun r n =>
      if Vis r n then Real.exp ((∑ d : Fin 128, Q r d * K n d) * scale - L r) else 0 := by
  intro r n
  have h1 := fun d : Fin 128 => hq r d
  have h2 := fun d : Fin 128 => hk n d
  have h3 := hb r n
  have h4 := hl r 0
  pointwise [k0_pay24, k0_pay22, h1, h2, h3, h4, scale_eq]
  simp only [← EReal.coe_mul, ← coe_sum]
  exact exp_masked ..

theorem delta_holds (hd : Holds2 dof D) (ho : Holds2 o O) :
    Holds2 (k0_pay23 (F := Ideal) dof o) fun r _ => ∑ d : Fin 128, D r d * O r d := by
  intro r n
  have h1 := fun d : Fin 128 => hd r d
  have h2 := fun d : Fin 128 => ho r d
  pointwise [k0_pay23, h1, h2]
  simp only [← EReal.coe_mul, ← coe_sum]

theorem ds_holds (hv : Holds2 v V) (hd : Holds2 dob D) (he : Holds2 dl fun r _ => E r) (hp : Holds2 p P) :
    Holds2 (k0_pay25 v dob dl p) fun r n => P r n * ((∑ d : Fin 128, D r d * V n d) - E r) := by
  intro r n
  have h1 := fun d : Fin 128 => hd r d
  have h2 := fun d : Fin 128 => hv n d
  have h3 := he r 0
  have h4 := hp r n
  pointwise [k0_pay25, h1, h2, h3, h4]
  simp only [← EReal.coe_mul, ← coe_sum, ← EReal.coe_sub]

theorem dq_holds {ds : ℕ → ℕ → ℝ} (hk : Holds2 k K) (hds : Holds2 (k0_pay25 v dob dl p) ds) :
    Holds2 (k0_pay26 k v dob dl p) fun r d => (∑ n : Fin 640, ds r n * K n d) * scale := by
  intro r d
  have h1 := fun n : Fin 640 => hds r n
  have h2 := fun n : Fin 640 => hk n d
  pointwise [k0_pay26, h1, h2, scale_eq]
  simp only [← EReal.coe_mul, ← coe_sum]

theorem dk_holds {ds : ℕ → ℕ → ℝ} (ha : Holds2 acc A) (hq : Holds2 q Q) (hds : Holds2 (k0_pay25 v dob dl p) ds) :
    Holds2 (k0_pay27 v acc q dob dl p) fun n d => A n d + ∑ r : Fin 128, ds r n * Q r d := by
  intro n d
  have h1 := fun r : Fin 128 => hds r n
  have h2 := fun r : Fin 128 => hq r d
  have h3 := ha n d
  pointwise [k0_pay27, h1, h2, h3]
  simp only [← EReal.coe_mul, ← coe_sum, ← EReal.coe_add]

theorem dv_holds (ha : Holds2 acc A) (hd : Holds2 dob D) (hp : Holds2 p P) :
    Holds2 (k0_pay28 acc dob p) fun n d => A n d + ∑ r : Fin 128, P r n * D r d := by
  intro n d
  have h1 := fun r : Fin 128 => hp r n
  have h2 := fun r : Fin 128 => hd r d
  have h3 := ha n d
  pointwise [k0_pay28, h1, h2, h3]
  simp only [← EReal.coe_mul, ← coe_sum, ← EReal.coe_add]

/-- The lane numbers of a row. -/
abbrev lanes : IVec S1x128 32 := iota .tc S1x128 32 [1] iota_S1x128_d1_w32

/-- A row with a number in its own lane only. -/
theorem lane_select (g : ℕ) (hg : g < 4) (n : Fin 128) (x : EReal) :
    Scalar.select (IntOp.cmpi CmpIPredicate.eq (BitVec.ofNat 32 n) (BitVec.ofNat 32 g)) x 0 = if (n : ℕ) = g then x else 0 := by
  have : (BitVec.ofNat 32 n = BitVec.ofNat 32 g) ↔ (n : ℕ) = g := by
    rw [← BitVec.toNat_inj, BitVec.toNat_ofNat, BitVec.toNat_ofNat]
    have := n.isLt
    omega
  by_cases h : (n : ℕ) = g
  · simp [Scalar.select, IntOp.cmpi, h]
  · rw [if_neg h]
    simp [Scalar.select, IntOp.cmpi, beq_eq_false_iff_ne.mpr (fun e => h (this.mp e))]

/-- A sink's gradient from the rows of one block. -/
theorem sink_sum (S : ℝ) (L E : ℕ → ℝ) (g n : ℕ) (a : ℝ) :
    (a : EReal) + (if n = g then 0 - ∑ x : Fin 128, Ideal.exp ((S : EReal) - (L x : EReal)) * (E x : EReal) else 0)
      = ((a + if n = g then -∑ r : Fin 128, Real.exp (S - L r) * E r else 0 : ℝ) : EReal) := by
  simp only [← EReal.coe_sub, Ideal.exp_coe, ← EReal.coe_mul, ← coe_sum]
  split
  · rw [zero_sub, ← EReal.coe_neg, ← EReal.coe_add]
  · rw [add_zero, add_zero]

/-- What one query head adds to the row of sink gradients: its own lane only. -/
theorem dsk_holds {a : FVec Ideal S1x128 .f32} {s : FVec Ideal S1x1x1 .f32} {S : ℝ} (ha : Holds2 a A)
    (hs : s (ix3 0 0 0) = ((S : ℝ) : EReal)) (hl : Holds2 l fun r _ => L r) (he : Holds2 dl fun r _ => E r) :
    Holds2 (k0_pay29 lanes a l dl s) fun i n => A i n + if n = 1 then -∑ r : Fin 128, Real.exp (S - L r) * E r else 0 := by
  intro i n
  have h1 := fun r : Fin 128 => hl r 0
  have h2 := fun r : Fin 128 => he r 0
  have h3 := ha i n
  pointwise [k0_pay29, h1, h2, h3, hs, lanes]
  rw [lane_select 1 (by decide) n]
  exact sink_sum ..

/-- An order of two small index words. -/
theorem sle_word {a b : ℕ} (ha : a < 1024) (hb : b < 1024) :
    IntOp.cmpi CmpIPredicate.sle (BitVec.ofNat 32 a) (BitVec.ofNat 32 b) = BitVec.ofBool (decide (a ≤ b)) := by
  have e : ∀ x < 1024, (BitVec.ofNat 32 x).toInt = x := fun x hx => by
    rw [BitVec.toInt_eq_toNat_cond, BitVec.toNat_ofNat]; omega
  simp only [IntOp.cmpi, BitVec.sle, e a ha, e b hb, Nat.cast_le]

theorem sge_word {a b : ℕ} (ha : a < 1024) (hb : b < 1024) :
    IntOp.cmpi CmpIPredicate.sge (BitVec.ofNat 32 a) (BitVec.ofNat 32 b) = BitVec.ofBool (decide (b ≤ a)) :=
  sle_word hb ha

theorem block_ge : ∀ b : Fin 66, Scalar.cmpi CmpIPredicate.sge (BitVec.ofNat 32 b) 2#32 = BitVec.ofBool (decide (2 ≤ (b : ℕ))) := by
  decide

theorem block_prev : ∀ b : Fin 66, Scalar.cmpi CmpIPredicate.sge (Scalar.subi (BitVec.ofNat 32 b) 1#32) 2#32
    = BitVec.ofBool (decide (3 ≤ (b : ℕ))) := by
  decide

theorem block_next : ∀ b : Fin 66, Scalar.cmpi CmpIPredicate.sle (Scalar.addi (BitVec.ofNat 32 b) 1#32) 65#32
    = BitVec.ofBool (decide ((b : ℕ) ≤ 64)) := by
  decide

/-- The mask of grid point `i`: a context key passes, a key of the band passes where it is visible. -/
theorem bias_masks (i : grid0.Coords) :
    Masks (k0_pay8 (F := Ideal) (k0_pay3 i) (k0_pay4 i) (k0_pay5 i) k0_pay6 k0_pay7) (Visible (i 1).val) := by
  intro r n
  have hr := r.isLt
  have hn := n.isLt
  have e1 : Scalar.cmpi CmpIPredicate.sge (BitVec.ofNat 32 (i 1).val) 2#32 = _ := block_ge (i 1)
  have e2 : Scalar.cmpi CmpIPredicate.sge (Scalar.subi (BitVec.ofNat 32 (i 1).val) 1#32) 2#32 = _ := block_prev (i 1)
  have e3 : Scalar.cmpi CmpIPredicate.sle (Scalar.addi (BitVec.ofNat 32 (i 1).val) 1#32) 65#32 = _ := block_next (i 1)
  pointwise [k0_pay8, k0_pay3, k0_pay4, k0_pay5, k0_pay6, k0_pay7, neg_inf]
  rw [e1, e2, e3, sge_word (by omega) (by omega), sle_word (by omega) (by omega)]
  simp only [and_bits, select_bit, dite_eq_ite]
  generalize (i 1).val = b
  clear e1 e2 e3
  by_cases hv : Visible b r n
  · rw [if_pos hv]
    unfold Visible at hv
    split_ifs <;> first | rfl | (exfalso; omega)
  · rw [if_neg hv]
    unfold Visible at hv
    split_ifs <;> first | rfl | (exfalso; omega)

end Cert.AttnGrad

end
-- ==== Proof.Groups.lean ====
/- The four query heads of one grid point together: each writes its query gradient, and their key, value and sink
   gradients are summed. -/
module

public import proofs.«01_k».proof.Proof.Body

@[expose] public section

set_option maxRecDepth 16384

noncomputable section

namespace Cert.AttnGrad

open Idealize.ShloMosaic Idealize.ShloMosaic.TcCoe Idealize.SL.Sem
open Cert.KernelIdeal Cert.KernelIdeal.Gen

section
variable (k v : FVec Ideal S640x128 .bf16) (bias : FVec Ideal S128x640 .f32) (q : Fin 4 → FVec Ideal S128x128 .bf16)
  (dof : Fin 4 → FVec Ideal S128x128 .f32) (o : Fin 4 → FVec Ideal S128x128 .bf16) (l : Fin 4 → FVec Ideal S128x1 .f32)
  (s : Fin 4 → FVec Ideal S1x1x1 .f32)

def pOf (g : Fin 4) : FVec Ideal S128x640 .f32 := k0_pay24 k bias (q g) (l g)

def dlOf (g : Fin 4) : FVec Ideal S128x1 .f32 := k0_pay23 (F := Ideal) (dof g) (o g)

def dqOf (g : Fin 4) : FVec Ideal S128x128 .f32 := k0_pay26 k v (k0_pay21 (dof g)) (dlOf dof o g) (pOf k bias q l g)

def dkStep (a : FVec Ideal S640x128 .f32) (g : Fin 4) : FVec Ideal S640x128 .f32 :=
  k0_pay27 v a (q g) (k0_pay21 (dof g)) (dlOf dof o g) (pOf k bias q l g)

def dkOf : FVec Ideal S640x128 .f32 :=
  dkStep k v bias q dof o l (dkStep k v bias q dof o l (dkStep k v bias q dof o l (dkStep k v bias q dof o l k0_pay9 0) 1) 2) 3

def dvStep (a : FVec Ideal S640x128 .f32) (g : Fin 4) : FVec Ideal S640x128 .f32 :=
  k0_pay28 a (k0_pay21 (dof g)) (pOf k bias q l g)

def dvOf : FVec Ideal S640x128 .f32 :=
  dvStep k bias q dof l (dvStep k bias q dof l (dvStep k bias q dof l (dvStep k bias q dof l k0_pay10 0) 1) 2) 3

def dskOf (a : FVec Ideal S1x1x128 .f32) : FVec Ideal S1x1x128 .f32 :=
  k0_pay54 lanes (k0_pay39 (k0_pay29 lanes (k0_pay20 lanes k0_pay11 (k0_pay13 (l 0)) (k0_pay14 (dof 0) (o 0)) (s 0))
      (k0_pay22 (l 1)) (k0_pay23 (dof 1) (o 1)) (s 1)) (k0_pay38 lanes (dof 2) (k0_pay31 (l 2)) (o 2) (s 2)))
    (k0_pay42 (dof 3) (o 3)) (k0_pay48 (l 3) (s 3)) a

end

section
variable (K V : ℕ → ℕ → ℝ) (Q D O : ℕ → ℕ → ℕ → ℝ) (L : ℕ → ℕ → ℝ) (S : ℕ → ℝ) (Vis : ℕ → ℕ → Prop)
  [∀ r n, Decidable (Vis r n)]

/-- The probability, from the saved log-sum-exp `L`. -/
def probR (g r n : ℕ) : ℝ := if Vis r n then Real.exp ((∑ d : Fin 128, Q g r d * K n d) * scale - L g r) else 0

/-- The row's correction, from the saved output `O`. -/
def deltaR (g r : ℕ) : ℝ := ∑ d : Fin 128, D g r d * O g r d

def dsR (g r n : ℕ) : ℝ := probR K Q L Vis g r n * ((∑ d : Fin 128, D g r d * V n d) - deltaR D O g r)

variable {K V Q D O L S Vis}
variable {k v : FVec Ideal S640x128 .bf16} {bias : FVec Ideal S128x640 .f32} {q : Fin 4 → FVec Ideal S128x128 .bf16}
  {dof : Fin 4 → FVec Ideal S128x128 .f32} {o : Fin 4 → FVec Ideal S128x128 .bf16} {l : Fin 4 → FVec Ideal S128x1 .f32}
  {s : Fin 4 → FVec Ideal S1x1x1 .f32}

theorem pOf_holds (hk : Holds2 k K) (hb : Masks bias Vis) (hq : ∀ g, Holds2 (q g) (Q g))
    (hl : ∀ g, Holds2 (l g) fun r _ => L g r) (g : Fin 4) : Holds2 (pOf k bias q l g) (probR K Q L Vis g) :=
  prob_holds hk hb (hq g) (hl g)

theorem dob_holds (hd : ∀ g, Holds2 (dof g) (D g)) (g : Fin 4) : Holds2 (k0_pay21 (F := Ideal) (dof g)) (D g) := by
  intro r d
  have := hd g r d
  pointwise [k0_pay21]
  exact this

theorem dsOf_holds (hk : Holds2 k K) (hv : Holds2 v V) (hb : Masks bias Vis) (hq : ∀ g, Holds2 (q g) (Q g))
    (hl : ∀ g, Holds2 (l g) fun r _ => L g r) (hd : ∀ g, Holds2 (dof g) (D g)) (ho : ∀ g, Holds2 (o g) (O g)) (g : Fin 4) :
    Holds2 (k0_pay25 v (k0_pay21 (dof g)) (dlOf dof o g) (pOf k bias q l g)) (dsR K V Q D O L Vis g) :=
  ds_holds hv (dob_holds hd g) (delta_holds (hd g) (ho g)) (pOf_holds hk hb hq hl g)

theorem dqOf_holds (hk : Holds2 k K) (hv : Holds2 v V) (hb : Masks bias Vis) (hq : ∀ g, Holds2 (q g) (Q g))
    (hl : ∀ g, Holds2 (l g) fun r _ => L g r) (hd : ∀ g, Holds2 (dof g) (D g)) (ho : ∀ g, Holds2 (o g) (O g)) (g : Fin 4) :
    Holds2 (dqOf k v bias q dof o l g) fun r d => (∑ n : Fin 640, dsR K V Q D O L Vis g r n * K n d) * scale :=
  dq_holds hk (dsOf_holds hk hv hb hq hl hd ho g)

theorem dkOf_holds (hk : Holds2 k K) (hv : Holds2 v V) (hb : Masks bias Vis) (hq : ∀ g, Holds2 (q g) (Q g))
    (hl : ∀ g, Holds2 (l g) fun r _ => L g r) (hd : ∀ g, Holds2 (dof g) (D g)) (ho : ∀ g, Holds2 (o g) (O g)) :
    Holds2 (dkOf k v bias q dof o l) fun n d => ∑ g : Fin 4, ∑ r : Fin 128, dsR K V Q D O L Vis g r n * Q g r d := by
  have step := fun {a : FVec Ideal S640x128 .f32} {A} (h : Holds2 a A) (g : Fin 4) =>
    dk_holds h (hq g) (dsOf_holds hk hv hb hq hl hd ho g)
  have z : Holds2 (k0_pay9 (F := Ideal)) fun _ _ => 0 := fun n d => by pointwise [k0_pay9]; exact EReal.coe_zero.symm
  intro n d
  refine (step (step (step (step z 0) 1) 2) 3 n d).trans ?_
  simp only [Fin.sum_univ_four, zero_add]

theorem dvOf_holds (hk : Holds2 k K) (hb : Masks bias Vis) (hq : ∀ g, Holds2 (q g) (Q g))
    (hl : ∀ g, Holds2 (l g) fun r _ => L g r) (hd : ∀ g, Holds2 (dof g) (D g)) :
    Holds2 (dvOf k bias q dof l) fun n d => ∑ g : Fin 4, ∑ r : Fin 128, probR K Q L Vis g r n * D g r d := by
  have step := fun {a : FVec Ideal S640x128 .f32} {A} (h : Holds2 a A) (g : Fin 4) =>
    dv_holds h (dob_holds hd g) (pOf_holds hk hb hq hl g)
  have z : Holds2 (k0_pay10 (F := Ideal)) fun _ _ => 0 := fun n d => by pointwise [k0_pay10]; exact EReal.coe_zero.symm
  intro n d
  refine (step (step (step (step z 0) 1) 2) 3 n d).trans ?_
  simp only [Fin.sum_univ_four, zero_add]

theorem dskOf_holds {a : FVec Ideal S1x1x128 .f32} (hs : ∀ g, s g (ix3 0 0 0) = ((S g.val : ℝ) : EReal))
    (hl : ∀ g, Holds2 (l g) fun r _ => L g r) (hd : ∀ g, Holds2 (dof g) (D g)) (ho : ∀ g, Holds2 (o g) (O g)) (n : Fin 128) :
    dskOf dof o l s a (ix3 0 0 n) = a (ix3 0 0 n) +
      ((∑ g : Fin 4, if (n : ℕ) = g then -∑ r : Fin 128, Real.exp (S g - L g r) * deltaR D O g r else 0 : ℝ) : EReal) := by
  have h1 := fun (g : Fin 4) (r : Fin 128) => hl g r 0
  have h2 := fun (g : Fin 4) (r : Fin 128) (d : Fin 128) => hd g r d
  have h3 := fun (g : Fin 4) (r : Fin 128) (d : Fin 128) => ho g r d
  pointwise [dskOf, k0_pay54, k0_pay39, k0_pay29, k0_pay20, k0_pay11, k0_pay13, k0_pay14, k0_pay22, k0_pay23, k0_pay38,
    k0_pay31, k0_pay32, k0_pay42, k0_pay41, k0_pay48, lanes, h1, h2, h3, hs]
  rw [lane_select 0 (by decide) n, lane_select 1 (by decide) n, lane_select 2 (by decide) n, lane_select 3 (by decide) n]
  refine congrArg _ ?_
  have ite_coe : ∀ (g : ℕ) (x : ℝ), (if (n : ℕ) = g then (x : EReal) else 0) = ((if (n : ℕ) = g then x else 0 : ℝ) : EReal) :=
    fun g x => by split <;> simp
  simp only [← EReal.coe_mul, ← coe_sum, ← EReal.coe_sub, Ideal.exp_coe, zero_sub, ← EReal.coe_neg, ite_coe, ← EReal.coe_add]
  rw [Fin.sum_univ_four]
  rfl

end

end Cert.AttnGrad

end
-- ==== Proof.Point.lean ====
/- One grid point of the gradient's kernel: from what the blocks hold to the gradients the point contributes. -/
module

public import proofs.«01_k».proof.Proof.Groups
public import Idealize.ShloMosaic.Lib.VecWindow

@[expose] public section

set_option maxRecDepth 16384

noncomputable section

namespace Cert.AttnGrad

open Idealize.ShloMosaic Idealize.ShloMosaic.TcCoe Idealize.SL.Sem
open Cert.KernelIdeal Cert.KernelIdeal.Gen

/-- Columns `w…` of a block of 512 columns. -/
theorem columns {x : S128x512.Idx → EReal} {f : ℕ → ℕ → ℝ} (w : ℕ) (hx : Holds2 x f)
    (inb : ∀ a, (![0, w] : Fin 2 → ℕ) a + (![128, 128] : Fin 2 → ℕ) a ≤ S128x512.size a) :
    Holds2 (s0 := 128) (s1 := 128) (VecWindow.window x ![0, w] ![128, 128] inb) fun r d => f r (w + d) := fun r d =>
  (congrArg x (by funext a; match a with | ⟨0, _⟩ => exact Fin.ext (by show 0 + 1 * (r : ℕ) = r; omega) | ⟨1, _⟩ => exact Fin.ext (by show w + 1 * (d : ℕ) = w + d; omega))).trans
    (hx.read (a := r) (b := ⟨w + d, by have h1 := inb 1; have h2 := d.isLt; simp [S128x512] at h1; omega⟩) rfl rfl)

/-- Column `w` of a block of 128 columns. -/
theorem column {x : S128x128.Idx → EReal} {f : ℕ → ℕ → ℝ} (w : ℕ) (hx : Holds2 x f)
    (inb : ∀ a, (![0, w] : Fin 2 → ℕ) a + (![128, 1] : Fin 2 → ℕ) a ≤ S128x128.size a) :
    Holds2 (s0 := 128) (s1 := 1) (VecWindow.window x ![0, w] ![128, 1] inb) fun r _ => f r w := fun r d =>
  (congrArg x (by funext a; match a with | ⟨0, _⟩ => exact Fin.ext (by show 0 + 1 * (r : ℕ) = r; omega) | ⟨1, _⟩ => exact Fin.ext (by show w + 1 * (d : ℕ) = w; omega))).trans
    (hx.read (a := r) (b := ⟨w, by have h1 := inb 1; simp [S128x128] at h1; omega⟩) rfl rfl)

/-- Entry `w` of the sinks' block. -/
theorem entry {x : S1x8x128.Idx → EReal} {f : ℕ → ℝ} (w : Fin 128) (hx : ∀ g : Fin 4, x (ix3 0 0 ⟨g, by omega⟩) = ((f g : ℝ) : EReal)) (hw : w.val < 4)
    (inb : ∀ a, (![0, 0, w.val] : Fin 3 → ℕ) a + (![1, 1, 1] : Fin 3 → ℕ) a ≤ S1x8x128.size a) :
    (VecWindow.window x ![0, 0, w.val] ![1, 1, 1] inb : S1x1x1.Idx → EReal) (ix3 0 0 0) = ((f w : ℝ) : EReal) :=
  (congrArg x (by funext a; match a with | ⟨0, _⟩ => rfl | ⟨1, _⟩ => rfl | ⟨2, _⟩ => exact Fin.ext (by show w.val + 1 * 0 = w; omega))).trans (hx ⟨w, hw⟩)

section
variable {X : ℕ → ℕ → ℝ} {b : ℕ} (hb : b < 66) (C : ℕ)
  {x4 : FVec Ideal S256x128 .bf16} {x5 x6 x7 : FVec Ideal S128x128 .bf16}
  (h4 : Holds2 x4 fun n d => X n (C + d)) (h5 : Holds2 x5 fun r d => X (128 * (b - 1) + r) (C + d))
  (h6 : Holds2 x6 fun r d => X (128 * b + r) (C + d)) (h7 : Holds2 x7 fun r d => X (128 * min (b + 1) 65 + r) (C + d))
include hb h4 h5 h6 h7

/-- The 640 key rows of a block: the context, then the previous, the own and the next block. -/
theorem keys_read : Holds2 (k0_pay1 (F := Ideal) x4 x5 x6 x7) fun n d => X (keyRow b n) (C + d) := by
  intro n d
  have e4 := fun (n : Fin 256) (d : Fin 128) => h4 n d
  have e5 := fun (n : Fin 128) (d : Fin 128) => h5 n d
  have e6 := fun (n : Fin 128) (d : Fin 128) => h6 n d
  have e7 := fun (n : Fin 128) (d : Fin 128) => h7 n d
  pointwise [k0_pay1, e4, e5, e6, e7]
  unfold keyRow
  have hn := n.isLt
  by_cases c1 : (n : ℕ) < 256
  · rw [dif_pos c1, if_pos c1]
  · rw [dif_neg c1, if_neg c1]
    by_cases c2 : (n : ℕ) - 256 < 128
    · rw [dif_pos c2]; congr 2; omega
    · rw [dif_neg c2]
      by_cases c3 : (n : ℕ) - 256 - 128 < 128
      · rw [dif_pos c3]; congr 2; omega
      · rw [dif_neg c3]; congr 2; omega

theorem values_read : Holds2 (k0_pay2 (F := Ideal) x4 x5 x6 x7) fun n d => X (keyRow b n) (C + d) := keys_read hb C h4 h5 h6 h7

end

/-- The additive mask of grid point `i`. -/
abbrev maskOf (i : grid0.Coords) : FVec Ideal S128x640 .f32 := k0_pay8 (F := Ideal) (k0_pay3 i) (k0_pay4 i) (k0_pay5 i) k0_pay6 k0_pay7

/-- What the loads of query head `g` hold: its queries, the output's cotangent, the saved output and log-sum-exp, the sink. -/
structure Head (X : ℕ → ℕ → ℝ) (S : ℕ → ℝ) (D : ℕ → ℕ → ℝ) (b h g : ℕ) (q : FVec Ideal S128x128 .bf16) (dof : FVec Ideal S128x128 .f32)
    (o : FVec Ideal S128x128 .bf16) (l : FVec Ideal S128x1 .f32) (s : FVec Ideal S1x1x1 .f32) : Prop where
  hq : Holds2 (s0 := 128) (s1 := 128) q fun r d => X (128 * b + r) (512 * h + 128 * g + d)
  hd : Holds2 (s0 := 128) (s1 := 128) dof fun r d => D (128 * b + r) (512 * h + 128 * g + d)
  ho : Holds2 (s0 := 128) (s1 := 128) o fun r d => out scale X S b r h g d
  hl : Holds2 (s0 := 128) (s1 := 1) l fun r _ => Real.log (den scale X S b r h g)
  hs : s (ix3 0 0 0) = ((S (4 * h + g) : ℝ) : EReal)

section
variable {X : ℕ → ℕ → ℝ} {S : ℕ → ℝ} {D : ℕ → ℕ → ℝ} {b h : ℕ}

abbrev KR (X : ℕ → ℕ → ℝ) (b h : ℕ) : ℕ → ℕ → ℝ := fun n d => X (keyRow b n) (2048 + 128 * h + d)
abbrev VR (X : ℕ → ℕ → ℝ) (b h : ℕ) : ℕ → ℕ → ℝ := fun n d => X (keyRow b n) (2560 + 128 * h + d)
abbrev QR (X : ℕ → ℕ → ℝ) (b h : ℕ) : ℕ → ℕ → ℕ → ℝ := fun g r d => X (128 * b + r) (512 * h + 128 * g + d)
abbrev OR (X : ℕ → ℕ → ℝ) (S : ℕ → ℝ) (b h : ℕ) : ℕ → ℕ → ℕ → ℝ := fun g r d => out scale X S b r h g d
abbrev LR (X : ℕ → ℕ → ℝ) (S : ℕ → ℝ) (b h : ℕ) : ℕ → ℕ → ℝ := fun g r => Real.log (den scale X S b r h g)

/-- The exponential against the saved log-sum-exp is the softmax's probability. -/
theorem probR_eq (g r n : ℕ) : probR (KR X b h) (QR X b h) (LR X S b h) (Visible b) g r n = prob scale X S b r h g n := by
  unfold probR prob weight
  by_cases hv : Visible b r n
  · rw [if_pos hv, if_pos hv, exp_sub_log_den]; rfl
  · rw [if_neg hv, if_neg hv, zero_div]

theorem deltaR_eq (g r : ℕ) : deltaR (QR D b h) (OR X S b h) g r = delta scale X S D b r h g := sum_out_eq_delta ..

theorem dsR_eq (g r n : ℕ) :
    dsR (KR X b h) (VR X b h) (QR X b h) (QR D b h) (OR X S b h) (LR X S b h) (Visible b) g r n = dlogit scale X S D b r h g n := by
  unfold dsR
  rw [probR_eq, deltaR_eq]
  rfl

variable {i : grid0.Coords} {k v : FVec Ideal S640x128 .bf16}
  {q0 q1 q2 q3 : FVec Ideal S128x128 .bf16} {d0 d1 d2 d3 : FVec Ideal S128x128 .f32} {o0 o1 o2 o3 : FVec Ideal S128x128 .bf16}
  {l0 l1 l2 l3 : FVec Ideal S128x1 .f32} {s0 s1 s2 s3 : FVec Ideal S1x1x1 .f32}
  (hi : (i 1).val = b) (hk : Holds2 (s0 := 640) (s1 := 128) k (KR X b h)) (hv : Holds2 (s0 := 640) (s1 := 128) v (VR X b h))
  (H0 : Head X S D b h 0 q0 d0 o0 l0 s0) (H1 : Head X S D b h 1 q1 d1 o1 l1 s1)
  (H2 : Head X S D b h 2 q2 d2 o2 l2 s2) (H3 : Head X S D b h 3 q3 d3 o3 l3 s3)

include H0 H1 H2 H3 in
theorem all_heads : ∀ g : Fin 4, Head X S D b h g (![q0, q1, q2, q3] g) (![d0, d1, d2, d3] g) (![o0, o1, o2, o3] g)
    (![l0, l1, l2, l3] g) (![s0, s1, s2, s3] g)
  | 0 => H0 | 1 => H1 | 2 => H2 | 3 => H3

include hi hk hv H0 H1 H2 H3

/-- The query gradients of the four heads. -/
theorem dquery_read (g : Fin 4) : Holds2 (s0 := 128) (s1 := 128)
    (dqOf k v (maskOf i) ![q0, q1, q2, q3] ![d0, d1, d2, d3] ![o0, o1, o2, o3] ![l0, l1, l2, l3] g)
    fun r d => dquery scale X S D b r h g d := by
  have H := all_heads H0 H1 H2 H3
  intro r d
  refine (dqOf_holds (K := KR X b h) (V := VR X b h) (Q := QR X b h) (D := QR D b h) (O := OR X S b h) (L := LR X S b h) hk hv (hi ▸ bias_masks i : Masks (maskOf i) (Visible b)) (fun g => (H g).hq) (fun g => (H g).hl) (fun g => (H g).hd)
    (fun g => (H g).ho) g r d).trans ?_
  simp only [dsR_eq]
  rfl

theorem dquery_0 : Holds2 (s0 := 128) (s1 := 128)
    (k0_pay17 (F := Ideal) k v (k0_pay3 i) (k0_pay4 i) (k0_pay5 i) k0_pay6 k0_pay7 q0 d0 l0 o0) fun r d => dquery scale X S D b r h 0 d :=
  dquery_read hi hk hv H0 H1 H2 H3 0

theorem dquery_1 : Holds2 (s0 := 128) (s1 := 128)
    (k0_pay26 (F := Ideal) k v (k0_pay21 d1) (k0_pay23 d1 o1) (k0_pay24 k (maskOf i) q1 l1)) fun r d => dquery scale X S D b r h 1 d :=
  dquery_read hi hk hv H0 H1 H2 H3 1

theorem dquery_2 : Holds2 (s0 := 128) (s1 := 128)
    (k0_pay35 (F := Ideal) k v (maskOf i) q2 d2 (k0_pay30 d2) (k0_pay31 l2) o2) fun r d => dquery scale X S D b r h 2 d :=
  dquery_read hi hk hv H0 H1 H2 H3 2

theorem dquery_3 : Holds2 (s0 := 128) (s1 := 128)
    (k0_pay45 (F := Ideal) k v (maskOf i) q3 d3 l3 o3) fun r d => dquery scale X S D b r h 3 d :=
  dquery_read hi hk hv H0 H1 H2 H3 3

/-- The four heads' key gradients before the scale. -/
abbrev dkAll (i : grid0.Coords) (k v : FVec Ideal S640x128 .bf16) (q0 q1 q2 q3 : FVec Ideal S128x128 .bf16) (d0 d1 d2 d3 : FVec Ideal S128x128 .f32)
    (o0 o1 o2 o3 : FVec Ideal S128x128 .bf16) (l0 l1 l2 l3 : FVec Ideal S128x1 .f32) : FVec Ideal S640x128 .f32 :=
  k0_pay46 k v (maskOf i)
    (k0_pay36 k v (maskOf i)
      (k0_pay27 v
        (k0_pay18 k0_pay9 q0 (k0_pay16 k v (k0_pay3 i) (k0_pay4 i) (k0_pay5 i) k0_pay6 k0_pay7 q0 d0 l0 o0))
        q1 (k0_pay21 d1) (k0_pay23 d1 o1) (k0_pay24 k (maskOf i) q1 l1))
      q2 d2 (k0_pay30 d2) (k0_pay31 l2) o2)
    q3 d3 l3 o3

abbrev dvAll (i : grid0.Coords) (k : FVec Ideal S640x128 .bf16) (q0 q1 q2 q3 : FVec Ideal S128x128 .bf16) (d0 d1 d2 d3 : FVec Ideal S128x128 .f32)
    (l0 l1 l2 l3 : FVec Ideal S128x1 .f32) : FVec Ideal S640x128 .f32 :=
  k0_pay47 k (maskOf i)
    (k0_pay37 k (maskOf i)
      (k0_pay28 (k0_pay19 k0_pay10 (k0_pay12 d0) (k0_pay15 k (k0_pay3 i) (k0_pay4 i) (k0_pay5 i) k0_pay6 k0_pay7 q0 l0))
        (k0_pay21 d1) (k0_pay24 k (maskOf i) q1 l1))
      q2 (k0_pay30 d2) (k0_pay31 l2))
    q3 d3 l3

/-- The keys' gradient before the scale. -/
def dkey0 (X : ℕ → ℕ → ℝ) (S : ℕ → ℝ) (D : ℕ → ℕ → ℝ) (b h n d : ℕ) : ℝ :=
  ∑ g : Fin 4, ∑ r : Fin 128, dlogit scale X S D b r h g n * X (128 * b + r) (512 * h + 128 * g + d)

omit hi hk hv H0 H1 H2 H3 in
theorem dkAll_eq : dkAll i k v q0 q1 q2 q3 d0 d1 d2 d3 o0 o1 o2 o3 l0 l1 l2 l3
    = dkOf k v (maskOf i) ![q0, q1, q2, q3] ![d0, d1, d2, d3] ![o0, o1, o2, o3] ![l0, l1, l2, l3] := rfl

omit hi hk hv H0 H1 H2 H3 in
theorem dvAll_eq : dvAll i k q0 q1 q2 q3 d0 d1 d2 d3 l0 l1 l2 l3
    = dvOf k (maskOf i) ![q0, q1, q2, q3] ![d0, d1, d2, d3] ![l0, l1, l2, l3] := rfl

theorem dkey_read : Holds2 (s0 := 640) (s1 := 128) (dkAll i k v q0 q1 q2 q3 d0 d1 d2 d3 o0 o1 o2 o3 l0 l1 l2 l3)
    fun n d => dkey0 X S D b h n d := by
  have H := all_heads H0 H1 H2 H3
  intro n d
  rw [dkAll_eq]
  refine (dkOf_holds (K := KR X b h) (V := VR X b h) (Q := QR X b h) (D := QR D b h) (O := OR X S b h) (L := LR X S b h) hk hv (hi ▸ bias_masks i : Masks (maskOf i) (Visible b)) (fun g => (H g).hq) (fun g => (H g).hl) (fun g => (H g).hd)
    (fun g => (H g).ho) n d).trans ?_
  simp only [dsR_eq]
  rfl

theorem dvalue_read : Holds2 (s0 := 640) (s1 := 128) (dvAll i k q0 q1 q2 q3 d0 d1 d2 d3 l0 l1 l2 l3)
    fun n d => dvalue scale X S D b h n d := by
  have H := all_heads H0 H1 H2 H3
  intro n d
  rw [dvAll_eq]
  refine (dvOf_holds (K := KR X b h) (Q := QR X b h) (D := QR D b h) (L := LR X S b h) hk (hi ▸ bias_masks i : Masks (maskOf i) (Visible b)) (fun g => (H g).hq) (fun g => (H g).hl) (fun g => (H g).hd)
    n d).trans ?_
  simp only [probR_eq]
  rfl

/-- The sinks' gradient added to a row `a`. -/
theorem dsink_read (a : FVec Ideal S1x1x128 .f32) (n : Fin 128) :
    k0_pay54 (F := Ideal) lanes (k0_pay39 (k0_pay29 lanes (k0_pay20 lanes k0_pay11 (k0_pay13 l0) (k0_pay14 d0 o0) s0)
      (k0_pay22 l1) (k0_pay23 d1 o1) s1) (k0_pay38 lanes d2 (k0_pay31 l2) o2 s2))
      (k0_pay42 d3 o3) (k0_pay48 l3 s3) a (ix3 0 0 n)
    = a (ix3 0 0 n) + ((if (n : ℕ) < 4 then dsink scale X S D b h n else 0 : ℝ) : EReal) := by
  have H := all_heads H0 H1 H2 H3
  refine (dskOf_holds (D := QR D b h) (O := OR X S b h) (L := LR X S b h) (S := fun g => S (4 * h + g)) (dof := ![d0, d1, d2, d3]) (o := ![o0, o1, o2, o3]) (l := ![l0, l1, l2, l3])
    (s := ![s0, s1, s2, s3]) (a := a) (fun g => (H g).hs) (fun g => (H g).hl) (fun g => (H g).hd) (fun g => (H g).ho) n).trans ?_
  have e : ∀ g r : ℕ, Real.exp (S (4 * h + g) - LR X S b h g r) * deltaR (QR D b h) (OR X S b h) g r
      = Real.exp (S (4 * h + g)) / den scale X S b r h g * delta scale X S D b r h g := fun g r => by
    rw [deltaR_eq, exp_sub_log_den]
  simp only [e]
  refine congrArg (fun z : ℝ => a (ix3 0 0 n) + (z : EReal)) ?_
  by_cases hn : (n : ℕ) < 4
  · rw [if_pos hn, Finset.sum_eq_single (⟨n, hn⟩ : Fin 4)]
    · rw [if_pos rfl]; rfl
    · intro g _ hg; rw [if_neg fun c => hg (Fin.ext c.symm)]
    · intro c; exact absurd (Finset.mem_univ _) c
  · rw [if_neg hn]
    exact Finset.sum_eq_zero fun g _ => by rw [if_neg]; have := g.isLt; omega

end

end Cert.AttnGrad

end
-- ==== Proof.Blocks.lean ====
/- The blocks the gradient's kernel reads at a grid point. -/
module

public import proofs.«01_k».proof.Proof.Gen.KernelIdeal.Frame
public import proofs.«01_k».proof.Proof.Point
public import Idealize.ShloMosaic.Lib.Pipeline.ValueKit

@[expose] public section

set_option maxRecDepth 16384

noncomputable section

namespace Cert.AttnGrad

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

theorem point_bounds (t : Fin cfg0.N) : t.val % 66 < 66 ∧ t.val / 66 < 4 := by
  have h : t.val < 264 := lt_of_lt_of_eq t.isLt (by decide)
  omega

theorem coords_block : ∀ t : Fin grid0.N, (grid0.coords t 1).val = t.val % 66 := by decide +kernel

/-- Where each window's block lies: its block coordinates at grid point `t`. -/
theorem index_0 : ∀ t : Fin grid0.N, win0_0.index t 0 = t.val % 66 ∧ win0_0.index t 1 = t.val / 66 := by decide +kernel
theorem index_1 : ∀ t : Fin grid0.N, win0_1.index t 0 = t.val % 66 ∧ win0_1.index t 1 = t.val / 66 := by decide +kernel
theorem index_2 : ∀ t : Fin grid0.N, win0_2.index t 0 = t.val % 66 ∧ win0_2.index t 1 = t.val / 66 := by decide +kernel
theorem index_3 : ∀ t : Fin grid0.N, win0_3.index t 0 = t.val % 66 ∧ win0_3.index t 1 = t.val / 66 := by decide +kernel
theorem index_4 : ∀ t : Fin grid0.N, win0_4.index t 0 = 0 ∧ win0_4.index t 1 = 16 + t.val / 66 := by decide +kernel
theorem index_5 : ∀ t : Fin grid0.N, win0_5.index t 0 = t.val % 66 - 1 ∧ win0_5.index t 1 = 16 + t.val / 66 := by decide +kernel
theorem index_6 : ∀ t : Fin grid0.N, win0_6.index t 0 = t.val % 66 ∧ win0_6.index t 1 = 16 + t.val / 66 := by decide +kernel
theorem index_7 : ∀ t : Fin grid0.N, win0_7.index t 0 = min (t.val % 66 + 1) 65 ∧ win0_7.index t 1 = 16 + t.val / 66 := by decide +kernel
theorem index_8 : ∀ t : Fin grid0.N, win0_8.index t 0 = 0 ∧ win0_8.index t 1 = 20 + t.val / 66 := by decide +kernel
theorem index_9 : ∀ t : Fin grid0.N, win0_9.index t 0 = t.val % 66 - 1 ∧ win0_9.index t 1 = 20 + t.val / 66 := by decide +kernel
theorem index_10 : ∀ t : Fin grid0.N, win0_10.index t 0 = t.val % 66 ∧ win0_10.index t 1 = 20 + t.val / 66 := by decide +kernel
theorem index_11 : ∀ t : Fin grid0.N, win0_11.index t 0 = min (t.val % 66 + 1) 65 ∧ win0_11.index t 1 = 20 + t.val / 66 := by decide +kernel
theorem index_12 : ∀ t : Fin grid0.N, win0_12.index t 0 = t.val / 66 ∧ win0_12.index t 1 = 0 ∧ win0_12.index t 2 = 0 := by decide +kernel

/-- A holding matrix at an index given by its coordinates. -/
theorem Holds2.at {s0 s1 : ℕ} {x : (⟨2, ![s0, s1]⟩ : Shape).Idx → EReal} {f : ℕ → ℕ → ℝ} (hx : Holds2 x f)
    (j : (⟨2, ![s0, s1]⟩ : Shape).Idx) {a b : ℕ} (h0 : (j 0).val = a) (h1 : (j 1).val = b) : x j = ((f a b : ℝ) : EReal) := by
  have e : j = ix2 (j 0) (j 1) := by funext a; match a with | ⟨0, _⟩ => rfl | ⟨1, _⟩ => rfl
  rw [e]
  exact hx.read h0 h1

section
variable {X D O L : ℕ → ℕ → ℝ}

theorem block_0 (hf : Holds2 (s0 := 8448) (s1 := 2048) (V m c main_arg2) D) :
    Holds2 (s0 := 128) (s1 := 512) (iblk m c 0 t) fun r d => D (128 * (t.val % 66) + r) (512 * (t.val / 66) + d) := fun r d =>
  hf.at _ (by show win0_0.index t 0 * 128 + 1 * r.val = _; rw [(index_0 t).1]; omega)
    (by show win0_0.index t 1 * 512 + 1 * d.val = _; rw [(index_0 t).2]; omega)

theorem block_1 (hf : Holds2 (s0 := 8448) (s1 := 2048) (V m c main_v124) O) :
    Holds2 (s0 := 128) (s1 := 512) (iblk m c 1 t) fun r d => O (128 * (t.val % 66) + r) (512 * (t.val / 66) + d) := fun r d =>
  hf.at _ (by show win0_1.index t 0 * 128 + 1 * r.val = _; rw [(index_1 t).1]; omega)
    (by show win0_1.index t 1 * 512 + 1 * d.val = _; rw [(index_1 t).2]; omega)

theorem block_2 (hf : Holds2 (s0 := 8448) (s1 := 512) (V m c main_v123) L) :
    Holds2 (s0 := 128) (s1 := 128) (iblk m c 2 t) fun r d => L (128 * (t.val % 66) + r) (128 * (t.val / 66) + d) := fun r d =>
  hf.at _ (by show win0_2.index t 0 * 128 + 1 * r.val = _; rw [(index_2 t).1]; omega)
    (by show win0_2.index t 1 * 128 + 1 * d.val = _; rw [(index_2 t).2]; omega)

theorem block_3 (hf : Holds2 (s0 := 8448) (s1 := 3072) (V m c main_arg0) X) :
    Holds2 (s0 := 128) (s1 := 512) (iblk m c 3 t) fun r d => X (128 * (t.val % 66) + r) (512 * (t.val / 66) + d) := fun r d =>
  hf.at _ (by show win0_3.index t 0 * 128 + 1 * r.val = _; rw [(index_3 t).1]; omega)
    (by show win0_3.index t 1 * 512 + 1 * d.val = _; rw [(index_3 t).2]; omega)

theorem block_4 (hf : Holds2 (s0 := 8448) (s1 := 3072) (V m c main_arg0) X) :
    Holds2 (s0 := 256) (s1 := 128) (iblk m c 4 t) fun r d => X (r) (2048 + 128 * (t.val / 66) + d) := fun r d =>
  hf.at _ (by show win0_4.index t 0 * 256 + 1 * r.val = _; rw [(index_4 t).1]; omega)
    (by show win0_4.index t 1 * 128 + 1 * d.val = _; rw [(index_4 t).2]; omega)

theorem block_5 (hf : Holds2 (s0 := 8448) (s1 := 3072) (V m c main_arg0) X) :
    Holds2 (s0 := 128) (s1 := 128) (iblk m c 5 t) fun r d => X (128 * (t.val % 66 - 1) + r) (2048 + 128 * (t.val / 66) + d) := fun r d =>
  hf.at _ (by show win0_5.index t 0 * 128 + 1 * r.val = _; rw [(index_5 t).1]; omega)
    (by show win0_5.index t 1 * 128 + 1 * d.val = _; rw [(index_5 t).2]; omega)

theorem block_6 (hf : Holds2 (s0 := 8448) (s1 := 3072) (V m c main_arg0) X) :
    Holds2 (s0 := 128) (s1 := 128) (iblk m c 6 t) fun r d => X (128 * (t.val % 66) + r) (2048 + 128 * (t.val / 66) + d) := fun r d =>
  hf.at _ (by show win0_6.index t 0 * 128 + 1 * r.val = _; rw [(index_6 t).1]; omega)
    (by show win0_6.index t 1 * 128 + 1 * d.val = _; rw [(index_6 t).2]; omega)

theorem block_7 (hf : Holds2 (s0 := 8448) (s1 := 3072) (V m c main_arg0) X) :
    Holds2 (s0 := 128) (s1 := 128) (iblk m c 7 t) fun r d => X (128 * (min (t.val % 66 + 1) 65) + r) (2048 + 128 * (t.val / 66) + d) := fun r d =>
  hf.at _ (by show win0_7.index t 0 * 128 + 1 * r.val = _; rw [(index_7 t).1]; omega)
    (by show win0_7.index t 1 * 128 + 1 * d.val = _; rw [(index_7 t).2]; omega)

theorem block_8 (hf : Holds2 (s0 := 8448) (s1 := 3072) (V m c main_arg0) X) :
    Holds2 (s0 := 256) (s1 := 128) (iblk m c 8 t) fun r d => X (r) (2560 + 128 * (t.val / 66) + d) := fun r d =>
  hf.at _ (by show win0_8.index t 0 * 256 + 1 * r.val = _; rw [(index_8 t).1]; omega)
    (by show win0_8.index t 1 * 128 + 1 * d.val = _; rw [(index_8 t).2]; omega)

theorem block_9 (hf : Holds2 (s0 := 8448) (s1 := 3072) (V m c main_arg0) X) :
    Holds2 (s0 := 128) (s1 := 128) (iblk m c 9 t) fun r d => X (128 * (t.val % 66 - 1) + r) (2560 + 128 * (t.val / 66) + d) := fun r d =>
  hf.at _ (by show win0_9.index t 0 * 128 + 1 * r.val = _; rw [(index_9 t).1]; omega)
    (by show win0_9.index t 1 * 128 + 1 * d.val = _; rw [(index_9 t).2]; omega)

theorem block_10 (hf : Holds2 (s0 := 8448) (s1 := 3072) (V m c main_arg0) X) :
    Holds2 (s0 := 128) (s1 := 128) (iblk m c 10 t) fun r d => X (128 * (t.val % 66) + r) (2560 + 128 * (t.val / 66) + d) := fun r d =>
  hf.at _ (by show win0_10.index t 0 * 128 + 1 * r.val = _; rw [(index_10 t).1]; omega)
    (by show win0_10.index t 1 * 128 + 1 * d.val = _; rw [(index_10 t).2]; omega)

theorem block_11 (hf : Holds2 (s0 := 8448) (s1 := 3072) (V m c main_arg0) X) :
    Holds2 (s0 := 128) (s1 := 128) (iblk m c 11 t) fun r d => X (128 * (min (t.val % 66 + 1) 65) + r) (2560 + 128 * (t.val / 66) + d) := fun r d =>
  hf.at _ (by show win0_11.index t 0 * 128 + 1 * r.val = _; rw [(index_11 t).1]; omega)
    (by show win0_11.index t 1 * 128 + 1 * d.val = _; rw [(index_11 t).2]; omega)

theorem block_12 {S : ℕ → ℝ} (hf : ∀ (h : Fin 4) (g : Fin 4), V m c main_v127 (ix3 h 0 ⟨g, by omega⟩) = ((S (4 * h + g) : ℝ) : EReal)) (g : Fin 4) :
    iblk m c 12 t (ix3 0 0 ⟨g, by omega⟩) = ((S (4 * (t.val / 66) + g) : ℝ) : EReal) := by
  refine Eq.trans ?_ (hf ⟨t.val / 66, (point_bounds t).2⟩ g)
  refine congrArg (V m c main_v127) ?_
  funext a
  match a with
  | ⟨0, _⟩ => exact Fin.ext (by show win0_12.index t 0 * 1 + 1 * 0 = t.val / 66; rw [(index_12 t).1]; omega)
  | ⟨1, _⟩ => exact Fin.ext (by show win0_12.index t 1 * 8 + 1 * 0 = 0; rw [(index_12 t).2.1])
  | ⟨2, _⟩ => exact Fin.ext (by show win0_12.index t 2 * 128 + 1 * g.val = g.val; rw [(index_12 t).2.2]; omega)

end

end Cert.AttnGrad

end
-- ==== Proof.Entry.lean ====
/- What the loads of the gradient's kernel hold at a grid point. -/
module

public import proofs.«01_k».proof.Proof.Saved
public import proofs.«01_k».proof.Proof.Blocks

@[expose] public section

set_option maxRecDepth 16384

noncomputable section

namespace Cert.AttnGrad

open Idealize.ShloMosaic Idealize.ShloMosaic.TcCoe Idealize.SL.Sem
open Cert.KernelIdeal Cert.KernelIdeal.Gen

theorem Holds2.congr {s0 s1 : ℕ} {x : (⟨2, ![s0, s1]⟩ : Shape).Idx → EReal} {f g : ℕ → ℕ → ℝ} (hx : Holds2 x f)
    (h : ∀ a b, a < s0 → b < s1 → f a b = g a b) : Holds2 x g := fun a b => (hx a b).trans (by rw [h a b a.isLt b.isLt])

variable {m : (ℓ : Loc nD τ sig) → Buf (Elt Ideal) ℓ} {c : Dev nD} {X D : ℕ → ℕ → ℝ} {S : ℕ → ℝ}
  (hX : Holds2 (s0 := 8448) (s1 := 3072) (m (c, main_arg0)) X) (hS : ∀ a : Fin 16, (m (c, main_arg1) : S16.Idx → EReal) (ix1 a) = ((S a : ℝ) : EReal))
  (hD : Holds2 (s0 := 8448) (s1 := 2048) (m (c, main_arg2)) D)
include hX hS hD

/-- What the loads of query head `g` hold at grid point `t`. -/
theorem head_at (t : Fin cfg0.N) (g w : ℕ) (hg : g < 4) (hw : w = 128 * g)
    (i1 : ∀ a, (![0, w] : Fin 2 → ℕ) a + (![128, 128] : Fin 2 → ℕ) a ≤ S128x512.size a)
    (i2 : ∀ a, (![0, g] : Fin 2 → ℕ) a + (![128, 1] : Fin 2 → ℕ) a ≤ S128x128.size a)
    (i3 : ∀ a, (![0, 0, g] : Fin 3 → ℕ) a + (![1, 1, 1] : Fin 3 → ℕ) a ≤ S1x8x128.size a) :
    Head X S D (t.val % 66) (t.val / 66) g (VecWindow.window (iblk m c 3 t) ![0, w] ![128, 128] i1)
      (VecWindow.window (iblk m c 0 t) ![0, w] ![128, 128] i1) (VecWindow.window (iblk m c 1 t) ![0, w] ![128, 128] i1)
      (VecWindow.window (iblk m c 2 t) ![0, g] ![128, 1] i2) (VecWindow.window (iblk m c 12 t) ![0, 0, g] ![1, 1, 1] i3) := by
  have hb := point_bounds t
  have hO : Holds2 (s0 := 8448) (s1 := 2048) (V m c main_v124)
      fun t c => out scale X S (t / 128) (t % 128) (c / 512) (c / 128 % 4) (c % 128) := by rw [saved_out]; exact forward_out hX hS
  have hL : Holds2 (s0 := 8448) (s1 := 512) (V m c main_v123)
      fun t c => if c % 128 < 4 then Real.log (den scale X S (t / 128) (t % 128) (c / 128) (c % 128)) else 0 := by rw [saved_lse]; exact forward_lse hX hS
  have hP : ∀ h g : Fin 4, V m c main_v127 (ix3 h 0 ⟨g, by omega⟩) = ((S (4 * h + g) : ℝ) : EReal) := fun h g =>
    (packed_sinks m c _ rfl h g).trans (hS _)
  refine ⟨?_, ?_, ?_, ?_, ?_⟩
  · exact (columns w (block_3 m c t (X := X) hX) i1).congr fun r d _ _ => by subst hw; congr 1; omega
  · exact (columns w (block_0 m c t hD) i1).congr fun r d _ _ => by subst hw; congr 1; omega
  · refine (columns w (block_1 m c t hO) i1).congr fun r d hr hd => ?_
    subst hw
    rw [show (128 * (t.val % 66) + r) / 128 = t.val % 66 by omega, show (128 * (t.val % 66) + r) % 128 = r by omega,
      show (512 * (t.val / 66) + (128 * g + d)) / 512 = t.val / 66 by omega,
      show (512 * (t.val / 66) + (128 * g + d)) / 128 % 4 = g by omega, show (512 * (t.val / 66) + (128 * g + d)) % 128 = d by omega]
  · refine (column g (block_2 m c t hL) i2).congr fun r d hr hd => ?_
    rw [show (128 * (t.val % 66) + r) / 128 = t.val % 66 by omega, show (128 * (t.val % 66) + r) % 128 = r by omega,
      show (128 * (t.val / 66) + g) / 128 = t.val / 66 by omega, show (128 * (t.val / 66) + g) % 128 = g by omega, if_pos hg]
  · exact entry (x := iblk m c 12 t) (f := fun g => S (4 * (t.val / 66) + g)) ⟨g, by omega⟩ (block_12 m c t hP) hg i3

theorem keys_at (t : Fin cfg0.N) : Holds2 (s0 := 640) (s1 := 128) (k0_pay1 (F := Ideal) (iblk m c 4 t) (iblk m c 5 t) (iblk m c 6 t) (iblk m c 7 t))
    (KR X (t.val % 66) (t.val / 66)) :=
  keys_read (point_bounds t).1 _ (block_4 m c t hX) (block_5 m c t hX) (block_6 m c t hX) (block_7 m c t hX)

theorem values_at (t : Fin cfg0.N) : Holds2 (s0 := 640) (s1 := 128) (k0_pay2 (F := Ideal) (iblk m c 8 t) (iblk m c 9 t) (iblk m c 10 t) (iblk m c 11 t))
    (VR X (t.val % 66) (t.val / 66)) :=
  values_read (point_bounds t).1 _ (block_8 m c t hX) (block_9 m c t hX) (block_10 m c t hX) (block_11 m c t hX)

end Cert.AttnGrad

end
-- ==== Proof.Parts.lean ====
/- The stored parts of the key and value gradients, and the four heads of a block. -/
module

public import proofs.«01_k».proof.Proof.Entry
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.AttnGrad

open Idealize.ShloMosaic Idealize.ShloMosaic.TcCoe Idealize.SL.Sem
open Cert.KernelIdeal Cert.KernelIdeal.Gen

section
variable {dk : FVec Ideal S640x128 .f32} {f : ℕ → ℕ → ℝ} (hk : Holds2 (s0 := 640) (s1 := 128) dk f)
include hk

/-- A stored part of the keys' gradient: rows `256 + 128 x …`, scaled. -/
theorem part_key_0 (r d : Fin 128) : k0_pay56 (F := Ideal) (k0_pay55 dk) (FloatOps.ofBits FTy.f32 0x3DB504F3#32) (ix4 0 0 r d) = ((f (256 + r) d * scale : ℝ) : EReal) := by
  have h1 := fun (n : Fin 640) (d : Fin 128) => hk n d
  pointwise [k0_pay56, k0_pay55, h1, scale_eq]
  rfl

theorem part_key_1 (r d : Fin 128) : k0_pay58 (F := Ideal) dk (ix4 0 0 r d) = ((f (384 + r) d * scale : ℝ) : EReal) := by
  have h1 := fun (n : Fin 640) (d : Fin 128) => hk n d
  pointwise [k0_pay58, h1, scale_eq]
  rfl

theorem part_key_2 (r d : Fin 128) : k0_pay60 (F := Ideal) dk (ix4 0 0 r d) = ((f (512 + r) d * scale : ℝ) : EReal) := by
  have h1 := fun (n : Fin 640) (d : Fin 128) => hk n d
  pointwise [k0_pay60, h1, scale_eq]
  rfl

theorem part_value_0 (r d : Fin 128) : k0_pay57 (F := Ideal) dk (ix4 0 0 r d) = ((f (256 + r) d : ℝ) : EReal) := by
  have h1 := fun (n : Fin 640) (d : Fin 128) => hk n d
  pointwise [k0_pay57, h1]

theorem part_value_1 (r d : Fin 128) : k0_pay59 (F := Ideal) dk (ix4 0 0 r d) = ((f (384 + r) d : ℝ) : EReal) := by
  have h1 := fun (n : Fin 640) (d : Fin 128) => hk n d
  pointwise [k0_pay59, h1]

theorem part_value_2 (r d : Fin 128) : k0_pay61 (F := Ideal) dk (ix4 0 0 r d) = ((f (512 + r) d : ℝ) : EReal) := by
  have h1 := fun (n : Fin 640) (d : Fin 128) => hk n d
  pointwise [k0_pay61, h1]

theorem context_key (r : Fin 256) (d : Fin 128) (a : FVec Ideal S256x128 .f32) :
    k0_pay52 (F := Ideal) dk a (ix2 r d) = a (ix2 r d) + ((f r d * scale : ℝ) : EReal) := by
  have h1 := fun (n : Fin 640) (d : Fin 128) => hk n d
  pointwise [k0_pay52, h1, scale_eq]
  rfl

theorem context_value (r : Fin 256) (d : Fin 128) (a : FVec Ideal S256x128 .f32) :
    k0_pay53 (F := Ideal) dk a (ix2 r d) = a (ix2 r d) + ((f r d : ℝ) : EReal) := by
  have h1 := fun (n : Fin 640) (d : Fin 128) => hk n d
  pointwise [k0_pay53, h1]

end

variable {m : (ℓ : Loc nD τ sig) → Buf (Elt Ideal) ℓ} {c : Dev nD} {X D : ℕ → ℕ → ℝ} {S : ℕ → ℝ}
  (hX : Holds2 (s0 := 8448) (s1 := 3072) (m (c, main_arg0)) X) (hS : ∀ a : Fin 16, (m (c, main_arg1) : S16.Idx → EReal) (ix1 a) = ((S a : ℝ) : EReal))
  (hD : Holds2 (s0 := 8448) (s1 := 2048) (m (c, main_arg2)) D)
include hX hS hD

theorem heads_at (t : Fin cfg0.N) :
    Head X S D (t.val % 66) (t.val / 66) 0 (VecWindow.window (iblk m c 3 t) ![0, 0] ![128, 128] inb_S128x512_S128x128_0_0)
      (VecWindow.window (iblk m c 0 t) ![0, 0] ![128, 128] inb_S128x512_S128x128_0_0) (VecWindow.window (iblk m c 1 t) ![0, 0] ![128, 128] inb_S128x512_S128x128_0_0)
      (VecWindow.window (iblk m c 2 t) ![0, 0] ![128, 1] inb_S128x128_S128x1_0_0) (VecWindow.window (iblk m c 12 t) ![0, 0, 0] ![1, 1, 1] inb_S1x8x128_S1x1x1_0_0_0)
    ∧ Head X S D (t.val % 66) (t.val / 66) 1 (VecWindow.window (iblk m c 3 t) ![0, 128] ![128, 128] inb_S128x512_S128x128_0_128)
      (VecWindow.window (iblk m c 0 t) ![0, 128] ![128, 128] inb_S128x512_S128x128_0_128) (VecWindow.window (iblk m c 1 t) ![0, 128] ![128, 128] inb_S128x512_S128x128_0_128)
      (VecWindow.window (iblk m c 2 t) ![0, 1] ![128, 1] inb_S128x128_S128x1_0_1) (VecWindow.window (iblk m c 12 t) ![0, 0, 1] ![1, 1, 1] inb_S1x8x128_S1x1x1_0_0_1)
    ∧ Head X S D (t.val % 66) (t.val / 66) 2 (VecWindow.window (iblk m c 3 t) ![0, 256] ![128, 128] inb_S128x512_S128x128_0_256)
      (VecWindow.window (iblk m c 0 t) ![0, 256] ![128, 128] inb_S128x512_S128x128_0_256) (VecWindow.window (iblk m c 1 t) ![0, 256] ![128, 128] inb_S128x512_S128x128_0_256)
      (VecWindow.window (iblk m c 2 t) ![0, 2] ![128, 1] inb_S128x128_S128x1_0_2) (VecWindow.window (iblk m c 12 t) ![0, 0, 2] ![1, 1, 1] inb_S1x8x128_S1x1x1_0_0_2)
    ∧ Head X S D (t.val % 66) (t.val / 66) 3 (VecWindow.window (iblk m c 3 t) ![0, 384] ![128, 128] inb_S128x512_S128x128_0_384)
      (VecWindow.window (iblk m c 0 t) ![0, 384] ![128, 128] inb_S128x512_S128x128_0_384) (VecWindow.window (iblk m c 1 t) ![0, 384] ![128, 128] inb_S128x512_S128x128_0_384)
      (VecWindow.window (iblk m c 2 t) ![0, 3] ![128, 1] inb_S128x128_S128x1_0_3) (VecWindow.window (iblk m c 12 t) ![0, 0, 3] ![1, 1, 1] inb_S1x8x128_S1x1x1_0_0_3) :=
  ⟨head_at hX hS hD t 0 0 (by omega) rfl _ _ _, head_at hX hS hD t 1 128 (by omega) rfl _ _ _, head_at hX hS hD t 2 256 (by omega) rfl _ _ _,
    head_at hX hS hD t 3 384 (by omega) rfl _ _ _⟩

omit hX hS hD in
theorem ix4_part (x : S1x1x128x128.Idx) : x = ix4 0 0 (x 2) (x 3) := by
  funext a
  match a with
  | ⟨0, _⟩ => exact Fin.ext (Nat.lt_one_iff.mp (show (x 0).val < 1 from (x 0).isLt))
  | ⟨1, _⟩ => exact Fin.ext (Nat.lt_one_iff.mp (show (x 1).val < 1 from (x 1).isLt))
  | ⟨2, _⟩ => rfl
  | ⟨3, _⟩ => rfl

end Cert.AttnGrad

end
-- ==== Proof.Win13.lean ====
/- The query gradient. -/
module

public import proofs.«01_k».proof.Proof.Parts
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.AttnGrad

open Idealize.ShloMosaic Idealize.ShloMosaic.TcCoe Idealize.SL.Sem
open Cert.KernelIdeal Cert.KernelIdeal.Gen

variable {m : (ℓ : Loc nD τ sig) → Buf (Elt Ideal) ℓ} {c : Dev nD} {X D : ℕ → ℕ → ℝ} {S : ℕ → ℝ}
  (hX : Holds2 (s0 := 8448) (s1 := 3072) (m (c, main_arg0)) X) (hS : ∀ a : Fin 16, (m (c, main_arg1) : S16.Idx → EReal) (ix1 a) = ((S a : ℝ) : EReal))
  (hD : Holds2 (s0 := 8448) (s1 := 2048) (m (c, main_arg2)) D)
include hX hS hD

omit hX hS hD in
theorem index_13 : ∀ t : Fin grid0.N, win0_13.index t 0 = t.val % 66 ∧ win0_13.index t 1 = t.val / 66 := by decide +kernel

omit hX hS hD in
theorem ix2_part (x : S128x128.Idx) : x = ix2 (x 0) (x 1) := by
  funext a
  match a with
  | ⟨0, _⟩ => rfl
  | ⟨1, _⟩ => rfl

set_option maxHeartbeats 2000000 in
theorem final_13 : (dats m 0 c).arrAt 13 (cfgs 0).N = fun j : S8448x2048.Idx =>
    ((dquery scale X S D ((j 0).val / 128) ((j 0).val % 128) ((j 1).val / 512) ((j 1).val / 128 % 4) ((j 1).val % 128) : ℝ) : EReal) := by
  refine (dats m 0 c).arrAt_eq_of_covers 13 _ (by decide +kernel) fun t hf y => ?_
  obtain ⟨H0, H1, H2, H3⟩ := heads_at hX hS hD t
  have q0 := dquery_0 (coords_block t) (keys_at hX hS hD t) (values_at hX hS hD t) H0 H1 H2 H3
  have q1 := dquery_1 (coords_block t) (keys_at hX hS hD t) (values_at hX hS hD t) H0 H1 H2 H3
  have q2 := dquery_2 (coords_block t) (keys_at hX hS hD t) (values_at hX hS hD t) H0 H1 H2 H3
  have q3 := dquery_3 (coords_block t) (keys_at hX hS hD t) (values_at hX hS hD t) H0 H1 H2 H3
  obtain ⟨i0, i1⟩ := index_13 t
  clear H0 H1 H2 H3
  have key : ∀ (x : S128x128.Idx) (g : ℕ), g < 4 → (y 0).val = (x 0).val → (y 1).val = 128 * g + (x 1).val →
      ((dquery scale X S D (t.val % 66) (x 0).val (t.val / 66) g (x 1).val : ℝ) : EReal)
      = ((dquery scale X S D ((win0_13.index t 0 * 128 + 1 * (y 0).val) / 128) ((win0_13.index t 0 * 128 + 1 * (y 0).val) % 128)
        ((win0_13.index t 1 * 512 + 1 * (y 1).val) / 512) ((win0_13.index t 1 * 512 + 1 * (y 1).val) / 128 % 4)
        ((win0_13.index t 1 * 512 + 1 * (y 1).val) % 128) : ℝ) : EReal) := by
    intro x g hg h0 h1
    have b0 : (x 0).val < 128 := (x 0).isLt
    have b1 : (x 1).val < 128 := (x 1).isLt
    rw [i0, i1, h0, h1]
    have e0 : (t.val % 66 * 128 + 1 * (x 0).val) / 128 = t.val % 66 := by omega
    have e1 : (t.val % 66 * 128 + 1 * (x 0).val) % 128 = (x 0).val := by omega
    have e2 : (t.val / 66 * 512 + 1 * (128 * g + (x 1).val)) / 512 = t.val / 66 := by omega
    have e3 : (t.val / 66 * 512 + 1 * (128 * g + (x 1).val)) / 128 % 4 = g := by omega
    have e4 : (t.val / 66 * 512 + 1 * (128 * g + (x 1).val)) % 128 = (x 1).val := by omega
    rw [e0, e1, e2, e3, e4]
  rw [after0_13]
  by_cases ht : t.val % 66 = 0
  · rw [outsAt0_A m c t ht]
    frame_out
    canon_tiles x h
    · rw [ix2_part x]
      exact (q3 (x 0) (x 1)).trans (key x 3 (by omega) h0 (h1.trans (by omega)))
    · rw [ix2_part x]
      exact (q2 (x 0) (x 1)).trans (key x 2 (by omega) h0 (h1.trans (by omega)))
    · rw [ix2_part x]
      exact (q1 (x 0) (x 1)).trans (key x 1 (by omega) h0 (h1.trans (by omega)))
    · rw [ix2_part x]
      exact (q0 (x 0) (x 1)).trans (key x 0 (by omega) h0 (h1.trans (by omega)))
  · rw [outsAt0_B m c t ht]
    frame_out
    canon_tiles x h
    · rw [ix2_part x]
      exact (q3 (x 0) (x 1)).trans (key x 3 (by omega) h0 (h1.trans (by omega)))
    · rw [ix2_part x]
      exact (q2 (x 0) (x 1)).trans (key x 2 (by omega) h0 (h1.trans (by omega)))
    · rw [ix2_part x]
      exact (q1 (x 0) (x 1)).trans (key x 1 (by omega) h0 (h1.trans (by omega)))
    · rw [ix2_part x]
      exact (q0 (x 0) (x 1)).trans (key x 0 (by omega) h0 (h1.trans (by omega)))

end Cert.AttnGrad

end
-- ==== Proof.Win14.lean ====
/- The key gradient of the context, summed over the blocks. -/
module

public import proofs.«01_k».proof.Proof.Parts
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.AttnGrad

open Idealize.ShloMosaic Idealize.ShloMosaic.TcCoe Idealize.SL.Sem
open Cert.KernelIdeal Cert.KernelIdeal.Gen

variable {m : (ℓ : Loc nD τ sig) → Buf (Elt Ideal) ℓ} {c : Dev nD} {X D : ℕ → ℕ → ℝ} {S : ℕ → ℝ}
  (hX : Holds2 (s0 := 8448) (s1 := 3072) (m (c, main_arg0)) X) (hS : ∀ a : Fin 16, (m (c, main_arg1) : S16.Idx → EReal) (ix1 a) = ((S a : ℝ) : EReal))
  (hD : Holds2 (s0 := 8448) (s1 := 2048) (m (c, main_arg2)) D)
include hX hS hD

omit hX hS hD in
theorem index_14 : ∀ t : Fin grid0.N, win0_14.index t 0 = 0 ∧ win0_14.index t 1 = t.val / 66 := by decide +kernel

omit hX hS hD in
theorem ctx_part14 (x : S256x128.Idx) : x = ix2 (x 0) (x 1) := by
  funext a
  match a with
  | ⟨0, _⟩ => rfl
  | ⟨1, _⟩ => rfl

omit hX hS hD in
theorem zero_14 (x : S256x128.Idx) : k0_pay49 (F := Ideal) x = 0 := by
  pointwise [k0_pay49]

set_option maxHeartbeats 4000000 in
theorem final_14 : (dats m 0 c).arrAt 14 (cfgs 0).N = fun j : S256x512.Idx =>
    ((∑ b : Fin 66, dkey scale X S D b ((j 1).val / 128) (j 0).val ((j 1).val % 128) : ℝ) : EReal) := by
  refine (dats m 0 c).arrAt_eq_of_covers 14 _ (by decide +kernel) fun t hf y => ?_
  obtain ⟨i0, i1⟩ := index_14 t
  blk_simp
  have hA : ∀ (t : Fin cfg0.N), t.val % 66 = 0 → ∀ x : S256x128.Idx, (outsAt0 m c t.val t.isLt).2.1 x
      = 0 + ((dkey scale X S D (t.val % 66) (t.val / 66) (x 0).val (x 1).val : ℝ) : EReal) := by
    intro t ht x
    obtain ⟨H0, H1, H2, H3⟩ := heads_at hX hS hD t
    have dk := dkey_read (coords_block t) (keys_at hX hS hD t) (values_at hX hS hD t) H0 H1 H2 H3
    clear H0 H1 H2 H3
    rw [outsAt0_A m c t ht]
    frame_out
    rw [ctx_part14 x]
    refine (context_key dk (x 0) (x 1) _).trans ?_
    rw [zero_14]
    rfl
  have hB : ∀ (t : Fin cfg0.N), ¬ t.val % 66 = 0 → ∀ x : S256x128.Idx, (outsAt0 m c t.val t.isLt).2.1 x
      = (outsAt0 m c (t.val - 1) (Nat.lt_of_le_of_lt (Nat.sub_le _ _) t.isLt)).2.1 x
        + ((dkey scale X S D (t.val % 66) (t.val / 66) (x 0).val (x 1).val : ℝ) : EReal) := by
    intro t ht x
    obtain ⟨H0, H1, H2, H3⟩ := heads_at hX hS hD t
    have dk := dkey_read (coords_block t) (keys_at hX hS hD t) (values_at hX hS hD t) H0 H1 H2 H3
    clear H0 H1 H2 H3
    rw [outsAt0_B m c t ht]
    frame_out
    rw [ctx_part14 x]
    exact context_key dk (x 0) (x 1) _
  have hlast := (flush0_14 t).mp hf
  rw [after0_14]
  refine (Pipeline.eq_sum_fin_of_reset_step_apply_of_flush (M := EReal) (ι := S256x128.Idx) (fun n h => (outsAt0 m c n h).2.1) 66 (fun _ => 0) _ hA hB t hlast y).trans ?_
  rw [zero_add]
  have b0 : (y 0).val < 256 := (y 0).isLt
  have b1 : (y 1).val < 128 := (y 1).isLt
  rw [i0, i1, coe_sum]
  refine Finset.sum_congr rfl fun s _ => ?_
  have e0 : (66 * (t.val / 66) + s.val) % 66 = s.val := by omega
  have e1 : (66 * (t.val / 66) + s.val) / 66 = t.val / 66 := by omega
  have e2 : 0 * 256 + (y 0).val = (y 0).val := by omega
  have e3 : (t.val / 66 * 128 + (y 1).val) / 128 = t.val / 66 := by omega
  have e4 : (t.val / 66 * 128 + (y 1).val) % 128 = (y 1).val := by omega
  dsimp only
  rw [e0, e1, e2, e3, e4]

end Cert.AttnGrad

end
-- ==== Proof.Win15.lean ====
/- The value gradient of the context, summed over the blocks. -/
module

public import proofs.«01_k».proof.Proof.Parts
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.AttnGrad

open Idealize.ShloMosaic Idealize.ShloMosaic.TcCoe Idealize.SL.Sem
open Cert.KernelIdeal Cert.KernelIdeal.Gen

variable {m : (ℓ : Loc nD τ sig) → Buf (Elt Ideal) ℓ} {c : Dev nD} {X D : ℕ → ℕ → ℝ} {S : ℕ → ℝ}
  (hX : Holds2 (s0 := 8448) (s1 := 3072) (m (c, main_arg0)) X) (hS : ∀ a : Fin 16, (m (c, main_arg1) : S16.Idx → EReal) (ix1 a) = ((S a : ℝ) : EReal))
  (hD : Holds2 (s0 := 8448) (s1 := 2048) (m (c, main_arg2)) D)
include hX hS hD

omit hX hS hD in
theorem index_15 : ∀ t : Fin grid0.N, win0_15.index t 0 = 0 ∧ win0_15.index t 1 = t.val / 66 := by decide +kernel

omit hX hS hD in
theorem ctx_part15 (x : S256x128.Idx) : x = ix2 (x 0) (x 1) := by
  funext a
  match a with
  | ⟨0, _⟩ => rfl
  | ⟨1, _⟩ => rfl

omit hX hS hD in
theorem zero_15 (x : S256x128.Idx) : k0_pay50 (F := Ideal) x = 0 := by
  pointwise [k0_pay50]

set_option maxHeartbeats 4000000 in
theorem final_15 : (dats m 0 c).arrAt 15 (cfgs 0).N = fun j : S256x512.Idx =>
    ((∑ b : Fin 66, dvalue scale X S D b ((j 1).val / 128) (j 0).val ((j 1).val % 128) : ℝ) : EReal) := by
  refine (dats m 0 c).arrAt_eq_of_covers 15 _ (by decide +kernel) fun t hf y => ?_
  obtain ⟨i0, i1⟩ := index_15 t
  blk_simp
  have hA : ∀ (t : Fin cfg0.N), t.val % 66 = 0 → ∀ x : S256x128.Idx, (outsAt0 m c t.val t.isLt).2.2.1 x
      = 0 + ((dvalue scale X S D (t.val % 66) (t.val / 66) (x 0).val (x 1).val : ℝ) : EReal) := by
    intro t ht x
    obtain ⟨H0, H1, H2, H3⟩ := heads_at hX hS hD t
    have dk := dvalue_read (coords_block t) (keys_at hX hS hD t) (values_at hX hS hD t) H0 H1 H2 H3
    clear H0 H1 H2 H3
    rw [outsAt0_A m c t ht]
    frame_out
    rw [ctx_part15 x]
    refine (context_value dk (x 0) (x 1) _).trans ?_
    rw [zero_15]
    rfl
  have hB : ∀ (t : Fin cfg0.N), ¬ t.val % 66 = 0 → ∀ x : S256x128.Idx, (outsAt0 m c t.val t.isLt).2.2.1 x
      = (outsAt0 m c (t.val - 1) (Nat.lt_of_le_of_lt (Nat.sub_le _ _) t.isLt)).2.2.1 x
        + ((dvalue scale X S D (t.val % 66) (t.val / 66) (x 0).val (x 1).val : ℝ) : EReal) := by
    intro t ht x
    obtain ⟨H0, H1, H2, H3⟩ := heads_at hX hS hD t
    have dk := dvalue_read (coords_block t) (keys_at hX hS hD t) (values_at hX hS hD t) H0 H1 H2 H3
    clear H0 H1 H2 H3
    rw [outsAt0_B m c t ht]
    frame_out
    rw [ctx_part15 x]
    exact context_value dk (x 0) (x 1) _
  have hlast := (flush0_15 t).mp hf
  rw [after0_15]
  refine (Pipeline.eq_sum_fin_of_reset_step_apply_of_flush (M := EReal) (ι := S256x128.Idx) (fun n h => (outsAt0 m c n h).2.2.1) 66 (fun _ => 0) _ hA hB t hlast y).trans ?_
  rw [zero_add]
  have b0 : (y 0).val < 256 := (y 0).isLt
  have b1 : (y 1).val < 128 := (y 1).isLt
  rw [i0, i1, coe_sum]
  refine Finset.sum_congr rfl fun s _ => ?_
  have e0 : (66 * (t.val / 66) + s.val) % 66 = s.val := by omega
  have e1 : (66 * (t.val / 66) + s.val) / 66 = t.val / 66 := by omega
  have e2 : 0 * 256 + (y 0).val = (y 0).val := by omega
  have e3 : (t.val / 66 * 128 + (y 1).val) / 128 = t.val / 66 := by omega
  have e4 : (t.val / 66 * 128 + (y 1).val) % 128 = (y 1).val := by omega
  dsimp only
  rw [e0, e1, e2, e3, e4]

end Cert.AttnGrad

end
-- ==== Proof.Win16.lean ====
/- The key gradient of the blocks. -/
module

public import proofs.«01_k».proof.Proof.Parts
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.AttnGrad

open Idealize.ShloMosaic Idealize.ShloMosaic.TcCoe Idealize.SL.Sem
open Cert.KernelIdeal Cert.KernelIdeal.Gen

variable {m : (ℓ : Loc nD τ sig) → Buf (Elt Ideal) ℓ} {c : Dev nD} {X D : ℕ → ℕ → ℝ} {S : ℕ → ℝ}
  (hX : Holds2 (s0 := 8448) (s1 := 3072) (m (c, main_arg0)) X) (hS : ∀ a : Fin 16, (m (c, main_arg1) : S16.Idx → EReal) (ix1 a) = ((S a : ℝ) : EReal))
  (hD : Holds2 (s0 := 8448) (s1 := 2048) (m (c, main_arg2)) D)
include hX hS hD

omit hX hS hD in
theorem index_16 : ∀ t : Fin grid0.N, win0_16.index t 0 = t.val % 66 ∧ win0_16.index t 1 = 0 ∧ win0_16.index t 2 = 0 ∧ win0_16.index t 3 = t.val / 66 := by decide +kernel

set_option maxHeartbeats 2000000 in
theorem final_16 : (dats m 0 c).arrAt 16 (cfgs 0).N = fun j : S66x3x128x512.Idx =>
    ((dkey scale X S D (j 0).val ((j 3).val / 128) (256 + 128 * (j 1).val + (j 2).val) ((j 3).val % 128) : ℝ) : EReal) := by
  refine (dats m 0 c).arrAt_eq_of_covers 16 _ (by decide +kernel) fun t hf y => ?_
  obtain ⟨H0, H1, H2, H3⟩ := heads_at hX hS hD t
  have dk := dkey_read (coords_block t) (keys_at hX hS hD t) (values_at hX hS hD t) H0 H1 H2 H3
  obtain ⟨i0, i1, i2, i3⟩ := index_16 t
  clear H0 H1 H2 H3
  have key : ∀ (x : S1x1x128x128.Idx) (z : ℕ), (y 0).val = (x 0).val → (y 1).val = z + (x 1).val → (y 2).val = (x 2).val → (y 3).val = (x 3).val →
      ((dkey0 X S D (t.val % 66) (t.val / 66) (256 + 128 * z + (x 2).val) (x 3).val * scale : ℝ) : EReal)
      = ((dkey scale X S D (win0_16.index t 0 * 1 + 1 * (y 0).val) ((win0_16.index t 3 * 128 + 1 * (y 3).val) / 128)
        (256 + 128 * (win0_16.index t 1 * 3 + 1 * (y 1).val) + (win0_16.index t 2 * 128 + 1 * (y 2).val))
        ((win0_16.index t 3 * 128 + 1 * (y 3).val) % 128) : ℝ) : EReal) := by
    intro x z h0 h1 h2 h3
    have b0 : (x 0).val < 1 := (x 0).isLt
    have b1 : (x 1).val < 1 := (x 1).isLt
    have b3 : (x 3).val < 128 := (x 3).isLt
    rw [i0, i1, i2, i3, h0, h1, h2, h3]
    have e0 : t.val % 66 * 1 + 1 * (x 0).val = t.val % 66 := by omega
    have e1 : (t.val / 66 * 128 + 1 * (x 3).val) / 128 = t.val / 66 := by omega
    have e2 : 256 + 128 * (0 * 3 + 1 * (z + (x 1).val)) + (0 * 128 + 1 * (x 2).val) = 256 + 128 * z + (x 2).val := by omega
    have e3 : (t.val / 66 * 128 + 1 * (x 3).val) % 128 = (x 3).val := by omega
    rw [e0, e1, e2, e3]
    rfl
  rw [after0_16]
  by_cases ht : t.val % 66 = 0
  · rw [outsAt0_A m c t ht]
    frame_out
    canon_tiles x h
    · rw [ix4_part x]
      exact (part_key_2 dk (x 2) (x 3)).trans (key x 2 h0 h1 h2 h3)
    · rw [ix4_part x]
      exact (part_key_1 dk (x 2) (x 3)).trans (key x 1 h0 h1 h2 h3)
    · rw [ix4_part x]
      exact (part_key_0 dk (x 2) (x 3)).trans (key x 0 h0 (h1.trans (by omega)) h2 h3)
  · rw [outsAt0_B m c t ht]
    frame_out
    canon_tiles x h
    · rw [ix4_part x]
      exact (part_key_2 dk (x 2) (x 3)).trans (key x 2 h0 h1 h2 h3)
    · rw [ix4_part x]
      exact (part_key_1 dk (x 2) (x 3)).trans (key x 1 h0 h1 h2 h3)
    · rw [ix4_part x]
      exact (part_key_0 dk (x 2) (x 3)).trans (key x 0 h0 (h1.trans (by omega)) h2 h3)

end Cert.AttnGrad

end
-- ==== Proof.Win17.lean ====
/- The value gradient of the blocks. -/
module

public import proofs.«01_k».proof.Proof.Parts
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.AttnGrad

open Idealize.ShloMosaic Idealize.ShloMosaic.TcCoe Idealize.SL.Sem
open Cert.KernelIdeal Cert.KernelIdeal.Gen

variable {m : (ℓ : Loc nD τ sig) → Buf (Elt Ideal) ℓ} {c : Dev nD} {X D : ℕ → ℕ → ℝ} {S : ℕ → ℝ}
  (hX : Holds2 (s0 := 8448) (s1 := 3072) (m (c, main_arg0)) X) (hS : ∀ a : Fin 16, (m (c, main_arg1) : S16.Idx → EReal) (ix1 a) = ((S a : ℝ) : EReal))
  (hD : Holds2 (s0 := 8448) (s1 := 2048) (m (c, main_arg2)) D)
include hX hS hD

omit hX hS hD in
theorem index_17 : ∀ t : Fin grid0.N, win0_17.index t 0 = t.val % 66 ∧ win0_17.index t 1 = 0 ∧ win0_17.index t 2 = 0 ∧ win0_17.index t 3 = t.val / 66 := by decide +kernel

set_option maxHeartbeats 2000000 in
theorem final_17 : (dats m 0 c).arrAt 17 (cfgs 0).N = fun j : S66x3x128x512.Idx =>
    ((dvalue scale X S D (j 0).val ((j 3).val / 128) (256 + 128 * (j 1).val + (j 2).val) ((j 3).val % 128) : ℝ) : EReal) := by
  refine (dats m 0 c).arrAt_eq_of_covers 17 _ (by decide +kernel) fun t hf y => ?_
  obtain ⟨H0, H1, H2, H3⟩ := heads_at hX hS hD t
  have dk := dvalue_read (coords_block t) (keys_at hX hS hD t) (values_at hX hS hD t) H0 H1 H2 H3
  obtain ⟨i0, i1, i2, i3⟩ := index_17 t
  clear H0 H1 H2 H3
  have key : ∀ (x : S1x1x128x128.Idx) (z : ℕ), (y 0).val = (x 0).val → (y 1).val = z + (x 1).val → (y 2).val = (x 2).val → (y 3).val = (x 3).val →
      ((dvalue scale X S D (t.val % 66) (t.val / 66) (256 + 128 * z + (x 2).val) (x 3).val : ℝ) : EReal)
      = ((dvalue scale X S D (win0_17.index t 0 * 1 + 1 * (y 0).val) ((win0_17.index t 3 * 128 + 1 * (y 3).val) / 128)
        (256 + 128 * (win0_17.index t 1 * 3 + 1 * (y 1).val) + (win0_17.index t 2 * 128 + 1 * (y 2).val))
        ((win0_17.index t 3 * 128 + 1 * (y 3).val) % 128) : ℝ) : EReal) := by
    intro x z h0 h1 h2 h3
    have b0 : (x 0).val < 1 := (x 0).isLt
    have b1 : (x 1).val < 1 := (x 1).isLt
    have b3 : (x 3).val < 128 := (x 3).isLt
    rw [i0, i1, i2, i3, h0, h1, h2, h3]
    have e0 : t.val % 66 * 1 + 1 * (x 0).val = t.val % 66 := by omega
    have e1 : (t.val / 66 * 128 + 1 * (x 3).val) / 128 = t.val / 66 := by omega
    have e2 : 256 + 128 * (0 * 3 + 1 * (z + (x 1).val)) + (0 * 128 + 1 * (x 2).val) = 256 + 128 * z + (x 2).val := by omega
    have e3 : (t.val / 66 * 128 + 1 * (x 3).val) % 128 = (x 3).val := by omega
    rw [e0, e1, e2, e3]
  rw [after0_17]
  by_cases ht : t.val % 66 = 0
  · rw [outsAt0_A m c t ht]
    frame_out
    canon_tiles x h
    · rw [ix4_part x]
      exact (part_value_2 dk (x 2) (x 3)).trans (key x 2 h0 h1 h2 h3)
    · rw [ix4_part x]
      exact (part_value_1 dk (x 2) (x 3)).trans (key x 1 h0 h1 h2 h3)
    · rw [ix4_part x]
      exact (part_value_0 dk (x 2) (x 3)).trans (key x 0 h0 (h1.trans (by omega)) h2 h3)
  · rw [outsAt0_B m c t ht]
    frame_out
    canon_tiles x h
    · rw [ix4_part x]
      exact (part_value_2 dk (x 2) (x 3)).trans (key x 2 h0 h1 h2 h3)
    · rw [ix4_part x]
      exact (part_value_1 dk (x 2) (x 3)).trans (key x 1 h0 h1 h2 h3)
    · rw [ix4_part x]
      exact (part_value_0 dk (x 2) (x 3)).trans (key x 0 h0 (h1.trans (by omega)) h2 h3)

end Cert.AttnGrad

end
-- ==== Proof.Win18.lean ====
/- The gradient of the sinks, summed over the blocks. -/
module

public import proofs.«01_k».proof.Proof.Parts
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.AttnGrad

open Idealize.ShloMosaic Idealize.ShloMosaic.TcCoe Idealize.SL.Sem
open Cert.KernelIdeal Cert.KernelIdeal.Gen

variable {m : (ℓ : Loc nD τ sig) → Buf (Elt Ideal) ℓ} {c : Dev nD} {X D : ℕ → ℕ → ℝ} {S : ℕ → ℝ}
  (hX : Holds2 (s0 := 8448) (s1 := 3072) (m (c, main_arg0)) X) (hS : ∀ a : Fin 16, (m (c, main_arg1) : S16.Idx → EReal) (ix1 a) = ((S a : ℝ) : EReal))
  (hD : Holds2 (s0 := 8448) (s1 := 2048) (m (c, main_arg2)) D)
include hX hS hD

omit hX hS hD in
theorem index_18 : ∀ t : Fin grid0.N, win0_18.index t 0 = t.val / 66 ∧ win0_18.index t 1 = 0 ∧ win0_18.index t 2 = 0 := by decide +kernel

/-- What block `t` adds to a row of the sinks' gradient: only row 0 and the four heads' lanes. -/
def sinkTerm (X : ℕ → ℕ → ℝ) (S : ℕ → ℝ) (D : ℕ → ℕ → ℝ) (b h r n : ℕ) : ℝ := if r = 0 ∧ n < 4 then dsink scale X S D b h n else 0

omit hX hS hD in
theorem zero_18 (x : S1x8x128.Idx) : k0_pay51 (F := Ideal) x = 0 := by
  pointwise [k0_pay51]

/-- The stored row of the block. -/
abbrev rowRect : Rect S1x8x128 := Rect.unit ![0, 0, 0] ![1, 1, 128] inb_S1x8x128_S1x1x128_0_0_0

omit hX hS hD in
theorem row_emb (x : S1x8x128.Idx) (h : (x 1).val = 0) : rowRect.emb (ix3 (0 : Fin 1) (0 : Fin 1) (x 2) : S1x1x128.Idx) = x := by
  funext a
  match a with
  | ⟨0, _⟩ => exact Fin.ext (show 0 + 1 * 0 = (x 0).val by have : (x 0).val < 1 := (x 0).isLt; omega)
  | ⟨1, _⟩ => exact Fin.ext (show 0 + 1 * 0 = (x 1).val by omega)
  | ⟨2, _⟩ => exact Fin.ext (show 0 + 1 * (x 2).val = (x 2).val by omega)

omit hX hS hD in
theorem row_not_mem (x : S1x8x128.Idx) (h : ¬ (x 1).val = 0) : x ∉ rowRect.set := by
  rw [Rect.mem_set_unit]
  intro hall
  have h1 := (hall 1).2
  have h2 : (x 1).val < 0 + 1 := h1
  omega

omit hX hS hD in
theorem term_row (b h n : ℕ) : sinkTerm X S D b h 0 n = if n < 4 then dsink scale X S D b h n else 0 := by
  simp [sinkTerm]

omit hX hS hD in
theorem term_rest (b h r n : ℕ) (hr : ¬ r = 0) : sinkTerm X S D b h r n = 0 := by
  simp [sinkTerm, hr]

set_option maxHeartbeats 300000 in
theorem sinks_A : ∀ (t : Fin cfg0.N), t.val % 66 = 0 → ∀ x : S1x8x128.Idx, (outsAt0 m c t.val t.isLt).2.2.2.2.2 x
    = 0 + ((sinkTerm X S D (t.val % 66) (t.val / 66) (x 1).val (x 2).val : ℝ) : EReal) := by
  intro t ht x
  obtain ⟨H0, H1, H2, H3⟩ := heads_at hX hS hD t
  have dk := fun a n => dsink_read (coords_block t) (keys_at hX hS hD t) (values_at hX hS hD t) H0 H1 H2 H3 a n
  clear H0 H1 H2 H3
  rw [outsAt0_A m c t ht]
  frame_out
  by_cases hr : (x 1).val = 0
  · refine (congrArg _ (row_emb x hr).symm).trans ?_
    refine (View.canon_cons_emb rowRect _ _ _).trans ?_
    refine (dk _ (x 2)).trans ?_
    rw [hr, term_row]
    refine congrArg (· + _) ?_
    refine (congrFun (View.readCov_fill _ _ _ _ rowRect (by decide)) _).trans ?_
    exact zero_18 _
  · refine (View.canon_cons_of_not_mem _ _ (row_not_mem x hr)).trans ?_
    rw [term_rest _ _ _ _ hr]
    refine (congrFun (View.canon_cons_unit_lit _ _ _ (by decide)) x).trans ?_
    rw [zero_18]
    simp

set_option maxHeartbeats 300000 in
theorem sinks_B : ∀ (t : Fin cfg0.N), ¬ t.val % 66 = 0 → ∀ x : S1x8x128.Idx, (outsAt0 m c t.val t.isLt).2.2.2.2.2 x
    = (outsAt0 m c (t.val - 1) (Nat.lt_of_le_of_lt (Nat.sub_le _ _) t.isLt)).2.2.2.2.2 x
      + ((sinkTerm X S D (t.val % 66) (t.val / 66) (x 1).val (x 2).val : ℝ) : EReal) := by
  intro t ht x
  obtain ⟨H0, H1, H2, H3⟩ := heads_at hX hS hD t
  have dk := fun a n => dsink_read (coords_block t) (keys_at hX hS hD t) (values_at hX hS hD t) H0 H1 H2 H3 a n
  clear H0 H1 H2 H3
  rw [outsAt0_B m c t ht]
  frame_out
  generalize (outsAt0 m c (t.val - 1) (Nat.lt_of_le_of_lt (Nat.sub_le _ _) t.isLt)).2.2.2.2.2 = prev
  by_cases hr : (x 1).val = 0
  · refine (congrArg _ (row_emb x hr).symm).trans ?_
    refine (View.read_writes_cons_emb _ _ rowRect _ _ _).trans ?_
    refine (dk _ (x 2)).trans ?_
    rw [hr, term_row]
    refine congrArg (· + _) ?_
    exact congrArg prev (row_emb x hr)
  · refine (View.read_writes_cons_unit_of_not_mem _ _ _ _ _ x rfl 1 (Or.inr (show 0 + 1 ≤ (x 1).val by omega))).trans ?_
    rw [term_rest _ _ _ _ hr]
    refine (congrFun (Memref.IsWhole.read_unread _ prev) x).trans ?_
    exact (add_zero _).symm

set_option maxHeartbeats 400000 in
theorem final_18 : (dats m 0 c).arrAt 18 (cfgs 0).N = fun j : S4x8x128.Idx =>
    ((∑ b : Fin 66, sinkTerm X S D b (j 0).val (j 1).val (j 2).val : ℝ) : EReal) := by
  refine (dats m 0 c).arrAt_eq_of_covers 18 _ (by decide +kernel) fun t hf y => ?_
  obtain ⟨i0, i1, i2⟩ := index_18 t
  blk_simp
  have hlast := (flush0_18 t).mp hf
  rw [after0_18]
  refine (Pipeline.eq_sum_fin_of_reset_step_apply_of_flush (M := EReal) (ι := S1x8x128.Idx) (fun n h => (outsAt0 m c n h).2.2.2.2.2) 66 (fun _ => 0) _ (sinks_A hX hS hD) (sinks_B hX hS hD) t hlast y).trans ?_
  rw [zero_add]
  have b0 : (y 0).val < 1 := (y 0).isLt
  rw [i0, i1, i2, coe_sum]
  refine Finset.sum_congr rfl fun s _ => ?_
  have e0 : (66 * (t.val / 66) + s.val) % 66 = s.val := by omega
  have e1 : (66 * (t.val / 66) + s.val) / 66 = t.val / 66 := by omega
  have e2 : t.val / 66 * 1 + (y 0).val = t.val / 66 := by omega
  have e3 : 0 * 8 + (y 1).val = (y 1).val := by omega
  have e4 : 0 * 128 + (y 2).val = (y 2).val := by omega
  dsimp only
  rw [e0, e1]
  congr 2 <;> omega

end Cert.AttnGrad

end
-- ==== Proof.RefBase.lean ====
/- What the gradient of the reference starts from: its arguments, its softmax, the cotangent of the output. -/
module

public import proofs.«01_k».proof.Proof.Softmax
public import proofs.«01_k».proof.Proof.Gen.ReferenceIdeal.Read

@[expose] public section

set_option maxRecDepth 16384

noncomputable section

namespace Cert.AttnGrad

open Idealize.ShloMosaic Idealize.ShloMosaic.TcCoe Idealize.SL.Sem
open Cert.ReferenceIdeal Cert.ReferenceIdeal.Gen Cert.ReferenceIdeal.Read

variable {x0 : FVec Ideal S8448x3072 .bf16} {x1 : FVec Ideal S16 .f32} {x2 : FVec Ideal S8448x2048 .f32} {X D : ℕ → ℕ → ℝ} {S : ℕ → ℝ}

/-! The gradient's forward part is the forward reference's. -/

theorem r_query_ctx (hX : Holds2 x0 X) : Holds4 (val_main_v3 (F := Ideal) x0) fun r h g d => X r (512 * h + 128 * g + d) := query_ctx hX

theorem r_key_ctx (hX : Holds2 x0 X) : Holds3 (val_main_v5 (F := Ideal) x0) fun s h d => X s (2048 + 128 * h + d) := key_ctx hX

theorem r_value_ctx (hX : Holds2 x0 X) : Holds3 (val_main_v7 (F := Ideal) x0) fun s h d => X s (2560 + 128 * h + d) := value_ctx hX

theorem r_query_lat (hX : Holds2 x0 X) : Holds5 (val_main_v16 (F := Ideal) x0) fun k r h g d => X (128 * (k + 2) + r) (512 * h + 128 * g + d) := query_lat hX

theorem r_key_band (hX : Holds2 x0 X) : Holds4 (val_main_v26 (F := Ideal) x0) fun k n h d => bandR X k n (2048 + 128 * h + d) := key_band hX

theorem r_value_band (hX : Holds2 x0 X) : Holds4 (val_main_v32 (F := Ideal) x0) fun k n h d => bandR X k n (2560 + 128 * h + d) := value_band hX

theorem r_mask (k : Fin 64) (r : Fin 128) (n : Fin 384) : val_main_v99 (F := Ideal) (ix3 k r n) = BitVec.ofBool (decide (Visible (k + 2) r (256 + n))) := mask_lat k r n

theorem r_out_ctx (hD : Holds2 x2 D) : Holds4 (val_main_v18 (F := Ideal) x2) fun r h g d => D r (512 * h + 128 * g + d) := by
  intro r h g d
  pointwise [val_main_v18, val_main_v17]
  exact hD.read rfl (by dsimp only; omega)

theorem r_out_lat (hD : Holds2 x2 D) : Holds5 (val_main_v20 (F := Ideal) x2) fun k r h g d => D (128 * (k + 2) + r) (512 * h + 128 * g + d) := by
  intro k r h g d
  pointwise [val_main_v20, val_main_v19]
  exact hD.read (by dsimp only; omega) (by dsimp only; omega)

theorem ctx_logits_eq : val_main_v39 (F := Ideal) x0 x1 = Cert.Reference2Ideal.Read.val_main_v23 (F := Ideal) x0 x1 := rfl

theorem lat_logits_eq : val_main_v112 (F := Ideal) x0 x1 = Cert.Reference2Ideal.Read.val_main_v86 (F := Ideal) x0 x1 := rfl

/-- A context row: some shift, the weights after it, their sum. -/
theorem r_row_ctx (hX : Holds2 x0 X) (hS : ∀ a : Fin 16, x1 (ix1 a) = ((S a : ℝ) : EReal)) (h g : Fin 4) (r : Fin 256) :
    ∃ M : ℝ, (∀ n : Fin 257, val_main_v60 (F := Ideal) x0 x1 (ix4 h g r n) = ((rowW 256 X S (r / 128) (r % 128) h g n * Real.exp (-M) : ℝ) : EReal))
      ∧ val_main_v61 (F := Ideal) x0 x1 (ix3 h g r) = ((den scale X S (r / 128) (r % 128) h g * Real.exp (-M) : ℝ) : EReal) := by
  obtain ⟨M, h1, h2⟩ := row_ctx hX hS h g r
  rw [← ctx_logits_eq] at h1
  simp only [← ctx_logits_eq] at h2
  have h3 : val_main_v47 (F := Ideal) x0 x1 (ix3 h g r) = ((M : ℝ) : EReal) := by
    have h0 : val_main_v40 (F := Ideal) x0 x1 (ix3 h g r) = ((M : ℝ) : EReal) := by
      pointwise [val_main_v40, val_main_cst_1, neg_inf, h1]
    rw [val_main_v47_apply, val_main_v46_apply, h0]
    pointwise [val_main_cst_3, neg_inf]
    simp only [bot_le, max_eq_right]
  have h4 : ∀ n : Fin 257, val_main_v60 (F := Ideal) x0 x1 (ix4 h g r n) = ((rowW 256 X S (r / 128) (r % 128) h g n * Real.exp (-M) : ℝ) : EReal) := by
    intro n
    pointwise [val_main_v60, val_main_v59, val_main_v58, val_main_v57, h3, h2]
  refine ⟨M, h4, ?_⟩
  pointwise [val_main_v61, val_main_cst_9, h4]
  rw [← coe_sum, ← Finset.sum_mul, sum_rowW_ctx X S (by omega)]

/-- A latent row likewise. -/
theorem r_row_lat (hX : Holds2 x0 X) (hS : ∀ a : Fin 16, x1 (ix1 a) = ((S a : ℝ) : EReal)) (k : Fin 64) (h g : Fin 4) (r : Fin 128) :
    ∃ M : ℝ, (∀ n : Fin 641, val_main_v133 (F := Ideal) x0 x1 (ix5 k h g r n) = ((rowW 640 X S (k + 2) r h g n * Real.exp (-M) : ℝ) : EReal))
      ∧ val_main_v134 (F := Ideal) x0 x1 (ix4 k h g r) = ((den scale X S (k + 2) r h g * Real.exp (-M) : ℝ) : EReal) := by
  obtain ⟨M, h1, h2⟩ := row_lat hX hS k h g r
  rw [← lat_logits_eq] at h1
  simp only [← lat_logits_eq] at h2
  have h3 : val_main_v120 (F := Ideal) x0 x1 (ix4 k h g r) = ((M : ℝ) : EReal) := by
    have h0 : val_main_v113 (F := Ideal) x0 x1 (ix4 k h g r) = ((M : ℝ) : EReal) := by
      pointwise [val_main_v113, val_main_cst_20, neg_inf, h1]
    rw [val_main_v120_apply, val_main_v119_apply, h0]
    pointwise [val_main_cst_22, neg_inf]
    simp only [bot_le, max_eq_right]
  have h4 : ∀ n : Fin 641, val_main_v133 (F := Ideal) x0 x1 (ix5 k h g r n) = ((rowW 640 X S (k + 2) r h g n * Real.exp (-M) : ℝ) : EReal) := by
    intro n
    pointwise [val_main_v133, val_main_v132, val_main_v131, val_main_v130, h3, h2]
  refine ⟨M, h4, ?_⟩
  pointwise [val_main_v134, val_main_cst_28, h4]
  rw [← coe_sum, ← Finset.sum_mul, sum_rowW]

theorem r_prob_ctx (hX : Holds2 x0 X) (hS : ∀ a : Fin 16, x1 (ix1 a) = ((S a : ℝ) : EReal)) (h g : Fin 4) (r : Fin 256) (n : Fin 256) :
    val_main_v141 (F := Ideal) x0 x1 (ix4 h g r n) = ((prob scale X S (r / 128) (r % 128) h g n : ℝ) : EReal) := by
  obtain ⟨M, h2, h3⟩ := r_row_ctx hX hS h g r
  pointwise [val_main_v141, val_main_v64, val_main_v63, val_main_v62, h2, h3]
  exact (quot_shift (den_pos ..) _).trans (by rw [rowW_key n.isLt])

theorem r_prob_lat (hX : Holds2 x0 X) (hS : ∀ a : Fin 16, x1 (ix1 a) = ((S a : ℝ) : EReal)) (k : Fin 64) (h g : Fin 4) (r : Fin 128) (n : Fin 641) (hn : n.val < 640) :
    val_main_v137 (F := Ideal) x0 x1 (ix5 k h g r n) = ((prob scale X S (k + 2) r h g n : ℝ) : EReal) := by
  obtain ⟨M, h2, h3⟩ := r_row_lat hX hS k h g r
  pointwise [val_main_v137, val_main_v136, val_main_v135, h2, h3]
  exact (quot_shift (den_pos ..) _).trans (by rw [rowW_key hn])

/-- The cotangent of a context row's probabilities, as it is padded. -/
def cotC (X D : ℕ → ℕ → ℝ) (b r h g n : ℕ) : ℝ := if n < 256 then dprob X D b r h g n else 0

/-- The cotangent of a context row's probabilities, zero at the sink. -/
theorem r_cot_ctx (hX : Holds2 x0 X) (hD : Holds2 x2 D) (h g : Fin 4) (r : Fin 256) (n : Fin 257) :
    val_main_v168 (F := Ideal) x0 x2 (ix4 h g r n)
      = ((cotC X D (r / 128) (r % 128) h g n : ℝ) : EReal) := by
  have h1 := fun d : Fin 128 => r_out_ctx hD r h g d
  have h2 := fun (s : Fin 256) (d : Fin 128) => r_value_ctx hX s h d
  pointwise [val_main_v168, val_main_v164, val_main_v163, val_main_cst_32, h1, h2]
  have e : 128 * ((r : ℕ) / 128) + (r : ℕ) % 128 = r := Nat.div_add_mod _ _
  unfold cotC
  by_cases hn : (n : ℕ) < 256
  · rw [dif_pos (by omega), if_pos hn]
    have ek : keyRow ((r : ℕ) / 128) n = n := if_pos hn
    simp only [← EReal.coe_mul, ← coe_sum, dprob, e, ek]
  · rw [dif_neg (by omega), if_neg hn]
    rfl

/-- The cotangent of a latent row's probabilities, against what the band holds. -/
def cotL (X D : ℕ → ℕ → ℝ) (k r h g n : ℕ) : ℝ :=
  if n < 256 then dprob X D (k + 2) r h g n
  else if n < 640 then ∑ d : Fin 128, D (128 * (k + 2) + r) (512 * h + 128 * g + d) * bandR X k (n - 256) (2560 + 128 * h + d) else 0

theorem r_cot_band (hX : Holds2 x0 X) (hD : Holds2 x2 D) (k : Fin 64) (h g : Fin 4) (r : Fin 128) (n : Fin 384) :
    val_main_v152 (F := Ideal) x0 x2 (ix5 k h g r n)
      = ((∑ d : Fin 128, D (128 * (k + 2) + r) (512 * h + 128 * g + d) * bandR X k n (2560 + 128 * h + d) : ℝ) : EReal) := by
  have h1 := fun d : Fin 128 => r_out_lat hD k r h g d
  have h2 := fun (d : Fin 128) => r_value_band hX k n h d
  pointwise [val_main_v152, val_main_v151, h1, h2]
  simp only [← EReal.coe_mul, ← coe_sum]

theorem r_cot_latc (hX : Holds2 x0 X) (hD : Holds2 x2 D) (k : Fin 64) (h g : Fin 4) (r : Fin 128) (n : Fin 256) :
    val_main_v158 (F := Ideal) x0 x2 (ix5 k h g r n) = ((dprob X D (k + 2) r h g n : ℝ) : EReal) := by
  have h1 := fun d : Fin 128 => r_out_lat hD k r h g d
  have h2 := fun (d : Fin 128) => r_value_ctx hX n h d
  pointwise [val_main_v158, val_main_v157, val_main_v156, h1, h2]
  have ek : keyRow ((k : ℕ) + 2) n = n := if_pos n.isLt
  simp only [← EReal.coe_mul, ← coe_sum, dprob, ek]

theorem r_cot_lat (hX : Holds2 x0 X) (hD : Holds2 x2 D) (k : Fin 64) (h g : Fin 4) (r : Fin 128) (n : Fin 641) :
    val_main_v162 (F := Ideal) x0 x2 (ix5 k h g r n) = ((cotL X D k r h g n : ℝ) : EReal) := by
  have h1 := r_cot_band hX hD k h g r
  have h2 := r_cot_latc hX hD k h g r
  have hn := n.isLt
  pointwise [val_main_v162, val_main_v155, val_main_cst_30, val_main_v161, val_main_cst_31, h1, h2]
  unfold cotL
  by_cases ha : (n : ℕ) < 256
  · rw [dif_neg (by omega), dif_pos (by omega), if_pos ha]
    simp
  · rw [if_neg ha]
    by_cases hb : (n : ℕ) < 640
    · rw [dif_pos (by omega), dif_neg (by omega), if_pos hb]
      simp
    · rw [dif_neg (by omega), dif_neg (by omega), if_neg hb]
      simp

end Cert.AttnGrad

end
-- ==== Proof.RefGrad.lean ====
/- The cotangents of the logits, as the reference computes them. -/
module

public import proofs.«01_k».proof.Proof.RefBase
public import proofs.«01_k».proof.Proof.Gen.ReferenceIdeal.Read

@[expose] public section

set_option maxRecDepth 16384

noncomputable section

namespace Cert.AttnGrad

open Idealize.ShloMosaic Idealize.ShloMosaic.TcCoe Idealize.SL.Sem
open Cert.ReferenceIdeal Cert.ReferenceIdeal.Gen Cert.ReferenceIdeal.Read

variable {x0 : FVec Ideal S8448x3072 .bf16} {x1 : FVec Ideal S16 .f32} {x2 : FVec Ideal S8448x2048 .f32} {X D : ℕ → ℕ → ℝ} {S : ℕ → ℝ}

/-- The derivative of a row's softmax from the shifted weights: probability times cotangent less the mean cotangent. -/
theorem row_shift {N : ℕ} (w C : Fin N → ℝ) {Z M : ℝ} (hZ : 0 < Z) (n : Fin N) :
    (C n / (Z * Real.exp (-M)) + -∑ j, C j * (1 / (Z * Real.exp (-M) * (Z * Real.exp (-M)))) * (w j * Real.exp (-M))) * (w n * Real.exp (-M))
      = w n / Z * (C n - ∑ j, w j / Z * C j) := by
  have hM := (Real.exp_pos (-M)).ne'
  rw [row_grad (fun j => w j * Real.exp (-M)) C (mul_ne_zero hZ.ne' hM) n]
  simp only [mul_div_mul_right _ _ hM]

/-- A probability of the band times what is held there is the probability times the key row's cotangent. -/
theorem prob_cot {k r h g n : ℕ} (hk : k < 64) (hn : n < 640) :
    prob scale X S (k + 2) r h g n * cotL X D k r h g n = prob scale X S (k + 2) r h g n * dprob X D (k + 2) r h g n := by
  unfold cotL
  by_cases ha : n < 256
  · rw [if_pos ha]
  · rw [if_neg ha, if_pos hn]
    by_cases hv : Visible (k + 2) r n
    · congr 1
      have e : 256 + (n - 256) = n := by omega
      refine Finset.sum_congr rfl fun d _ => ?_
      rw [bandR_row hk (by omega) (e.symm ▸ hv), e]
    · have : prob scale X S (k + 2) r h g n = 0 := by unfold prob weight; rw [if_neg hv, zero_div]
      rw [this, zero_mul, zero_mul]

theorem mean_lat {k r h g : ℕ} (hk : k < 64) :
    ∑ j : Fin 641, rowW 640 X S (k + 2) r h g j / den scale X S (k + 2) r h g * cotL X D k r h g j = delta scale X S D (k + 2) r h g := by
  rw [sum_last fun j => rowW 640 X S (k + 2) r h g j / den scale X S (k + 2) r h g * cotL X D k r h g j]
  have e : cotL X D k r h g 640 = 0 := rfl
  rw [e, mul_zero, zero_add]
  exact Finset.sum_congr rfl fun n _ => by rw [rowW_key n.isLt, prob_cot hk n.isLt]

/-- The cotangent of the sink's logit in a row. -/
def dsinkRow (X D : ℕ → ℕ → ℝ) (S : ℕ → ℝ) (b r h g : ℕ) : ℝ := -(Real.exp (S (4 * h + g)) / den scale X S b r h g * delta scale X S D b r h g)

theorem r_grad_lat (hX : Holds2 x0 X) (hS : ∀ a : Fin 16, x1 (ix1 a) = ((S a : ℝ) : EReal)) (hD : Holds2 x2 D) (k : Fin 64) (h g : Fin 4) (r : Fin 128) (n : Fin 641) :
    val_main_v180 (F := Ideal) x0 x1 x2 (ix5 k h g r n)
      = ((if n.val < 640 then dlogit scale X S D (k + 2) r h g n else dsinkRow X D S (k + 2) r h g : ℝ) : EReal) := by
  obtain ⟨M, h2, h3⟩ := r_row_lat hX hS k h g r
  have h4 := r_cot_lat hX hD k h g r
  have hZ : den scale X S (k + 2) r h g * Real.exp (-M) ≠ 0 := (mul_pos (den_pos ..) (Real.exp_pos _)).ne'
  have h5 : ∀ z : Fin 1, val_main_v140 (F := Ideal) x0 x1 (ix5 k h g r z)
      = ((1 / (den scale X S (k + 2) r h g * Real.exp (-M) * (den scale X S (k + 2) r h g * Real.exp (-M))) : ℝ) : EReal) := by
    intro z
    pointwise [val_main_v140, val_main_v139, val_main_cst_29, val_main_v138, val_main_v135, h3]
    rw [← EReal.coe_mul]
    exact div_coe (mul_ne_zero hZ hZ) 1
  have h6 : val_main_v172 (F := Ideal) x0 x1 x2 (ix4 k h g r) = ((∑ j : Fin 641, cotL X D k r h g j
      * (1 / (den scale X S (k + 2) r h g * Real.exp (-M) * (den scale X S (k + 2) r h g * Real.exp (-M)))) * (rowW 640 X S (k + 2) r h g j * Real.exp (-M)) : ℝ) : EReal) := by
    pointwise [val_main_v172, val_main_cst_33, val_main_v171, val_main_v170, val_main_v169, h2, h4, h5]
    simp only [← EReal.coe_mul, ← coe_sum]
  have h7 : val_main_v176 (F := Ideal) x0 x1 x2 (ix5 k h g r n) = ((cotL X D k r h g n / (den scale X S (k + 2) r h g * Real.exp (-M)) : ℝ) : EReal) := by
    pointwise [val_main_v176, val_main_v175, val_main_v135, h3, h4]
    exact div_coe hZ _
  pointwise [val_main_v180, val_main_v179, val_main_v178, val_main_v177, val_main_cst_34, val_main_v174, val_main_v173, h2, h6, h7]
  simp only [Finset.univ_unique, Finset.sum_singleton, ← EReal.coe_neg, ← EReal.coe_mul, ← EReal.coe_add]
  rw [row_shift (fun j : Fin 641 => rowW 640 X S (k + 2) r h g j) (fun j => cotL X D k r h g j) (den_pos ..) n, mean_lat k.isLt]
  by_cases hn : (n : ℕ) < 640
  · rw [if_pos hn, rowW_key hn, dlogit, mul_sub, mul_sub, prob_cot k.isLt hn]
  · have e : (n : ℕ) = 640 := by omega
    rw [if_neg hn, e, dsinkRow, rowW, if_neg (by omega), show cotL X D k r h g 640 = 0 from rfl, zero_sub, mul_neg]

theorem mean_ctx {b : ℕ} (hb : b < 2) (r h g : ℕ) :
    ∑ j : Fin 257, rowW 256 X S b r h g j / den scale X S b r h g * cotC X D b r h g j = delta scale X S D b r h g := by
  rw [sum_last fun j => rowW 256 X S b r h g j / den scale X S b r h g * cotC X D b r h g j]
  rw [show cotC X D b r h g 256 = 0 from rfl, mul_zero, zero_add, delta, sum_context (fun n => prob scale X S b r h g n * dprob X D b r h g n) fun n hn => by
    simp only [prob, weight_context scale X hb r h g hn, zero_div, zero_mul]]
  exact Finset.sum_congr rfl fun n _ => by rw [rowW_key n.isLt, cotC, if_pos n.isLt]

theorem r_grad_ctx (hX : Holds2 x0 X) (hS : ∀ a : Fin 16, x1 (ix1 a) = ((S a : ℝ) : EReal)) (hD : Holds2 x2 D) (h g : Fin 4) (r : Fin 256) (n : Fin 257) :
    val_main_v214 (F := Ideal) x0 x1 x2 (ix4 h g r n)
      = ((if n.val < 256 then dlogit scale X S D (r / 128) (r % 128) h g n else dsinkRow X D S (r / 128) (r % 128) h g : ℝ) : EReal) := by
  obtain ⟨M, h2, h3⟩ := r_row_ctx hX hS h g r
  have h4 := r_cot_ctx hX hD h g r
  have hZ : den scale X S (r / 128) (r % 128) h g * Real.exp (-M) ≠ 0 := (mul_pos (den_pos ..) (Real.exp_pos _)).ne'
  have h5 : ∀ z : Fin 1, val_main_v67 (F := Ideal) x0 x1 (ix4 h g r z)
      = ((1 / (den scale X S (r / 128) (r % 128) h g * Real.exp (-M) * (den scale X S (r / 128) (r % 128) h g * Real.exp (-M))) : ℝ) : EReal) := by
    intro z
    pointwise [val_main_v67, val_main_v66, val_main_cst_10, val_main_v65, val_main_v62, h3]
    rw [← EReal.coe_mul]
    exact div_coe (mul_ne_zero hZ hZ) 1
  have h6 : val_main_v206 (F := Ideal) x0 x1 x2 (ix3 h g r) = ((∑ j : Fin 257, cotC X D (r / 128) (r % 128) h g j
      * (1 / (den scale X S (r / 128) (r % 128) h g * Real.exp (-M) * (den scale X S (r / 128) (r % 128) h g * Real.exp (-M)))) * (rowW 256 X S (r / 128) (r % 128) h g j * Real.exp (-M)) : ℝ) : EReal) := by
    pointwise [val_main_v206, val_main_cst_39, val_main_v205, val_main_v204, val_main_v203, h2, h4, h5]
    simp only [← EReal.coe_mul, ← coe_sum]
  have h7 : val_main_v210 (F := Ideal) x0 x1 x2 (ix4 h g r n)
      = ((cotC X D (r / 128) (r % 128) h g n / (den scale X S (r / 128) (r % 128) h g * Real.exp (-M)) : ℝ) : EReal) := by
    pointwise [val_main_v210, val_main_v209, val_main_v62, h3, h4]
    exact div_coe hZ _
  pointwise [val_main_v214, val_main_v213, val_main_v212, val_main_v211, val_main_cst_40, val_main_v208, val_main_v207, h2, h6, h7]
  simp only [Finset.univ_unique, Finset.sum_singleton, ← EReal.coe_neg, ← EReal.coe_mul, ← EReal.coe_add]
  rw [row_shift (fun j : Fin 257 => rowW 256 X S (r / 128) (r % 128) h g j) (fun j => cotC X D (r / 128) (r % 128) h g j) (den_pos ..) n,
    mean_ctx (by omega)]
  by_cases hn : (n : ℕ) < 256
  · rw [if_pos hn, cotC, if_pos hn, rowW_key hn, dlogit]
  · rw [if_neg hn, cotC, if_neg hn, dsinkRow, rowW, if_neg hn, zero_sub, mul_neg]

end Cert.AttnGrad

end
-- ==== Proof.Sums.lean ====
/- Two sums over several axes at once: a product contracted over three axes, and a sum over three of five axes. -/
module

public import proofs.«01_k».proof.Proof.RefGrad

@[expose] public section

set_option maxRecDepth 16384

noncomputable section

namespace Cert.AttnGrad

open Idealize.ShloMosaic Idealize.ShloMosaic.TcCoe Idealize.SL.Sem
open Cert.ReferenceIdeal Cert.ReferenceIdeal.Gen

/-! ### A product contracted over three axes -/

section Contraction
variable {sl sr so : Shape} (d : DotDims sl sr so) {a b c : Fin sl.rank}

theorem three_rank (hc : d.lhsContracting = [a, b, c]) : d.contr.rank = 3 := by
  rw [d.rank_contr, hc]; rfl

theorem three_size (hc : d.lhsContracting = [a, b, c]) {n0 n1 n2 : ℕ} (h0 : sl.size a = n0) (h1 : sl.size b = n1)
    (h2 : sl.size c = n2) (p : Fin d.contr.rank) :
    (if p.val = 0 then n0 else if p.val = 1 then n1 else n2) = d.contr.size p := by
  subst h0 h1 h2
  have : ∀ (l : List (Fin sl.rank)) (_ : l = [a, b, c]) (p : Fin (l.map sl.size).length),
      (if p.val = 0 then sl.size a else if p.val = 1 then sl.size b else sl.size c) = (l.map sl.size)[p] := by
    rintro _ rfl ⟨p, hp⟩
    have : p = 0 ∨ p = 1 ∨ p = 2 := by simp at hp; omega
    rcases this with rfl | rfl | rfl <;> rfl
  exact this _ hc p

/-- The contraction index with the three given coordinates. -/
def three (hc : d.lhsContracting = [a, b, c]) {n0 n1 n2 : ℕ} (h0 : sl.size a = n0) (h1 : sl.size b = n1)
    (h2 : sl.size c = n2) (x : Fin n0) (y : Fin n1) (z : Fin n2) : d.contr.Idx :=
  fun p => if e : p.val = 0 then x.cast (by rw [← three_size d hc h0 h1 h2 p, if_pos e])
    else if e' : p.val = 1 then y.cast (by rw [← three_size d hc h0 h1 h2 p, if_neg e, if_pos e'])
    else z.cast (by rw [← three_size d hc h0 h1 h2 p, if_neg e, if_neg e'])

/-- Contraction indices over three axes are triples of coordinates. -/
def threeEquiv (hc : d.lhsContracting = [a, b, c]) {n0 n1 n2 : ℕ} (h0 : sl.size a = n0) (h1 : sl.size b = n1)
    (h2 : sl.size c = n2) : Fin n0 × Fin n1 × Fin n2 ≃ d.contr.Idx where
  toFun k := three d hc h0 h1 h2 k.1 k.2.1 k.2.2
  invFun q :=
    ((q ⟨0, by rw [three_rank d hc]; decide⟩).cast (three_size d hc h0 h1 h2 _).symm,
     (q ⟨1, by rw [three_rank d hc]; decide⟩).cast (three_size d hc h0 h1 h2 _).symm,
     (q ⟨2, by rw [three_rank d hc]; decide⟩).cast (three_size d hc h0 h1 h2 _).symm)
  left_inv _ := rfl
  right_inv q := by
    funext p
    have : p = ⟨0, by rw [three_rank d hc]; decide⟩ ∨ p = ⟨1, by rw [three_rank d hc]; decide⟩
        ∨ p = ⟨2, by rw [three_rank d hc]; decide⟩ := by
      have := three_rank d hc
      rcases p with ⟨p, hp⟩
      simp only [Fin.mk.injEq]; omega
    rcases this with rfl | rfl | rfl <;> rfl

/-- A product contracted over three axes, at one index of its result, is the triple sum over the coordinates on those
axes; `L` and `R` name the operands' indices. -/
theorem matmul_three (hc : d.lhsContracting = [a, b, c]) {n0 n1 n2 : ℕ} (h0 : sl.size a = n0) (h1 : sl.size b = n1)
    (h2 : sl.size c = n2) (lhs : sl.Idx → EReal) (rhs : sr.Idx → EReal) (acc : so.Idx → EReal) (j : so.Idx)
    (L : Fin n0 → Fin n1 → Fin n2 → sl.Idx) (R : Fin n0 → Fin n1 → Fin n2 → sr.Idx)
    (hL : ∀ x y z, d.lhsIdx j (three d hc h0 h1 h2 x y z) = L x y z)
    (hR : ∀ x y z, d.rhsIdx j (three d hc h0 h1 h2 x y z) = R x y z) :
    Ideal.matmul d lhs rhs acc j = acc j + ∑ x : Fin n0, ∑ y : Fin n1, ∑ z : Fin n2, lhs (L x y z) * rhs (R x y z) := by
  unfold Ideal.matmul
  congr 1
  rw [← Fintype.sum_equiv (threeEquiv d hc h0 h1 h2)
    (fun k => lhs (L k.1 k.2.1 k.2.2) * rhs (R k.1 k.2.1 k.2.2)) _ fun k => by rw [← hL, ← hR]; rfl]
  simp only [Fintype.sum_prod_type]

end Contraction

/-! ### A sum over the first and the last two of five axes -/

/-- The host's sum over axes 0, 3 and 4 of a five-axis array. -/
theorem reduce_034 {n0 n1 n2 n3 n4 : ℕ} (h : (⟨5, ![n0, n1, n2, n3, n4]⟩ : Shape).ReducesTo [0, 3, 4] ⟨2, ![n1, n2]⟩)
    (v : (⟨5, ![n0, n1, n2, n3, n4]⟩ : Shape).Idx → EReal) (init : EReal) (p : Fin n1) (q : Fin n2) :
    Ideal.hostReduceAdd h v init (ix2 p q)
      = init + ∑ x : Fin n0, ∑ y : Fin n3, ∑ z : Fin n4, v (ix5 x p q y z) := by
  unfold Ideal.hostReduceAdd
  congr 1
  refine (Finset.sum_filter_eq_sum_of_fiber _ (fun k : Fin n0 × Fin n3 × Fin n4 => ix5 k.1 p q k.2.1 k.2.2)
    (fun _ _ e => Prod.ext (congrFun e 0) (Prod.ext (congrFun e 3) (congrFun e 4))) (fun i => ?_) v).trans ?_
  · constructor
    · intro e
      refine ⟨(i 0, i 3, i 4), ?_⟩
      funext a; apply Fin.ext
      match a with
      | ⟨0, _⟩ => rfl
      | ⟨1, _⟩ => exact (congrArg Fin.val (congrFun e (0 : Fin 2))).symm
      | ⟨2, _⟩ => exact (congrArg Fin.val (congrFun e (1 : Fin 2))).symm
      | ⟨3, _⟩ => rfl
      | ⟨4, _⟩ => rfl
    · rintro ⟨k, rfl⟩
      funext b
      apply Fin.ext
      match b with
      | ⟨0, _⟩ => rfl
      | ⟨1, _⟩ => rfl
  · simp only [Fintype.sum_prod_type]

end Cert.AttnGrad

end
-- ==== Proof.RefLogit.lean ====
/- The scaled cotangents of the reference's scores. -/
module

public import proofs.«01_k».proof.Proof.Sums
public import proofs.«01_k».proof.Proof.Gen.ReferenceIdeal.Read

@[expose] public section

set_option maxRecDepth 16384

noncomputable section

namespace Cert.AttnGrad

open Idealize.ShloMosaic Idealize.ShloMosaic.TcCoe Idealize.SL.Sem
open Cert.ReferenceIdeal Cert.ReferenceIdeal.Gen Cert.ReferenceIdeal.Read

variable {x0 : FVec Ideal S8448x3072 .bf16} {x1 : FVec Ideal S16 .f32} {x2 : FVec Ideal S8448x2048 .f32} {X D : ℕ → ℕ → ℝ} {S : ℕ → ℝ}

/-- An invisible key has no probability. -/
theorem prob_invisible {b r n : ℕ} (h g : ℕ) (hv : ¬ Visible b r n) : prob scale X S b r h g n = 0 := by
  unfold prob weight; rw [if_neg hv, zero_div]

theorem dlogit_invisible {b r n : ℕ} (h g : ℕ) (hv : ¬ Visible b r n) : dlogit scale X S D b r h g n = 0 := by
  unfold dlogit; rw [prob_invisible h g hv, zero_mul]

theorem g_lat_ctx (hX : Holds2 x0 X) (hS : ∀ a : Fin 16, x1 (ix1 a) = ((S a : ℝ) : EReal)) (hD : Holds2 x2 D) (k : Fin 64) (h g : Fin 4) (r : Fin 128) (n : Fin 256) :
    val_main_v196 (F := Ideal) x0 x1 x2 (ix5 k h g r n) = ((dlogit scale X S D (k + 2) r h g n * scale : ℝ) : EReal) := by
  have h0 := fun (m : Fin 641) => r_grad_lat hX hS hD k h g r m
  pointwise [val_main_v196, val_main_v195, val_main_cst_38, val_main_v181, h0, scale_eq]
  rw [if_pos (by omega), ← EReal.coe_mul]

theorem g_lat_band (hX : Holds2 x0 X) (hS : ∀ a : Fin 16, x1 (ix1 a) = ((S a : ℝ) : EReal)) (hD : Holds2 x2 D) (k : Fin 64) (h g : Fin 4) (r : Fin 128) (n : Fin 384) :
    val_main_v189 (F := Ideal) x0 x1 x2 (ix5 k h g r n) = ((dlogit scale X S D (k + 2) r h g (256 + n) * scale : ℝ) : EReal) := by
  have h0 := fun (m : Fin 641) => r_grad_lat hX hS hD k h g r m
  have h1 := r_mask k r n
  pointwise [val_main_v189, val_main_v188, val_main_cst_37, val_main_v187, val_main_v109_1, val_main_v108, val_main_v182, val_main_call3_v0, val_main_call3_cst, h0, h1, scale_eq]
  by_cases hv : Visible (k + 2) r (256 + n)
  · rw [if_pos (show 256 + (n : ℕ) < 640 by omega)]
    simp [Scalar.select, hv]
  · simp [Scalar.select, hv, dlogit_invisible]

theorem g_ctx (hX : Holds2 x0 X) (hS : ∀ a : Fin 16, x1 (ix1 a) = ((S a : ℝ) : EReal)) (hD : Holds2 x2 D) (h g : Fin 4) (r n : Fin 256) :
    val_main_v222 (F := Ideal) x0 x1 x2 (ix4 h g r n) = ((dlogit scale X S D (r / 128) (r % 128) h g n * scale : ℝ) : EReal) := by
  have h0 := fun (m : Fin 257) => r_grad_ctx hX hS hD h g r m
  pointwise [val_main_v222, val_main_v221, val_main_cst_43, val_main_v215, h0, scale_eq]
  rw [← EReal.coe_mul]

/-- A context block gives no gradient to a band key. -/
theorem dkey_context {b n : ℕ} (hb : b < 2) (hn : 256 ≤ n) (h d : ℕ) : dkey scale X S D b h n d = 0 := by
  unfold dkey
  have hv (r g : ℕ) : dlogit scale X S D b r h g n = 0 := dlogit_invisible _ _ (by unfold Visible; omega)
  simp only [hv, zero_mul, Finset.sum_const_zero]

theorem dvalue_context {b n : ℕ} (hb : b < 2) (hn : 256 ≤ n) (h d : ℕ) : dvalue scale X S D b h n d = 0 := by
  unfold dvalue
  have hv (r g : ℕ) : prob scale X S b r h g n = 0 := prob_invisible _ _ (by unfold Visible; omega)
  simp only [hv, zero_mul, Finset.sum_const_zero]

/-- A sum over the 256 context rows is the sum over the rows of the first two blocks. -/
theorem sum_rows (f : ℕ → ℕ → ℝ) : ∑ r : Fin 256, f (r / 128) (r % 128) = (∑ r : Fin 128, f 0 r) + ∑ r : Fin 128, f 1 r := by
  have := Fin.sum_univ_add (a := 128) (b := 128) fun i => f (i / 128) (i % 128)
  rw [show (∑ i : Fin 256, f (i / 128) (i % 128)) = ∑ i : Fin (128 + 128), f (i / 128) (i % 128) from rfl, this]
  refine congrArg₂ (· + ·) (Finset.sum_congr rfl fun i _ => ?_) (Finset.sum_congr rfl fun i _ => ?_)
  · rw [show ((Fin.castAdd 128 i : Fin (128 + 128)) : ℕ) = i from rfl, Nat.div_eq_of_lt i.isLt, Nat.mod_eq_of_lt i.isLt]
  · rw [show ((Fin.natAdd 128 i : Fin (128 + 128)) : ℕ) = 128 + i from rfl, show (128 + (i : ℕ)) / 128 = 1 by omega, show (128 + (i : ℕ)) % 128 = i by omega]

end Cert.AttnGrad

end
-- ==== Proof.RefQuery.lean ====
/- The reference's gradient of the queries. -/
module

public import proofs.«01_k».proof.Proof.RefLogit
public import proofs.«01_k».proof.Proof.Gen.ReferenceIdeal.Read

@[expose] public section

set_option maxRecDepth 16384

noncomputable section

namespace Cert.AttnGrad

open Idealize.ShloMosaic Idealize.ShloMosaic.TcCoe Idealize.SL.Sem
open Cert.ReferenceIdeal Cert.ReferenceIdeal.Gen Cert.ReferenceIdeal.Read

variable {x0 : FVec Ideal S8448x3072 .bf16} {x1 : FVec Ideal S16 .f32} {x2 : FVec Ideal S8448x2048 .f32} {X D : ℕ → ℕ → ℝ} {S : ℕ → ℝ}

theorem q_ctx (hX : Holds2 x0 X) (hS : ∀ a : Fin 16, x1 (ix1 a) = ((S a : ℝ) : EReal)) (hD : Holds2 x2 D) (r : Fin 256) (h g : Fin 4) (d : Fin 128) :
    val_main_v225 (F := Ideal) x0 x1 x2 (ix4 r h g d) = ((dquery scale X S D (r / 128) (r % 128) h g d : ℝ) : EReal) := by
  have h0 := fun (n : Fin 256) => g_ctx hX hS hD h g r n
  have h1 := fun (n : Fin 256) => r_key_ctx hX n h d
  pointwise [val_main_v225, val_main_v224, val_main_v223, h0, h1]
  simp only [← EReal.coe_mul, ← coe_sum]
  congr 1
  have hz (n : ℕ) (hn : 256 ≤ n) : dlogit scale X S D (r / 128) (r % 128) h g n * X (keyRow (r / 128) n) (2048 + 128 * h + d) = 0 := by
    have hv : ¬ Visible (r / 128) (r % 128) n := by unfold Visible; omega
    rw [dlogit_invisible _ _ hv, zero_mul]
  unfold dquery
  rw [sum_context (fun n => dlogit scale X S D (r / 128) (r % 128) h g n * X (keyRow (r / 128) n) (2048 + 128 * h + d)) hz, Finset.sum_mul]
  refine Finset.sum_congr rfl fun n _ => ?_
  rw [show keyRow ((r : ℕ) / 128) n = n by unfold keyRow; rw [if_pos n.isLt]]
  ring

/-- A band key in the reference is the key of the row; where the band leaves the sequence the score has no cotangent. -/
theorem band_term (k : Fin 64) (r : ℕ) (h g : ℕ) (n : Fin 384) (col : ℕ) :
    dlogit scale X S D (k + 2) r h g (256 + n) * scale * bandR X k n col
      = dlogit scale X S D (k + 2) r h g (256 + n) * X (keyRow (k + 2) (256 + n)) col * scale := by
  by_cases hv : Visible (k + 2) r (256 + n)
  · rw [bandR_row k.isLt n.isLt hv, mul_right_comm]
  · rw [dlogit_invisible _ _ hv, zero_mul, zero_mul, zero_mul, zero_mul]

theorem context_term (b r h g : ℕ) (n : Fin 256) (col : ℕ) :
    dlogit scale X S D b r h g n * scale * X n col = dlogit scale X S D b r h g n * X (keyRow b n) col * scale := by
  rw [show keyRow b n = n by unfold keyRow; rw [if_pos n.isLt], mul_right_comm]

theorem query_sum (k : Fin 64) (r h g d : ℕ) :
    (∑ n : Fin 384, dlogit scale X S D (k + 2) r h g (256 + n) * scale * bandR X k n (2048 + 128 * h + d))
      + ∑ n : Fin 256, dlogit scale X S D (k + 2) r h g n * scale * X n (2048 + 128 * h + d)
      = dquery scale X S D (k + 2) r h g d := by
  unfold dquery
  rw [sum_split (fun n => dlogit scale X S D (k + 2) r h g n * X (keyRow (k + 2) n) (2048 + 128 * h + d)), add_mul, Finset.sum_mul,
    Finset.sum_mul, Finset.sum_congr rfl fun n _ => band_term k r h g n (2048 + 128 * h + d),
    Finset.sum_congr rfl fun n _ => context_term (k + 2) r h g n (2048 + 128 * h + d)]
  exact add_comm _ _

theorem q_lat_band (hX : Holds2 x0 X) (hS : ∀ a : Fin 16, x1 (ix1 a) = ((S a : ℝ) : EReal)) (hD : Holds2 x2 D) (k : Fin 64) (r : Fin 128) (h g : Fin 4) (d : Fin 128) :
    val_main_v192 (F := Ideal) x0 x1 x2 (ix5 k r h g d)
      = ((∑ n : Fin 384, dlogit scale X S D (k + 2) r h g (256 + n) * scale * bandR X k n (2048 + 128 * h + d) : ℝ) : EReal) := by
  have h2 := fun (n : Fin 384) => g_lat_band hX hS hD k h g r n
  have h3 := fun (n : Fin 384) => r_key_band hX k n h d
  pointwise [val_main_v192, val_main_v191, val_main_v190, h2, h3]
  simp only [← EReal.coe_mul, ← coe_sum]

theorem q_lat_ctx (hX : Holds2 x0 X) (hS : ∀ a : Fin 16, x1 (ix1 a) = ((S a : ℝ) : EReal)) (hD : Holds2 x2 D) (k : Fin 64) (r : Fin 128) (h g : Fin 4) (d : Fin 128) :
    val_main_v199 (F := Ideal) x0 x1 x2 (ix5 k r h g d)
      = ((∑ n : Fin 256, dlogit scale X S D (k + 2) r h g n * scale * X n (2048 + 128 * h + d) : ℝ) : EReal) := by
  have h0 := fun (n : Fin 256) => g_lat_ctx hX hS hD k h g r n
  have h1 := fun (n : Fin 256) => r_key_ctx hX n h d
  pointwise [val_main_v199, val_main_v198, val_main_v197, h0, h1]
  simp only [← EReal.coe_mul, ← coe_sum]

theorem q_lat (hX : Holds2 x0 X) (hS : ∀ a : Fin 16, x1 (ix1 a) = ((S a : ℝ) : EReal)) (hD : Holds2 x2 D) (k : Fin 64) (r : Fin 128) (h g : Fin 4) (d : Fin 128) :
    val_main_v200 (F := Ideal) x0 x1 x2 (ix5 k r h g d) = ((dquery scale X S D (k + 2) r h g d : ℝ) : EReal) := by
  have h0 := q_lat_band hX hS hD k r h g d
  have h1 := q_lat_ctx hX hS hD k r h g d
  rw [val_main_v200_apply, h0, h1]
  refine (EReal.coe_add _ _).symm.trans ?_
  exact congrArg _ (query_sum (X := X) (D := D) (S := S) k r h g d)

/-- The reference's gradient of the queries, at every entry. -/
theorem result_query (hX : Holds2 x0 X) (hS : ∀ a : Fin 16, x1 (ix1 a) = ((S a : ℝ) : EReal)) (hD : Holds2 x2 D) :
    val_main_v231 (F := Ideal) x0 x1 x2 = fun j : S8448x2048.Idx =>
      ((dquery scale X S D ((j 0).val / 128) ((j 0).val % 128) ((j 1).val / 512) ((j 1).val / 128 % 4) ((j 1).val % 128) : ℝ) : EReal) := by
  funext j
  idx_vars j
  have h0 := fun (r : Fin 256) (h g : Fin 4) (d : Fin 128) => q_ctx hX hS hD r h g d
  have h1 := fun (k : Fin 64) (r : Fin 128) (h g : Fin 4) (d : Fin 128) => q_lat hX hS hD k r h g d
  pointwise [val_main_v231, val_main_v230, val_main_v229, h0, h1]
  by_cases hr : (j0 : ℕ) < 256
  · rw [dif_pos hr]
  · rw [dif_neg hr, show ((j0 : ℕ) - 256) / 128 + 2 = (j0 : ℕ) / 128 by omega, show ((j0 : ℕ) - 256) % 128 = (j0 : ℕ) % 128 by omega]

end Cert.AttnGrad

end
-- ==== Proof.RefKey.lean ====
/- The reference's gradient of the keys. -/
module

public import proofs.«01_k».proof.Proof.RefLogit
public import proofs.«01_k».proof.Proof.Gen.ReferenceIdeal.Read

@[expose] public section

set_option maxRecDepth 16384

noncomputable section

namespace Cert.AttnGrad

open Idealize.ShloMosaic Idealize.ShloMosaic.TcCoe Idealize.SL.Sem
open Cert.ReferenceIdeal Cert.ReferenceIdeal.Gen Cert.ReferenceIdeal.Read

variable {x0 : FVec Ideal S8448x3072 .bf16} {x1 : FVec Ideal S16 .f32} {x2 : FVec Ideal S8448x2048 .f32} {X D : ℕ → ℕ → ℝ} {S : ℕ → ℝ}

theorem k_band (hX : Holds2 x0 X) (hS : ∀ a : Fin 16, x1 (ix1 a) = ((S a : ℝ) : EReal)) (hD : Holds2 x2 D) (k : Fin 64) (n : Fin 384) (h : Fin 4) (d : Fin 128) :
    val_main_v194 (F := Ideal) x0 x1 x2 (ix4 k n h d) = ((dkey scale X S D (k + 2) h (256 + n) d : ℝ) : EReal) := by
  have h0 := fun (g : Fin 4) (r : Fin 128) => g_lat_band hX hS hD k h g r n
  have h1 := fun (r : Fin 128) (g : Fin 4) => r_query_lat hX k r h g d
  pointwise [val_main_v194, val_main_v193, val_main_v190, h0, h1]
  simp only [← EReal.coe_mul, ← coe_sum]
  congr 1
  unfold dkey
  rw [Finset.sum_comm, Finset.sum_mul]
  refine Finset.sum_congr rfl fun g _ => ?_
  rw [Finset.sum_mul]
  refine Finset.sum_congr rfl fun r _ => by ring

theorem k_lat (hX : Holds2 x0 X) (hS : ∀ a : Fin 16, x1 (ix1 a) = ((S a : ℝ) : EReal)) (hD : Holds2 x2 D) (s : Fin 256) (h : Fin 4) (d : Fin 128) :
    val_main_v202 (F := Ideal) x0 x1 x2 (ix3 s h d) = ((∑ k : Fin 64, dkey scale X S D (2 + k) h s d : ℝ) : EReal) := by
  have h0 := fun (k : Fin 64) (g : Fin 4) (r : Fin 128) => g_lat_ctx hX hS hD k h g r s
  have h1 := fun (k : Fin 64) (r : Fin 128) (g : Fin 4) => r_query_lat hX k r h g d
  pointwise [val_main_v202, val_main_v201, h1]
  rw [matmul_three _ rfl (n0 := 64) (n1 := 128) (n2 := 4) rfl rfl rfl _ _ _ _ (fun k r g => ix5 h s k r g) (fun k r g => ix5 k r h g d)
    (fun k r g => by funext a; fin_cases a <;> rfl) (fun k r g => by funext a; fin_cases a <;> rfl)]
  pointwise [val_main_v197, h0, h1]
  simp only [← EReal.coe_mul, ← coe_sum]
  congr 1
  refine Finset.sum_congr rfl fun k _ => ?_
  unfold dkey
  rw [Finset.sum_comm, Finset.sum_mul]
  refine Finset.sum_congr rfl fun g _ => ?_
  rw [Finset.sum_mul]
  refine Finset.sum_congr rfl fun r _ => by rw [add_comm 2 (k : ℕ)]; ring

theorem k_ctx (hX : Holds2 x0 X) (hS : ∀ a : Fin 16, x1 (ix1 a) = ((S a : ℝ) : EReal)) (hD : Holds2 x2 D) (s : Fin 256) (h : Fin 4) (d : Fin 128) :
    val_main_v227 (F := Ideal) x0 x1 x2 (ix3 s h d) = ((dkey scale X S D 0 h s d + dkey scale X S D 1 h s d : ℝ) : EReal) := by
  have h0 := fun (g : Fin 4) (r : Fin 256) => g_ctx hX hS hD h g r s
  have h1 := fun (r : Fin 256) (g : Fin 4) => r_query_ctx hX r h g d
  pointwise [val_main_v227, val_main_v226, val_main_v223, h0, h1]
  simp only [← EReal.coe_mul, ← coe_sum]
  congr 1
  unfold dkey
  rw [Finset.sum_comm, ← add_mul, ← Finset.sum_add_distrib, Finset.sum_mul]
  refine Finset.sum_congr rfl fun g _ => ?_
  rw [← sum_rows fun b r => dlogit scale X S D b r h g s * X (128 * b + r) (512 * h + 128 * g + d), Finset.sum_mul]
  refine Finset.sum_congr rfl fun r _ => ?_
  rw [show 128 * ((r : ℕ) / 128) + (r : ℕ) % 128 = r by omega]
  ring

/-- The reference's gradient of the context keys. -/
theorem result_key_ctx (hX : Holds2 x0 X) (hS : ∀ a : Fin 16, x1 (ix1 a) = ((S a : ℝ) : EReal)) (hD : Holds2 x2 D) :
    val_main_v232 (F := Ideal) x0 x1 x2 = fun j : S256x512.Idx =>
      ((∑ b : Fin 66, dkey scale X S D b ((j 1).val / 128) (j 0).val ((j 1).val % 128) : ℝ) : EReal) := by
  funext j
  idx_vars j
  have h0 := fun (s : Fin 256) (h : Fin 4) (d : Fin 128) => k_lat hX hS hD s h d
  have h1 := fun (s : Fin 256) (h : Fin 4) (d : Fin 128) => k_ctx hX hS hD s h d
  pointwise [val_main_v232, val_main_v228, h0, h1]
  rw [sum_blocks fun b => dkey scale X S D b (j1 / 128) j0 (j1 % 128), ← EReal.coe_add, add_comm]

theorem pad_key : val_main_call4_v0 (F := Ideal) (Shape.Idx.first h_S_) = ((0 : ℝ) : EReal) := by
  unfold val_main_call4_v0 val_main_c_44
  pointwise
  show (((0#32 : BitVec 32).toInt : ℝ) : EReal) = _
  simp

/-- The reference's gradient of the band keys of every block. -/
theorem result_key_band (hX : Holds2 x0 X) (hS : ∀ a : Fin 16, x1 (ix1 a) = ((S a : ℝ) : EReal)) (hD : Holds2 x2 D) :
    val_main_v235 (F := Ideal) x0 x1 x2 = fun j : S66x3x128x512.Idx =>
      ((dkey scale X S D (j 0).val ((j 3).val / 128) (256 + 128 * (j 1).val + (j 2).val) ((j 3).val % 128) : ℝ) : EReal) := by
  funext j
  idx_vars j
  have h0 := fun (k : Fin 64) (n : Fin 384) (h : Fin 4) (d : Fin 128) => k_band hX hS hD k n h d
  pointwise [val_main_v235, val_main_v234, h0]
  by_cases hk : 2 ≤ (j0 : ℕ) ∧ (j0 : ℕ) - 2 < 64
  · rw [dif_pos hk, show (j0 : ℕ) - 2 + 2 = j0 by omega, show 256 + ((j1 : ℕ) * 128 + (j2 : ℕ)) = 256 + 128 * (j1 : ℕ) + j2 by omega]
  · rw [dif_neg hk, pad_key, dkey_context (by omega) (by omega)]

end Cert.AttnGrad

end
-- ==== Proof.RefValue.lean ====
/- The reference's gradient of the values. -/
module

public import proofs.«01_k».proof.Proof.RefLogit
public import proofs.«01_k».proof.Proof.Gen.ReferenceIdeal.Read

@[expose] public section

set_option maxRecDepth 16384

noncomputable section

namespace Cert.AttnGrad

open Idealize.ShloMosaic Idealize.ShloMosaic.TcCoe Idealize.SL.Sem
open Cert.ReferenceIdeal Cert.ReferenceIdeal.Gen Cert.ReferenceIdeal.Read

variable {x0 : FVec Ideal S8448x3072 .bf16} {x1 : FVec Ideal S16 .f32} {x2 : FVec Ideal S8448x2048 .f32} {X D : ℕ → ℕ → ℝ} {S : ℕ → ℝ}

theorem p_lat (hX : Holds2 x0 X) (hS : ∀ a : Fin 16, x1 (ix1 a) = ((S a : ℝ) : EReal)) (k : Fin 64) (h g : Fin 4) (r : Fin 128) (n : Fin 256) :
    val_main_v144 (F := Ideal) x0 x1 (ix5 k h g r n) = ((prob scale X S (k + 2) r h g n : ℝ) : EReal) := by
  have h0 := r_prob_lat hX hS k h g r ⟨n, by omega⟩ (by dsimp only; omega)
  pointwise [val_main_v144, h0]

theorem p_band (hX : Holds2 x0 X) (hS : ∀ a : Fin 16, x1 (ix1 a) = ((S a : ℝ) : EReal)) (k : Fin 64) (h g : Fin 4) (r : Fin 128) (n : Fin 384) :
    val_main_v147 (F := Ideal) x0 x1 (ix5 k h g r n) = ((prob scale X S (k + 2) r h g (256 + n) : ℝ) : EReal) := by
  have h0 := r_prob_lat hX hS k h g r ⟨256 + n, by omega⟩ (by dsimp only; omega)
  pointwise [val_main_v147, h0]

theorem v_band (hX : Holds2 x0 X) (hS : ∀ a : Fin 16, x1 (ix1 a) = ((S a : ℝ) : EReal)) (hD : Holds2 x2 D) (k : Fin 64) (n : Fin 384) (h : Fin 4) (d : Fin 128) :
    val_main_v154 (F := Ideal) x0 x1 x2 (ix4 k n h d) = ((dvalue scale X S D (k + 2) h (256 + n) d : ℝ) : EReal) := by
  have h0 := fun (g : Fin 4) (r : Fin 128) => p_band hX hS k h g r n
  have h1 := fun (r : Fin 128) (g : Fin 4) => r_out_lat hD k r h g d
  pointwise [val_main_v154, val_main_v153, val_main_v151, h0, h1]
  simp only [← EReal.coe_mul, ← coe_sum]
  congr 1
  unfold dvalue
  exact Finset.sum_congr rfl fun g _ => Finset.sum_congr rfl fun r _ => by ring

theorem v_lat (hX : Holds2 x0 X) (hS : ∀ a : Fin 16, x1 (ix1 a) = ((S a : ℝ) : EReal)) (hD : Holds2 x2 D) (s : Fin 256) (h : Fin 4) (d : Fin 128) :
    val_main_v160 (F := Ideal) x0 x1 x2 (ix3 s h d) = ((∑ k : Fin 64, dvalue scale X S D (2 + k) h s d : ℝ) : EReal) := by
  have h0 := fun (k : Fin 64) (g : Fin 4) (r : Fin 128) => p_lat hX hS k h g r s
  have h1 := fun (k : Fin 64) (r : Fin 128) (g : Fin 4) => r_out_lat hD k r h g d
  pointwise [val_main_v160, val_main_v159]
  rw [matmul_three _ rfl (n0 := 64) (n1 := 4) (n2 := 128) rfl rfl rfl _ _ _ _ (fun k g r => ix5 h d k g r) (fun k g r => ix5 k h g r s)
    (fun k g r => by funext a; fin_cases a <;> rfl) (fun k g r => by funext a; fin_cases a <;> rfl)]
  pointwise [val_main_v156, h0, h1]
  simp only [← EReal.coe_mul, ← coe_sum]
  congr 1
  refine Finset.sum_congr rfl fun k _ => ?_
  unfold dvalue
  exact Finset.sum_congr rfl fun g _ => Finset.sum_congr rfl fun r _ => by rw [add_comm 2 (k : ℕ)]; ring

theorem v_ctx (hX : Holds2 x0 X) (hS : ∀ a : Fin 16, x1 (ix1 a) = ((S a : ℝ) : EReal)) (hD : Holds2 x2 D) (s : Fin 256) (h : Fin 4) (d : Fin 128) :
    val_main_v166 (F := Ideal) x0 x1 x2 (ix3 s h d) = ((dvalue scale X S D 0 h s d + dvalue scale X S D 1 h s d : ℝ) : EReal) := by
  have h0 := fun (g : Fin 4) (r : Fin 256) => r_prob_ctx hX hS h g r s
  have h1 := fun (r : Fin 256) (g : Fin 4) => r_out_ctx hD r h g d
  pointwise [val_main_v166, val_main_v165, val_main_v163, h0, h1]
  simp only [← EReal.coe_mul, ← coe_sum]
  congr 1
  unfold dvalue
  rw [← Finset.sum_add_distrib]
  refine Finset.sum_congr rfl fun g _ => ?_
  rw [← sum_rows fun b r => prob scale X S b r h g s * D (128 * b + r) (512 * h + 128 * g + d)]
  refine Finset.sum_congr rfl fun r _ => ?_
  rw [show 128 * ((r : ℕ) / 128) + (r : ℕ) % 128 = r by omega]
  ring

/-- The reference's gradient of the context values. -/
theorem result_value_ctx (hX : Holds2 x0 X) (hS : ∀ a : Fin 16, x1 (ix1 a) = ((S a : ℝ) : EReal)) (hD : Holds2 x2 D) :
    val_main_v233 (F := Ideal) x0 x1 x2 = fun j : S256x512.Idx =>
      ((∑ b : Fin 66, dvalue scale X S D b ((j 1).val / 128) (j 0).val ((j 1).val % 128) : ℝ) : EReal) := by
  funext j
  idx_vars j
  have h0 := fun (s : Fin 256) (h : Fin 4) (d : Fin 128) => v_lat hX hS hD s h d
  have h1 := fun (s : Fin 256) (h : Fin 4) (d : Fin 128) => v_ctx hX hS hD s h d
  pointwise [val_main_v233, val_main_v167, h0, h1]
  rw [sum_blocks fun b => dvalue scale X S D b (j1 / 128) j0 (j1 % 128), ← EReal.coe_add, add_comm]

theorem pad_value : val_main_call5_v0 (F := Ideal) (Shape.Idx.first h_S_) = ((0 : ℝ) : EReal) := by
  unfold val_main_call5_v0 val_main_c_45
  pointwise
  show (((0#32 : BitVec 32).toInt : ℝ) : EReal) = _
  simp

/-- The reference's gradient of the band values of every block. -/
theorem result_value_band (hX : Holds2 x0 X) (hS : ∀ a : Fin 16, x1 (ix1 a) = ((S a : ℝ) : EReal)) (hD : Holds2 x2 D) :
    val_main_v237 (F := Ideal) x0 x1 x2 = fun j : S66x3x128x512.Idx =>
      ((dvalue scale X S D (j 0).val ((j 3).val / 128) (256 + 128 * (j 1).val + (j 2).val) ((j 3).val % 128) : ℝ) : EReal) := by
  funext j
  idx_vars j
  have h0 := fun (k : Fin 64) (n : Fin 384) (h : Fin 4) (d : Fin 128) => v_band hX hS hD k n h d
  pointwise [val_main_v237, val_main_v236, h0]
  by_cases hk : 2 ≤ (j0 : ℕ) ∧ (j0 : ℕ) - 2 < 64
  · rw [dif_pos hk, show (j0 : ℕ) - 2 + 2 = j0 by omega, show 256 + ((j1 : ℕ) * 128 + (j2 : ℕ)) = 256 + 128 * (j1 : ℕ) + j2 by omega]
  · rw [dif_neg hk, pad_value, dvalue_context (by omega) (by omega)]

end Cert.AttnGrad

end
-- ==== Proof.RefSink.lean ====
/- The reference's gradient of the sinks. -/
module

public import proofs.«01_k».proof.Proof.RefLogit
public import proofs.«01_k».proof.Proof.Gen.ReferenceIdeal.Read

@[expose] public section

set_option maxRecDepth 16384

noncomputable section

namespace Cert.AttnGrad

open Idealize.ShloMosaic Idealize.ShloMosaic.TcCoe Idealize.SL.Sem
open Cert.ReferenceIdeal Cert.ReferenceIdeal.Gen Cert.ReferenceIdeal.Read

variable {x0 : FVec Ideal S8448x3072 .bf16} {x1 : FVec Ideal S16 .f32} {x2 : FVec Ideal S8448x2048 .f32} {X D : ℕ → ℕ → ℝ} {S : ℕ → ℝ}

theorem pad_sink : val_main_call6_v0 (F := Ideal) (Shape.Idx.first h_S_) = ((0 : ℝ) : EReal) := by
  unfold val_main_call6_v0 val_main_c_46
  pointwise
  show (((0#32 : BitVec 32).toInt : ℝ) : EReal) = _
  simp

theorem s_lat (hX : Holds2 x0 X) (hS : ∀ a : Fin 16, x1 (ix1 a) = ((S a : ℝ) : EReal)) (hD : Holds2 x2 D) (h g : Fin 4) :
    val_main_v186 (F := Ideal) x0 x1 x2 (ix2 h g) = ((∑ k : Fin 64, dsink scale X S D (2 + k) h g : ℝ) : EReal) := by
  have h0 := fun (k : Fin 64) (r : Fin 128) (m : Fin 641) => r_grad_lat hX hS hD k h g r m
  pointwise [val_main_v186, val_main_cst_36, val_main_v185, val_main_v184, val_main_cst_35]
  rw [reduce_034]
  pointwise
  rw [reduce_034]
  pointwise [val_main_v183, h0]
  simp only [Finset.univ_unique, Finset.sum_singleton, ← coe_sum]
  congr 1
  refine Finset.sum_congr rfl fun k _ => ?_
  unfold dsink dsinkRow
  rw [← Finset.sum_neg_distrib, add_comm 2 (k : ℕ)]

theorem s_ctx (hX : Holds2 x0 X) (hS : ∀ a : Fin 16, x1 (ix1 a) = ((S a : ℝ) : EReal)) (hD : Holds2 x2 D) (h g : Fin 4) :
    val_main_v219 (F := Ideal) x0 x1 x2 (ix2 h g) = ((dsink scale X S D 0 h g + dsink scale X S D 1 h g : ℝ) : EReal) := by
  have h0 := fun (r : Fin 256) (m : Fin 257) => r_grad_ctx hX hS hD h g r m
  pointwise [val_main_v219, val_main_cst_42, val_main_v218, val_main_v217, val_main_cst_41, val_main_v216, h0]
  simp only [Finset.univ_unique, Finset.sum_singleton, ← coe_sum]
  congr 1
  rw [sum_rows fun b r => dsinkRow X D S b r h g]
  unfold dsink dsinkRow
  rw [← Finset.sum_neg_distrib, ← Finset.sum_neg_distrib]

/-- The reference's gradient of the sinks. -/
theorem result_sink (hX : Holds2 x0 X) (hS : ∀ a : Fin 16, x1 (ix1 a) = ((S a : ℝ) : EReal)) (hD : Holds2 x2 D) :
    val_main_v239 (F := Ideal) x0 x1 x2 = fun j : S4x8x128.Idx =>
      ((∑ b : Fin 66, (if (j 1).val = 0 ∧ (j 2).val < 4 then dsink scale X S D b (j 0).val (j 2).val else 0) : ℝ) : EReal) := by
  funext j
  idx_vars j
  have h0 := fun (a b : Fin 4) => s_lat hX hS hD a b
  have h1 := fun (a b : Fin 4) => s_ctx hX hS hD a b
  pointwise [val_main_v239, val_main_v238, val_main_v220, h0, h1]
  by_cases hc : (j1 : ℕ) = 0 ∧ (j2 : ℕ) < 4
  · rw [dif_pos (by omega), ← EReal.coe_add]
    simp only [if_pos hc]
    rw [sum_blocks fun b => dsink scale X S D b j0 j2, add_comm]
  · rw [dif_neg (by omega), pad_sink]
    simp only [if_neg hc, Finset.sum_const_zero]

end Cert.AttnGrad

end
-- ==== Proof.Decode.lean ====
/- What the precondition says: every argument holds real numbers. -/
module

public import proofs.«01_k».proof.Proof.Finite
public import proofs.«01_k».proof.Pre_finite
public import proofs.«01_k».proof.Pre_finite2
public import proofs.«01_k».proof.Proof.Gen.Pre_finite
public import proofs.«01_k».proof.Proof.Gen.Pre_finite2

@[expose] public section

set_option maxRecDepth 16384

noncomputable section

namespace Cert.AttnGrad

open Idealize.ShloMosaic Idealize.ShloMosaic.TcCoe Idealize.SL.Sem
open Idealize.ShloMosaic

theorem pos_inf : Ideal.ofBits .f32 0x7F800000#32 = ⊤ := by simp [Ideal.ofBits, Ideal.ieee]

/-- An extended real whose absolute value is below infinity is a real number. -/
theorem real_of_abs {a : EReal} (h : max a (-a) < ⊤) : a = ((a.toReal : ℝ) : EReal) := by
  refine (EReal.coe_toReal (fun e => ?_) (fun e => ?_)).symm
  · rw [e] at h; simp at h
  · rw [e] at h; simp at h

theorem below {p : Prop} [Decidable p] (h : BitVec.ofBool (decide p) = 1#1) : p := by
  by_contra hn
  rw [decide_eq_false hn] at h
  exact absurd h (by decide)

/-- The real numbers a matrix of real numbers holds. -/
def reals2 {s0 s1 : ℕ} (x : (⟨2, ![s0, s1]⟩ : Shape).Idx → EReal) (i j : ℕ) : ℝ :=
  if h : i < s0 ∧ j < s1 then (x (ix2 ⟨i, h.1⟩ ⟨j, h.2⟩)).toReal else 0

def reals1 {s0 : ℕ} (x : (⟨1, ![s0]⟩ : Shape).Idx → EReal) (i : ℕ) : ℝ :=
  if h : i < s0 then (x (ix1 ⟨i, h⟩)).toReal else 0

theorem holds_reals2 {s0 s1 : ℕ} {x : (⟨2, ![s0, s1]⟩ : Shape).Idx → EReal} (h : ∀ a b, max (x (ix2 a b)) (-x (ix2 a b)) < ⊤) :
    Holds2 x (reals2 x) := by
  intro a b
  unfold reals2
  rw [dif_pos ⟨a.isLt, b.isLt⟩]
  exact real_of_abs (h a b)

theorem holds_reals1 {s0 : ℕ} {x : (⟨1, ![s0]⟩ : Shape).Idx → EReal} (h : ∀ a, max (x (ix1 a)) (-x (ix1 a)) < ⊤) (a : Fin s0) :
    x (ix1 a) = ((reals1 x a : ℝ) : EReal) := by
  unfold reals1
  rw [dif_pos a.isLt]
  exact real_of_abs (h a)

section
open Cert.Pre_finite

theorem finite_qkv {x0 : FVec Ideal S8448x3072 .bf16} {x1 : FVec Ideal S16 .f32} {x2 : FVec Ideal S8448x2048 .f32}
    (h : (Cert.Pre_finite.fn (F := Ideal) x0 x1 x2).1 = fun _ => 1#1) : Holds2 x0 (reals2 (s0 := 8448) (s1 := 3072) x0) := by
  refine holds_reals2 fun a b => ?_
  have := congrFun h (ix2 a b)
  pointwise [Cert.Pre_finite.fn, pos_inf] at this
  exact below this

theorem finite_sinks {x0 : FVec Ideal S8448x3072 .bf16} {x1 : FVec Ideal S16 .f32} {x2 : FVec Ideal S8448x2048 .f32}
    (h : (Cert.Pre_finite.fn (F := Ideal) x0 x1 x2).2.1 = fun _ => 1#1) (a : Fin 16) : x1 (ix1 a) = ((reals1 (s0 := 16) x1 a : ℝ) : EReal) := by
  refine holds_reals1 (fun a => ?_) a
  have := congrFun h (ix1 a)
  pointwise [Cert.Pre_finite.fn, pos_inf] at this
  exact below this

theorem finite_do {x0 : FVec Ideal S8448x3072 .bf16} {x1 : FVec Ideal S16 .f32} {x2 : FVec Ideal S8448x2048 .f32}
    (h : (Cert.Pre_finite.fn (F := Ideal) x0 x1 x2).2.2 = fun _ => 1#1) : Holds2 x2 (reals2 (s0 := 8448) (s1 := 2048) x2) := by
  refine holds_reals2 fun a b => ?_
  have := congrFun h (ix2 a b)
  pointwise [Cert.Pre_finite.fn, pos_inf] at this
  exact below this

end

section
open Cert.Pre_finite2

theorem finite2_qkv {x0 : FVec Ideal S8448x3072 .bf16} {x1 : FVec Ideal S16 .f32}
    (h : (Cert.Pre_finite2.fn (F := Ideal) x0 x1).1 = fun _ => 1#1) : Holds2 x0 (reals2 (s0 := 8448) (s1 := 3072) x0) := by
  refine holds_reals2 fun a b => ?_
  have := congrFun h (ix2 a b)
  pointwise [Cert.Pre_finite2.fn, pos_inf] at this
  exact below this

theorem finite2_sinks {x0 : FVec Ideal S8448x3072 .bf16} {x1 : FVec Ideal S16 .f32}
    (h : (Cert.Pre_finite2.fn (F := Ideal) x0 x1).2 = fun _ => 1#1) (a : Fin 16) : x1 (ix1 a) = ((reals1 (s0 := 16) x1 a : ℝ) : EReal) := by
  refine holds_reals1 (fun a => ?_) a
  have := congrFun h (ix1 a)
  pointwise [Cert.Pre_finite2.fn, pos_inf] at this
  exact below this

end

end Cert.AttnGrad

end
-- ==== Proof.RunKernel.lean ====
/- What the backward kernel's run leaves in memory: its six results as the pipeline's output arrays, its arguments unchanged. -/
module

public import proofs.«01_k».proof.Proof.Gen.KernelIdeal.Frame
public import proofs.«01_k».proof.Proof.Finite

@[expose] public section

set_option maxRecDepth 16384

noncomputable section

namespace Cert.AttnGrad

open Idealize.ShloMosaic Idealize.ShloMosaic.TcCoe Idealize.SL.Sem
open Cert.KernelIdeal Cert.KernelIdeal.Gen

theorem run_kernel (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v128_0) = (dats m 0 c).arrAt 13 (cfgs 0).N
      ∧ r.2.mem ((c.tc : Thread nD τ).loc main_v128_1) = (dats m 0 c).arrAt 14 (cfgs 0).N
      ∧ r.2.mem ((c.tc : Thread nD τ).loc main_v128_2) = (dats m 0 c).arrAt 15 (cfgs 0).N
      ∧ r.2.mem ((c.tc : Thread nD τ).loc main_v128_3) = (dats m 0 c).arrAt 16 (cfgs 0).N
      ∧ r.2.mem ((c.tc : Thread nD τ).loc main_v128_4) = (dats m 0 c).arrAt 17 (cfgs 0).N
      ∧ r.2.mem ((c.tc : Thread nD τ).loc main_v128_5) = (dats m 0 c).arrAt 18 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.2 c).1 13, (h.2 c).1 14, (h.2 c).1 15, (h.2 c).1 16, (h.2 c).1 17, (h.2 c).1 18,
    (h.1 c).1, (h.1 c).2.1, (h.1 c).2.2⟩) (θ_run_and (unchanged m ρ) (run_main m ρ))

end Cert.AttnGrad

end
-- ==== Proof.RunReference.lean ====
/- What the gradient reference's run leaves in memory. -/
module

public import proofs.«01_k».proof.Proof.Gen.ReferenceIdeal.Run
public import proofs.«01_k».proof.Proof.Gen.ReferenceIdeal.Read
public import proofs.«01_k».proof.Proof.Finite

@[expose] public section

set_option maxRecDepth 16384

noncomputable section

namespace Cert.AttnGrad

open Idealize.ShloMosaic Idealize.ShloMosaic.TcCoe Idealize.SL.Sem
open Cert.ReferenceIdeal Cert.ReferenceIdeal.Gen Cert.ReferenceIdeal.Read Idealize.ShloMosaic.StableHlo

theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v231) = val_main_v231 (F := Ideal) (m ((c.tc : Thread nD τ).loc main_arg0)) (m ((c.tc : Thread nD τ).loc main_arg1)) (m ((c.tc : Thread nD τ).loc main_arg2))
      ∧ r.2.mem ((c.tc : Thread nD τ).loc main_v232) = val_main_v232 (F := Ideal) (m ((c.tc : Thread nD τ).loc main_arg0)) (m ((c.tc : Thread nD τ).loc main_arg1)) (m ((c.tc : Thread nD τ).loc main_arg2))
      ∧ r.2.mem ((c.tc : Thread nD τ).loc main_v233) = val_main_v233 (F := Ideal) (m ((c.tc : Thread nD τ).loc main_arg0)) (m ((c.tc : Thread nD τ).loc main_arg1)) (m ((c.tc : Thread nD τ).loc main_arg2))
      ∧ r.2.mem ((c.tc : Thread nD τ).loc main_v235) = val_main_v235 (F := Ideal) (m ((c.tc : Thread nD τ).loc main_arg0)) (m ((c.tc : Thread nD τ).loc main_arg1)) (m ((c.tc : Thread nD τ).loc main_arg2))
      ∧ r.2.mem ((c.tc : Thread nD τ).loc main_v237) = val_main_v237 (F := Ideal) (m ((c.tc : Thread nD τ).loc main_arg0)) (m ((c.tc : Thread nD τ).loc main_arg1)) (m ((c.tc : Thread nD τ).loc main_arg2))
      ∧ r.2.mem ((c.tc : Thread nD τ).loc main_v239) = val_main_v239 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (val_main_v231_eq (launchContents m c)), (h c).2.1.trans (val_main_v232_eq (launchContents m c)), (h c).2.2.1.trans (val_main_v233_eq (launchContents m c)), (h c).2.2.2.1.trans (val_main_v235_eq (launchContents m c)), (h c).2.2.2.2.1.trans (val_main_v237_eq (launchContents m c)), (h c).2.2.2.2.2.1.trans (val_main_v239_eq (launchContents m c)),
    (h c).2.2.2.2.2.2⟩) (Cert.ReferenceIdeal.Value.run (F := Ideal) m ρ)

end Cert.AttnGrad

end
-- ==== Proof.Backward.lean ====
/- The backward kernel computes the gradient of the reference. -/
module

public import proofs.«01_k».proof.Proof.Win13
public import proofs.«01_k».proof.Proof.Win14
public import proofs.«01_k».proof.Proof.Win15
public import proofs.«01_k».proof.Proof.Win16
public import proofs.«01_k».proof.Proof.Win17
public import proofs.«01_k».proof.Proof.Win18
public import proofs.«01_k».proof.Proof.RefQuery
public import proofs.«01_k».proof.Proof.RefKey
public import proofs.«01_k».proof.Proof.RefValue
public import proofs.«01_k».proof.Proof.RefSink
public import proofs.«01_k».proof.Proof.Decode
public import proofs.«01_k».proof.Proof.RunKernel
public import proofs.«01_k».proof.Proof.RunReference
public import proofs.«01_k».proof.Defs

@[expose] public section

set_option maxRecDepth 16384

noncomputable section

namespace Cert.AttnGrad

open Idealize.ShloMosaic Idealize.ShloMosaic.TcCoe Idealize.SL.Sem
open Idealize.ShloMosaic

theorem algebraic_backward : Cert.algebraic_KernelIdeal_ReferenceIdeal_pre_finite := by
  intro m g m' g' hpre hagree
  refine ⟨fun c => (Cert.KernelIdeal.Gen.dats m 0 c).arrAt 13 (Cert.KernelIdeal.cfgs 0).N,
    fun c => (Cert.KernelIdeal.Gen.dats m 0 c).arrAt 14 (Cert.KernelIdeal.cfgs 0).N,
    fun c => (Cert.KernelIdeal.Gen.dats m 0 c).arrAt 15 (Cert.KernelIdeal.cfgs 0).N,
    fun c => (Cert.KernelIdeal.Gen.dats m 0 c).arrAt 16 (Cert.KernelIdeal.cfgs 0).N,
    fun c => (Cert.KernelIdeal.Gen.dats m 0 c).arrAt 17 (Cert.KernelIdeal.cfgs 0).N,
    fun c => (Cert.KernelIdeal.Gen.dats m 0 c).arrAt 18 (Cert.KernelIdeal.cfgs 0).N, run_kernel m g,
    (θ_run Cert.ReferenceIdeal.defs _ _).mono (fun r h c => ?_) (run_reference m' g')⟩
  obtain ⟨h0, h1, h2, h3, h4, h5, ha⟩ := h c
  obtain ⟨p0, p1, p2⟩ := hpre c
  obtain ⟨e0, e1, e2⟩ := hagree c
  have hX := finite_qkv p0
  have hS := finite_sinks p1
  have hD := finite_do p2
  rw [e0, e1, e2] at h0 h1 h2 h3 h4 h5
  exact ⟨h0.trans ((result_query hX hS hD).trans (final_13 hX hS hD).symm), h1.trans ((result_key_ctx hX hS hD).trans (final_14 hX hS hD).symm),
    h2.trans ((result_value_ctx hX hS hD).trans (final_15 hX hS hD).symm), h3.trans ((result_key_band hX hS hD).trans (final_16 hX hS hD).symm),
    h4.trans ((result_value_band hX hS hD).trans (final_17 hX hS hD).symm), h5.trans ((result_sink hX hS hD).trans (final_18 hX hS hD).symm), ha⟩

end Cert.AttnGrad

end
-- ==== Proof.FwdBlocks.lean ====
/- The blocks the forward kernel reads at a grid point. -/
module

public import proofs.«01_k».proof.Proof.Gen.Kernel2Ideal.Frame
public import proofs.«01_k».proof.Proof.Entry
public import Idealize.ShloMosaic.Lib.Pipeline.ValueKit

@[expose] public section

set_option maxRecDepth 16384

noncomputable section

namespace Cert.AttnGrad

open Idealize.ShloMosaic Idealize.ShloMosaic.TcCoe Idealize.SL.Sem
open Cert.Kernel2Ideal Cert.Kernel2Ideal.Gen Idealize.ShloMosaic.StableHlo

section
variable (m : (ℓ : Loc nD τ sig) → Buf (Elt Ideal) ℓ) (c : Dev nD) (t : Fin cfg0.N)

theorem fwd_bounds (t : Fin cfg0.N) : t.val % 66 < 66 ∧ t.val / 66 < 4 := by
  have h : t.val < 264 := lt_of_lt_of_eq t.isLt (by decide)
  omega

theorem fwd_coords : ∀ t : Fin grid0.N, (grid0.coords t 1).val = t.val % 66 := by decide +kernel

theorem fwd_index_0 : ∀ t : Fin grid0.N, win0_0.index t 0 = t.val % 66 ∧ win0_0.index t 1 = t.val / 66 := by decide +kernel
theorem fwd_index_1 : ∀ t : Fin grid0.N, win0_1.index t 0 = 0 ∧ win0_1.index t 1 = 16 + t.val / 66 := by decide +kernel
theorem fwd_index_2 : ∀ t : Fin grid0.N, win0_2.index t 0 = t.val % 66 - 1 ∧ win0_2.index t 1 = 16 + t.val / 66 := by decide +kernel
theorem fwd_index_3 : ∀ t : Fin grid0.N, win0_3.index t 0 = t.val % 66 ∧ win0_3.index t 1 = 16 + t.val / 66 := by decide +kernel
theorem fwd_index_4 : ∀ t : Fin grid0.N, win0_4.index t 0 = min (t.val % 66 + 1) 65 ∧ win0_4.index t 1 = 16 + t.val / 66 := by decide +kernel
theorem fwd_index_5 : ∀ t : Fin grid0.N, win0_5.index t 0 = 0 ∧ win0_5.index t 1 = 20 + t.val / 66 := by decide +kernel
theorem fwd_index_6 : ∀ t : Fin grid0.N, win0_6.index t 0 = t.val % 66 - 1 ∧ win0_6.index t 1 = 20 + t.val / 66 := by decide +kernel
theorem fwd_index_7 : ∀ t : Fin grid0.N, win0_7.index t 0 = t.val % 66 ∧ win0_7.index t 1 = 20 + t.val / 66 := by decide +kernel
theorem fwd_index_8 : ∀ t : Fin grid0.N, win0_8.index t 0 = min (t.val % 66 + 1) 65 ∧ win0_8.index t 1 = 20 + t.val / 66 := by decide +kernel
theorem fwd_index_9 : ∀ t : Fin grid0.N, win0_9.index t 0 = t.val / 66 ∧ win0_9.index t 1 = 0 ∧ win0_9.index t 2 = 0 := by decide +kernel
theorem fwd_index_10 : ∀ t : Fin grid0.N, win0_10.index t 0 = t.val % 66 ∧ win0_10.index t 1 = t.val / 66 := by decide +kernel
theorem fwd_index_11 : ∀ t : Fin grid0.N, win0_11.index t 0 = t.val % 66 ∧ win0_11.index t 1 = t.val / 66 := by decide +kernel

variable {X : ℕ → ℕ → ℝ}

theorem fwd_block_0 (hf : Holds2 (s0 := 8448) (s1 := 3072) (V m c main_arg0) X) :
    Holds2 (s0 := 128) (s1 := 512) (iblk m c 0 t) fun r d => X (128 * (t.val % 66) + r) (512 * (t.val / 66) + d) := fun r d =>
  hf.at _ (by show win0_0.index t 0 * 128 + 1 * r.val = _; rw [(fwd_index_0 t).1]; omega)
    (by show win0_0.index t 1 * 512 + 1 * d.val = _; rw [(fwd_index_0 t).2]; omega)

theorem fwd_block_1 (hf : Holds2 (s0 := 8448) (s1 := 3072) (V m c main_arg0) X) :
    Holds2 (s0 := 256) (s1 := 128) (iblk m c 1 t) fun r d => X (r) (2048 + 128 * (t.val / 66) + d) := fun r d =>
  hf.at _ (by show win0_1.index t 0 * 256 + 1 * r.val = _; rw [(fwd_index_1 t).1]; omega)
    (by show win0_1.index t 1 * 128 + 1 * d.val = _; rw [(fwd_index_1 t).2]; omega)

theorem fwd_block_2 (hf : Holds2 (s0 := 8448) (s1 := 3072) (V m c main_arg0) X) :
    Holds2 (s0 := 128) (s1 := 128) (iblk m c 2 t) fun r d => X (128 * (t.val % 66 - 1) + r) (2048 + 128 * (t.val / 66) + d) := fun r d =>
  hf.at _ (by show win0_2.index t 0 * 128 + 1 * r.val = _; rw [(fwd_index_2 t).1]; omega)
    (by show win0_2.index t 1 * 128 + 1 * d.val = _; rw [(fwd_index_2 t).2]; omega)

theorem fwd_block_3 (hf : Holds2 (s0 := 8448) (s1 := 3072) (V m c main_arg0) X) :
    Holds2 (s0 := 128) (s1 := 128) (iblk m c 3 t) fun r d => X (128 * (t.val % 66) + r) (2048 + 128 * (t.val / 66) + d) := fun r d =>
  hf.at _ (by show win0_3.index t 0 * 128 + 1 * r.val = _; rw [(fwd_index_3 t).1]; omega)
    (by show win0_3.index t 1 * 128 + 1 * d.val = _; rw [(fwd_index_3 t).2]; omega)

theorem fwd_block_4 (hf : Holds2 (s0 := 8448) (s1 := 3072) (V m c main_arg0) X) :
    Holds2 (s0 := 128) (s1 := 128) (iblk m c 4 t) fun r d => X (128 * (min (t.val % 66 + 1) 65) + r) (2048 + 128 * (t.val / 66) + d) := fun r d =>
  hf.at _ (by show win0_4.index t 0 * 128 + 1 * r.val = _; rw [(fwd_index_4 t).1]; omega)
    (by show win0_4.index t 1 * 128 + 1 * d.val = _; rw [(fwd_index_4 t).2]; omega)

theorem fwd_block_5 (hf : Holds2 (s0 := 8448) (s1 := 3072) (V m c main_arg0) X) :
    Holds2 (s0 := 256) (s1 := 128) (iblk m c 5 t) fun r d => X (r) (2560 + 128 * (t.val / 66) + d) := fun r d =>
  hf.at _ (by show win0_5.index t 0 * 256 + 1 * r.val = _; rw [(fwd_index_5 t).1]; omega)
    (by show win0_5.index t 1 * 128 + 1 * d.val = _; rw [(fwd_index_5 t).2]; omega)

theorem fwd_block_6 (hf : Holds2 (s0 := 8448) (s1 := 3072) (V m c main_arg0) X) :
    Holds2 (s0 := 128) (s1 := 128) (iblk m c 6 t) fun r d => X (128 * (t.val % 66 - 1) + r) (2560 + 128 * (t.val / 66) + d) := fun r d =>
  hf.at _ (by show win0_6.index t 0 * 128 + 1 * r.val = _; rw [(fwd_index_6 t).1]; omega)
    (by show win0_6.index t 1 * 128 + 1 * d.val = _; rw [(fwd_index_6 t).2]; omega)

theorem fwd_block_7 (hf : Holds2 (s0 := 8448) (s1 := 3072) (V m c main_arg0) X) :
    Holds2 (s0 := 128) (s1 := 128) (iblk m c 7 t) fun r d => X (128 * (t.val % 66) + r) (2560 + 128 * (t.val / 66) + d) := fun r d =>
  hf.at _ (by show win0_7.index t 0 * 128 + 1 * r.val = _; rw [(fwd_index_7 t).1]; omega)
    (by show win0_7.index t 1 * 128 + 1 * d.val = _; rw [(fwd_index_7 t).2]; omega)

theorem fwd_block_8 (hf : Holds2 (s0 := 8448) (s1 := 3072) (V m c main_arg0) X) :
    Holds2 (s0 := 128) (s1 := 128) (iblk m c 8 t) fun r d => X (128 * (min (t.val % 66 + 1) 65) + r) (2560 + 128 * (t.val / 66) + d) := fun r d =>
  hf.at _ (by show win0_8.index t 0 * 128 + 1 * r.val = _; rw [(fwd_index_8 t).1]; omega)
    (by show win0_8.index t 1 * 128 + 1 * d.val = _; rw [(fwd_index_8 t).2]; omega)

theorem fwd_sinks (x : FVec Ideal S16 .f32) (hx : m (c, main_arg1) = x) (h g : Fin 4) :
    V m c main_v2 (ix3 h 0 ⟨g, by omega⟩) = x (ix1 ⟨4 * h + g, by omega⟩) := by
  entry_read
  simp only [hostOps0, hostOps0_1,
    List.flatten_cons, List.flatten_nil, List.append_nil, List.cons_append, List.nil_append, TRef.binary, TRef.ternary, TRef.unary,
    TRef.toBuf, TRef.ofBuf, cast_eq]
  after_results_simp
  try dsimp only [Matrix.cons_val]
  try after_results_simp
  pointwise [hx]
  congr 2
  apply Fin.ext
  show (h : ℕ) * 4 + g = 4 * h + g
  omega

theorem fwd_block_9 {S : ℕ → ℝ} (hf : ∀ (h : Fin 4) (g : Fin 4), V m c main_v2 (ix3 h 0 ⟨g, by omega⟩) = ((S (4 * h + g) : ℝ) : EReal)) (g : Fin 4) :
    iblk m c 9 t (ix3 0 0 ⟨g, by omega⟩) = ((S (4 * (t.val / 66) + g) : ℝ) : EReal) := by
  refine Eq.trans ?_ (hf ⟨t.val / 66, (fwd_bounds t).2⟩ g)
  refine congrArg (V m c main_v2) ?_
  funext a
  match a with
  | ⟨0, _⟩ => exact Fin.ext (by show win0_9.index t 0 * 1 + 1 * 0 = t.val / 66; rw [(fwd_index_9 t).1]; omega)
  | ⟨1, _⟩ => exact Fin.ext (by show win0_9.index t 1 * 8 + 1 * 0 = 0; rw [(fwd_index_9 t).2.1])
  | ⟨2, _⟩ => exact Fin.ext (by show win0_9.index t 2 * 128 + 1 * g.val = g.val; rw [(fwd_index_9 t).2.2]; omega)
end

section
variable {m : (ℓ : Loc nD τ sig) → Buf (Elt Ideal) ℓ} {c : Dev nD} {X : ℕ → ℕ → ℝ} {S : ℕ → ℝ}
  (hX : Holds2 (s0 := 8448) (s1 := 3072) (m (c, main_arg0)) X) (hS : ∀ a : Fin 16, (m (c, main_arg1) : S16.Idx → EReal) (ix1 a) = ((S a : ℝ) : EReal))

include hX in
theorem fwd_keys_at (t : Fin cfg0.N) : Holds2 (s0 := 640) (s1 := 128) (k0_pay3 (F := Ideal) (iblk m c 1 t) (iblk m c 2 t) (iblk m c 3 t) (iblk m c 4 t))
    (KR X (t.val % 66) (t.val / 66)) := by
  have h : Holds2 (s0 := 8448) (s1 := 3072) (V m c main_arg0) X := by rw [V_main_arg0]; exact hX
  exact keys_read (fwd_bounds t).1 _ (fwd_block_1 m c t h) (fwd_block_2 m c t h) (fwd_block_3 m c t h) (fwd_block_4 m c t h)

include hX in
theorem fwd_values_at (t : Fin cfg0.N) : Holds2 (s0 := 640) (s1 := 128) (k0_pay4 (F := Ideal) (iblk m c 5 t) (iblk m c 6 t) (iblk m c 7 t) (iblk m c 8 t))
    (VR X (t.val % 66) (t.val / 66)) := by
  have h : Holds2 (s0 := 8448) (s1 := 3072) (V m c main_arg0) X := by rw [V_main_arg0]; exact hX
  exact values_read (fwd_bounds t).1 _ (fwd_block_5 m c t h) (fwd_block_6 m c t h) (fwd_block_7 m c t h) (fwd_block_8 m c t h)

include hX in
theorem fwd_query_at (t : Fin cfg0.N) (g w : ℕ) (hg : g < 4) (hw : w = 128 * g)
    (i1 : ∀ a, (![0, w] : Fin 2 → ℕ) a + (![128, 128] : Fin 2 → ℕ) a ≤ S128x512.size a) :
    Holds2 (s0 := 128) (s1 := 128) (VecWindow.window (iblk m c 0 t) ![0, w] ![128, 128] i1) (QR X (t.val % 66) (t.val / 66) g) := by
  have h : Holds2 (s0 := 8448) (s1 := 3072) (V m c main_arg0) X := by rw [V_main_arg0]; exact hX
  exact (columns w (fwd_block_0 m c t h) i1).congr fun r d _ _ => by subst hw; congr 1; omega

include hS in
theorem fwd_sink_at (t : Fin cfg0.N) (g : ℕ) (hg : g < 4)
    (i3 : ∀ a, (![0, 0, g] : Fin 3 → ℕ) a + (![1, 1, 1] : Fin 3 → ℕ) a ≤ S1x8x128.size a) :
    (VecWindow.window (iblk m c 9 t) ![0, 0, g] ![1, 1, 1] i3 : S1x1x1.Idx → EReal) (ix3 0 0 0) = ((S (4 * (t.val / 66) + g) : ℝ) : EReal) :=
  entry (x := iblk m c 9 t) (f := fun g => S (4 * (t.val / 66) + g)) ⟨g, by omega⟩
    (fwd_block_9 m c t fun h g => (fwd_sinks m c _ rfl h g).trans (hS _)) hg i3
end

end Cert.AttnGrad

end
-- ==== Proof.FwdBody.lean ====
/- The forward kernel at one grid point: masked logits, softmax against the sink, outputs and log-sum-exps. -/
module

public import proofs.«01_k».proof.Proof.Gen.Kernel2Ideal.Skeleton
public import proofs.«01_k».proof.Proof.Point
public import proofs.«01_k».proof.Proof.Softmax

@[expose] public section

set_option maxRecDepth 16384

noncomputable section

namespace Cert.AttnGrad

open Idealize.ShloMosaic Idealize.ShloMosaic.TcCoe Idealize.SL.Sem
open Cert.Kernel2Ideal Cert.Kernel2Ideal.Gen

section
variable {X : ℕ → ℕ → ℝ} {S : ℕ → ℝ} {h : ℕ}

/-- Four blocks of 128 rows, one under the other. -/
def stacked (f : ℕ → ℕ → ℕ → ℝ) : ℕ → ℕ → ℝ := fun R d => f (R / 128) (R % 128) d

/-- The mask of key `n` for row `r`, as the kernel's words state it. -/
def maskTile (b r n : ℕ) : EReal :=
  if n < 256 then 0
  else if n - 256 < 128 then
    Scalar.select (IntOp.andi (IntOp.andi (IntOp.cmpi CmpIPredicate.sge (BitVec.ofNat 32 (n - 256)) (BitVec.ofNat 32 r))
      (BitVec.ofBool (decide (2 ≤ b)))) (BitVec.ofBool (decide (3 ≤ b)))) 0 ⊥
  else if n - 256 - 128 < 128 then Scalar.select (BitVec.ofBool (decide (2 ≤ b))) 0 ⊥
  else
    Scalar.select (IntOp.andi (IntOp.andi (IntOp.cmpi CmpIPredicate.sle (BitVec.ofNat 32 (n - 256 - 128 - 128)) (BitVec.ofNat 32 r))
      (BitVec.ofBool (decide (2 ≤ b)))) (BitVec.ofBool (decide (b ≤ 64)))) 0 ⊥

theorem maskTile_eq {b r n : ℕ} (hr : r < 128) (hn : n < 640) : maskTile b r n = if Visible b r n then 0 else ⊥ := by
  unfold maskTile
  rw [sge_word (by omega) (by omega), sle_word (by omega) (by omega)]
  simp only [and_bits, select_bit]
  by_cases hv : Visible b r n
  · rw [if_pos hv]
    unfold Visible at hv
    split_ifs <;> first | rfl | (exfalso; omega)
  · rw [if_neg hv]
    unfold Visible at hv
    split_ifs <;> first | rfl | (exfalso; omega)

theorem fwd_close {b g r n R : ℕ} (hr : r < 128) (hn : n < 640) (e : R = 128 * g + r) :
    (∑ x : Fin 128, ((QR X b h g r x : ℝ) : EReal) * ((KR X b h n x : ℝ) : EReal)) * ((scale : ℝ) : EReal) + maskTile b r n
      = if Visible b (R % 128) n then ((logit scale X b (R % 128) h (R / 128) n : ℝ) : EReal) else ⊥ := by
  have e1 : R % 128 = r := by omega
  have e2 : R / 128 = g := by omega
  rw [maskTile_eq hr hn, e1, e2]
  simp only [← EReal.coe_mul, ← coe_sum]
  split
  · rw [add_zero]; rfl
  · exact EReal.add_bot _

section
variable {k : FVec Ideal S640x128 .bf16} {q0 q1 q2 q3 : FVec Ideal S128x128 .bf16} {i : grid0.Coords}

set_option maxHeartbeats 2000000 in
/-- The masked logits of the four heads of a block, one under the other. -/
theorem fwd_logit (hk : Holds2 (s0 := 640) (s1 := 128) k (KR X (i 1).val h))
    (h0 : Holds2 (s0 := 128) (s1 := 128) q0 (QR X (i 1).val h 0)) (h1 : Holds2 (s0 := 128) (s1 := 128) q1 (QR X (i 1).val h 1))
    (h2 : Holds2 (s0 := 128) (s1 := 128) q2 (QR X (i 1).val h 2)) (h3 : Holds2 (s0 := 128) (s1 := 128) q3 (QR X (i 1).val h 3))
    (R : Fin 512) (n : Fin 640) :
    k0_pay11 (F := Ideal) k (k0_pay5 i) (k0_pay6 i) (k0_pay7 i) k0_pay8 k0_pay9 q0 q1 q2 q3 (ix2 R n)
      = if Visible (i 1).val (R.val % 128) n.val then ((logit scale X (i 1).val (R.val % 128) h (R.val / 128) n.val : ℝ) : EReal) else ⊥ := by
  have hr := R.isLt
  have hn := n.isLt
  have e1 : Scalar.cmpi CmpIPredicate.sge (BitVec.ofNat 32 (i 1).val) 2#32 = _ := block_ge (i 1)
  have e2 : Scalar.cmpi CmpIPredicate.sge (Scalar.subi (BitVec.ofNat 32 (i 1).val) 1#32) 2#32 = _ := block_prev (i 1)
  have e3 : Scalar.cmpi CmpIPredicate.sle (Scalar.addi (BitVec.ofNat 32 (i 1).val) 1#32) 65#32 = _ := block_next (i 1)
  have g := fun (n : Fin 640) (d : Fin 128) => hk n d
  have g0 := fun (n : Fin 128) (d : Fin 128) => h0 n d
  have g1 := fun (n : Fin 128) (d : Fin 128) => h1 n d
  have g2 := fun (n : Fin 128) (d : Fin 128) => h2 n d
  have g3 := fun (n : Fin 128) (d : Fin 128) => h3 n d
  pointwise [k0_pay11, k0_pay5, k0_pay6, k0_pay7, k0_pay8, k0_pay9, g, g0, g1, g2, g3, neg_inf, scale_eq]
  rw [e1, e2, e3]
  clear e1 e2 e3 hk h0 h1 h2 h3 g g0 g1 g2 g3
  generalize (i 1).val = b
  by_cases c1 : (R : ℕ) < 128
  · simp only [dif_pos c1]
    exact fwd_close (g := 0) (by omega) hn (by omega)
  · by_cases c2 : (R : ℕ) - 128 < 128
    · simp only [dif_neg c1, dif_pos c2]
      exact fwd_close (g := 1) (by omega) hn (by omega)
    · by_cases c3 : (R : ℕ) - 128 - 128 < 128
      · simp only [dif_neg c1, dif_neg c2, dif_pos c3]
        exact fwd_close (g := 2) (by omega) hn (by omega)
      · simp only [dif_neg c1, dif_neg c2, dif_neg c3]
        exact fwd_close (g := 3) (by omega) hn (by omega)
end

section
variable {T : FVec Ideal S512x1 .f32} {L : FVec Ideal S512x640 .f32} {M : FVec Ideal S512 .f32} {v : FVec Ideal S640x128 .bf16}
  {b : ℕ} {mx : ℕ → ℝ}

/-- Every row of the stacked logits has a real largest entry. -/
theorem fwd_max (hL : ∀ (R : Fin 512) (n : Fin 640), L (ix2 R n)
      = if Visible b (R.val % 128) n.val then ((logit scale X b (R.val % 128) h (R.val / 128) n.val : ℝ) : EReal) else ⊥) (R : Fin 512) :
    ∃ a : ℝ, multiReduction (F := Ideal) .maximumf [1] S512 L 0xFF800000#32 reduces_S512x640_S512 (.inl rfl) rfl (ix1 R) = ((a : ℝ) : EReal) := by
  obtain ⟨a, ha, -⟩ := soft_row (fun n : Fin 640 => L (ix2 R n)) (fun n => Visible b (R.val % 128) n.val)
    (fun n => logit scale X b (R.val % 128) h (R.val / 128) n.val) (hL R) 0 (.inl (by decide))
  refine ⟨a, Eq.trans ?_ ha⟩
  pointwise [neg_inf]

variable (hL : ∀ (R : Fin 512) (n : Fin 640), L (ix2 R n)
      = if Visible b (R.val % 128) n.val then ((logit scale X b (R.val % 128) h (R.val / 128) n.val : ℝ) : EReal) else ⊥)
  (hT : ∀ (R : Fin 512) (z : Fin 1), T (ix2 R z) = ((S (4 * h + R.val / 128) : ℝ) : EReal))
  (hM : ∀ R : Fin 512, M (ix1 R) = ((mx R.val : ℝ) : EReal))

/-- The shift of a row: the larger of the sink and the largest logit. -/
def shiftOf (S : ℕ → ℝ) (h : ℕ) (mx : ℕ → ℝ) (R : ℕ) : ℝ := max (S (4 * h + R / 128)) (mx R)

include hT hM in
theorem fwd_shift (R : Fin 512) (z : Fin 1) : k0_pay13 (F := Ideal) T M (ix2 R z) = ((shiftOf S h mx R : ℝ) : EReal) := by
  have e := hT R z
  have e2 := hM R
  pointwise [k0_pay13, e, e2]
  exact (EReal.coe_strictMono.monotone.map_max).symm

include hL hT hM in
theorem fwd_exp (R : Fin 512) (n : Fin 640) : k0_pay14 (F := Ideal) T L M (ix2 R n)
    = ((weight scale X b (R % 128) h (R / 128) n * Real.exp (-shiftOf S h mx R) : ℝ) : EReal) := by
  have e := fwd_shift hT hM R 0
  have e2 := hL R n
  pointwise [k0_pay14, e, e2]
  exact exp_shift ..

include hL hT hM in
theorem fwd_den (R : Fin 512) (z : Fin 1) : k0_pay15 (F := Ideal) T L M (ix2 R z)
    = ((den scale X S b (R % 128) h (R / 128) * Real.exp (-shiftOf S h mx R) : ℝ) : EReal) := by
  have e := fwd_shift hT hM R z
  have e1 := hT R z
  have e2 := fun n => fwd_exp hL hT hM R n
  pointwise [k0_pay15, e, e1, e2]
  simp only [← coe_sum, ← EReal.coe_sub, Ideal.exp_coe, ← EReal.coe_add]
  congr 1
  rw [den, sub_eq_add_neg, Real.exp_add, add_mul, Finset.sum_mul]

include hL hT hM in
/-- The output of a row. -/
theorem fwd_out (hv : Holds2 (s0 := 640) (s1 := 128) v (VR X b h)) (R : Fin 512) (d : Fin 128) :
    k0_pay16 (F := Ideal) v T L M (ix2 R d) = ((out scale X S b (R % 128) h (R / 128) d : ℝ) : EReal) := by
  have e := fwd_den hL hT hM R 0
  have e1 := fun n : Fin 640 => hv n d
  have e2 := fun n => fwd_exp hL hT hM R n
  pointwise [k0_pay16, e, e1, e2]
  have hE := Real.exp_pos (-shiftOf S h mx R)
  have hZ := den_pos scale X S b (R % 128) h (R / 128)
  rw [← EReal.coe_one, div_coe (mul_pos hZ hE).ne']
  simp only [← EReal.coe_mul, ← coe_sum]
  congr 1
  unfold out prob
  refine Finset.sum_congr rfl fun n _ => ?_
  field_simp

include hL hT hM in
/-- The log-sum-exp of a row. -/
theorem fwd_lse (R : Fin 512) (z : Fin 1) :
    k0_pay17 (F := Ideal) T L M (ix2 R z) = ((Real.log (den scale X S b (R % 128) h (R / 128)) : ℝ) : EReal) := by
  have e := fwd_den hL hT hM R z
  have e1 := fwd_shift hT hM R z
  show k0_pay13 (F := Ideal) T M (ix2 R z) + Ideal.log (k0_pay15 (F := Ideal) T L M (ix2 R z)) = _
  rw [e, e1]
  exact log_shift (den_pos ..)
end
end

end Cert.AttnGrad

end
-- ==== Proof.FwdTile.lean ====
/- The tiles the forward kernel stores: each head, its outputs and its log-sum-exps. -/
module

public import proofs.«01_k».proof.Proof.FwdBody

@[expose] public section

set_option maxRecDepth 16384

noncomputable section

namespace Cert.AttnGrad

open Idealize.ShloMosaic Idealize.ShloMosaic.TcCoe Idealize.SL.Sem
open Cert.Kernel2Ideal Cert.Kernel2Ideal.Gen

theorem lane_pick (g : ℕ) (hg : g < 4) (n : Fin 128) (x y : EReal) :
    Scalar.select (IntOp.cmpi CmpIPredicate.eq (BitVec.ofNat 32 n) (BitVec.ofNat 32 g)) x y = if (n : ℕ) = g then x else y := by
  have : (BitVec.ofNat 32 n = BitVec.ofNat 32 g) ↔ (n : ℕ) = g := by
    rw [← BitVec.toNat_inj, BitVec.toNat_ofNat, BitVec.toNat_ofNat]
    have := n.isLt
    omega
  by_cases h : (n : ℕ) = g
  · simp [Scalar.select, IntOp.cmpi, h]
  · rw [if_neg h]
    simp [Scalar.select, IntOp.cmpi, beq_eq_false_iff_ne.mpr (fun e => h (this.mp e))]

variable {X : ℕ → ℕ → ℝ} {S : ℕ → ℝ} {h b : ℕ} {mx : ℕ → ℝ}
variable {T : FVec Ideal S512x1 .f32} {L : FVec Ideal S512x640 .f32} {M : FVec Ideal S512 .f32} {v : FVec Ideal S640x128 .bf16}

/-- The column of sinks: each head's, down its 128 rows. -/
theorem fwd_sink {s0 s1 s2 s3 : FVec Ideal S1x1x1 .f32} (h0 : s0 (ix3 0 0 0) = ((S (4 * h + 0) : ℝ) : EReal))
    (h1 : s1 (ix3 0 0 0) = ((S (4 * h + 1) : ℝ) : EReal)) (h2 : s2 (ix3 0 0 0) = ((S (4 * h + 2) : ℝ) : EReal))
    (h3 : s3 (ix3 0 0 0) = ((S (4 * h + 3) : ℝ) : EReal)) (R : Fin 512) (z : Fin 1) :
    k0_pay10 (F := Ideal) s0 s1 s2 s3 (ix2 R z) = ((S (4 * h + R.val / 128) : ℝ) : EReal) := by
  have hr := R.isLt
  pointwise [k0_pay10, h0, h1, h2, h3]
  by_cases c1 : (R : ℕ) < 128
  · rw [dif_pos c1]; congr 3; omega
  · rw [dif_neg c1]
    by_cases c2 : (R : ℕ) - 128 < 128
    · rw [dif_pos c2]; congr 3; omega
    · rw [dif_neg c2]
      by_cases c3 : (R : ℕ) - 128 - 128 < 128
      · rw [dif_pos c3]; congr 3; omega
      · rw [dif_neg c3]; congr 3; omega

section
variable (hL : ∀ (R : Fin 512) (n : Fin 640), L (ix2 R n)
      = if Visible b (R.val % 128) n.val then ((logit scale X b (R.val % 128) h (R.val / 128) n.val : ℝ) : EReal) else ⊥)
  (hT : ∀ (R : Fin 512) (z : Fin 1), T (ix2 R z) = ((S (4 * h + R.val / 128) : ℝ) : EReal))
  (hM : ∀ R : Fin 512, M (ix1 R) = ((mx R.val : ℝ) : EReal))
include hL hT hM

theorem fwd_out_0 (hv : Holds2 (s0 := 640) (s1 := 128) v (VR X b h)) (r d : Fin 128) :
    k0_pay18 (F := Ideal) v T L M (ix2 r d) = ((out scale X S b r h 0 d : ℝ) : EReal) := by
  have hr := r.isLt
  have e := fun R : Fin 512 => fwd_out hL hT hM hv R d
  pointwise [k0_pay18, e]
  congr 2 <;> omega

theorem fwd_out_1 (hv : Holds2 (s0 := 640) (s1 := 128) v (VR X b h)) (r d : Fin 128) :
    k0_pay19 (F := Ideal) v T L M (ix2 r d) = ((out scale X S b r h 1 d : ℝ) : EReal) := by
  have hr := r.isLt
  have e := fun R : Fin 512 => fwd_out hL hT hM hv R d
  pointwise [k0_pay19, e]
  congr 2 <;> omega

theorem fwd_out_2 (hv : Holds2 (s0 := 640) (s1 := 128) v (VR X b h)) (r d : Fin 128) :
    k0_pay21 (F := Ideal) v T L M (ix2 r d) = ((out scale X S b r h 2 d : ℝ) : EReal) := by
  have hr := r.isLt
  have e := fun R : Fin 512 => fwd_out hL hT hM hv R d
  pointwise [k0_pay21, e]
  congr 2 <;> omega

theorem fwd_out_3 (hv : Holds2 (s0 := 640) (s1 := 128) v (VR X b h)) (r d : Fin 128) :
    k0_pay1 (F := Ideal) (k0_pay16 v T L M) (ix2 r d) = ((out scale X S b r h 3 d : ℝ) : EReal) := by
  have hr := r.isLt
  have e := fun R : Fin 512 => fwd_out hL hT hM hv R d
  pointwise [k0_pay1, e]
  congr 2 <;> omega

/-- The log-sum-exps of a block, each head's in its own lane. -/
theorem fwd_lse_tile (r n : Fin 128) :
    k0_pay2 (F := Ideal) (k0_pay17 T L M) (iota .tc S128x128 32 [1] iota_S128x128_d1_w32) (k0_pay20 T L M) k0_pay22 (k0_pay23 T L M) (ix2 r n)
      = ((if n.val < 4 then Real.log (den scale X S b r h n) else 0 : ℝ) : EReal) := by
  have hr := r.isLt
  have e := fun R : Fin 512 => fwd_lse hL hT hM R 0
  pointwise [k0_pay2, k0_pay20, k0_pay22, k0_pay23, e]
  rw [lane_pick 0 (by decide), lane_pick 1 (by decide), lane_pick 2 (by decide), lane_pick 3 (by decide)]
  by_cases c3 : (n : ℕ) = 3
  · rw [if_pos c3, if_pos (by omega), c3, show (384 + (r : ℕ)) % 128 = r by omega, show (384 + (r : ℕ)) / 128 = 3 by omega]
  · rw [if_neg c3]
    by_cases c2 : (n : ℕ) = 2
    · rw [if_pos c2, if_pos (by omega), c2, show (256 + (r : ℕ)) % 128 = r by omega, show (256 + (r : ℕ)) / 128 = 2 by omega]
    · rw [if_neg c2]
      by_cases c1 : (n : ℕ) = 1
      · rw [if_pos c1, if_pos (by omega), c1, show (128 + (r : ℕ)) % 128 = r by omega, show (128 + (r : ℕ)) / 128 = 1 by omega]
      · rw [if_neg c1]
        by_cases c0 : (n : ℕ) = 0
        · rw [if_pos c0, if_pos (by omega), c0, show (r : ℕ) % 128 = r by omega, show (r : ℕ) / 128 = 0 by omega]
        · rw [if_neg c0, if_neg (by omega), EReal.coe_zero]
end

end Cert.AttnGrad

end
-- ==== Proof.FwdFinal.lean ====
/- What the forward kernel leaves in its two results. -/
module

public import proofs.«01_k».proof.Proof.FwdBlocks
public import proofs.«01_k».proof.Proof.FwdTile
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.AttnGrad

open Idealize.ShloMosaic Idealize.ShloMosaic.TcCoe Idealize.SL.Sem
open Cert.Kernel2Ideal Cert.Kernel2Ideal.Gen

variable {m : (ℓ : Loc nD τ sig) → Buf (Elt Ideal) ℓ} {c : Dev nD} {X : ℕ → ℕ → ℝ} {S : ℕ → ℝ}
  (hX : Holds2 (s0 := 8448) (s1 := 3072) (m (c, main_arg0)) X) (hS : ∀ a : Fin 16, (m (c, main_arg1) : S16.Idx → EReal) (ix1 a) = ((S a : ℝ) : EReal))

/-- The sink column, the masked logits and their row maxima at grid point `t`. -/
abbrev sinkCol (m : (ℓ : Loc nD τ sig) → Buf (Elt Ideal) ℓ) (c : Dev nD) (t : Fin cfg0.N) : FVec Ideal S512x1 .f32 :=
  k0_pay10 (VecWindow.window (iblk m c 9 t) ![0, 0, 0] ![1, 1, 1] inb_S1x8x128_S1x1x1_0_0_0) (VecWindow.window (iblk m c 9 t) ![0, 0, 1] ![1, 1, 1] inb_S1x8x128_S1x1x1_0_0_1)
    (VecWindow.window (iblk m c 9 t) ![0, 0, 2] ![1, 1, 1] inb_S1x8x128_S1x1x1_0_0_2) (VecWindow.window (iblk m c 9 t) ![0, 0, 3] ![1, 1, 1] inb_S1x8x128_S1x1x1_0_0_3)

abbrev logits (m : (ℓ : Loc nD τ sig) → Buf (Elt Ideal) ℓ) (c : Dev nD) (t : Fin cfg0.N) : FVec Ideal S512x640 .f32 :=
  k0_pay11 (k0_pay3 (iblk m c 1 t) (iblk m c 2 t) (iblk m c 3 t) (iblk m c 4 t)) (k0_pay5 (grid0.coords t)) (k0_pay6 (grid0.coords t)) (k0_pay7 (grid0.coords t))
    k0_pay8 k0_pay9 (VecWindow.window (iblk m c 0 t) ![0, 0] ![128, 128] inb_S128x512_S128x128_0_0)
    (VecWindow.window (iblk m c 0 t) ![0, 128] ![128, 128] inb_S128x512_S128x128_0_128)
    (VecWindow.window (iblk m c 0 t) ![0, 256] ![128, 128] inb_S128x512_S128x128_0_256)
    (VecWindow.window (iblk m c 0 t) ![0, 384] ![128, 128] inb_S128x512_S128x128_0_384)

abbrev rowMax (m : (ℓ : Loc nD τ sig) → Buf (Elt Ideal) ℓ) (c : Dev nD) (t : Fin cfg0.N) : FVec Ideal S512 .f32 :=
  multiReduction (F := Ideal) .maximumf [1] S512 (logits m c t) 0xFF800000#32 reduces_S512x640_S512 (.inl rfl) rfl

include hX in
theorem logits_at (t : Fin cfg0.N) (R : Fin 512) (n : Fin 640) : logits m c t (ix2 R n)
    = if Visible (t.val % 66) (R.val % 128) n.val then ((logit scale X (t.val % 66) (R.val % 128) (t.val / 66) (R.val / 128) n.val : ℝ) : EReal) else ⊥ := by
  have e := fwd_logit (X := X) (h := t.val / 66) (i := grid0.coords t) (R := R) (n := n)
    (k := k0_pay3 (iblk m c 1 t) (iblk m c 2 t) (iblk m c 3 t) (iblk m c 4 t))
    (q0 := VecWindow.window (iblk m c 0 t) ![0, 0] ![128, 128] inb_S128x512_S128x128_0_0)
    (q1 := VecWindow.window (iblk m c 0 t) ![0, 128] ![128, 128] inb_S128x512_S128x128_0_128)
    (q2 := VecWindow.window (iblk m c 0 t) ![0, 256] ![128, 128] inb_S128x512_S128x128_0_256)
    (q3 := VecWindow.window (iblk m c 0 t) ![0, 384] ![128, 128] inb_S128x512_S128x128_0_384)
  rw [fwd_coords t] at e
  exact e (fwd_keys_at hX t) (fwd_query_at hX t 0 0 (by omega) rfl _) (fwd_query_at hX t 1 128 (by omega) rfl _)
    (fwd_query_at hX t 2 256 (by omega) rfl _) (fwd_query_at hX t 3 384 (by omega) rfl _)

include hS in
theorem sinkCol_at (t : Fin cfg0.N) (R : Fin 512) (z : Fin 1) : sinkCol m c t (ix2 R z) = ((S (4 * (t.val / 66) + R.val / 128) : ℝ) : EReal) :=
  fwd_sink (fwd_sink_at hS t 0 (by omega) _) (fwd_sink_at hS t 1 (by omega) _) (fwd_sink_at hS t 2 (by omega) _) (fwd_sink_at hS t 3 (by omega) _) R z

include hX in
theorem rowMax_at (t : Fin cfg0.N) : ∃ mx : ℕ → ℝ, ∀ R : Fin 512, rowMax m c t (ix1 R) = ((mx R.val : ℝ) : EReal) := by
  choose f hf using fwd_max (logits_at hX t)
  exact ⟨fun R => if h : R < 512 then f ⟨R, h⟩ else 0, fun R => by
    show _ = ((if h : R.val < 512 then f ⟨R.val, h⟩ else 0 : ℝ) : EReal)
    rw [dif_pos R.isLt]
    exact hf R⟩

theorem fwd_part (x : S128x128.Idx) : x = ix2 (x 0) (x 1) := by
  funext a
  match a with
  | ⟨0, _⟩ => rfl
  | ⟨1, _⟩ => rfl

/-- What the body reads, from the blocks of the grid point. -/
theorem read_values (t : Fin cfg0.N) : k0_pay25 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t)
    = k0_pay4 (iblk m c 5 t) (iblk m c 6 t) (iblk m c 7 t) (iblk m c 8 t) := by
  unfold k0_pay25
  simp (disch := decide) only [View.ld_unit_lit']

theorem read_sinks (t : Fin cfg0.N) : k0_pay31 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t)
    = sinkCol m c t := by
  unfold k0_pay31
  rfl

theorem read_logits (t : Fin cfg0.N) : k0_pay32 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t)
    = logits m c t := by
  unfold k0_pay32 k0_pay24 k0_pay26 k0_pay27 k0_pay28 k0_pay29 k0_pay30
  simp (disch := decide) only [View.ld_unit_lit']
  rfl

theorem read_max (t : Fin cfg0.N) : k0_pay33 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t)
    = rowMax m c t := by
  unfold k0_pay33 k0_pay12 rowMax
  rw [← read_logits]
  unfold k0_pay32
  rfl

include hX hS

set_option maxHeartbeats 2000000 in
/-- The forward kernel's first result is the attention's output. -/
theorem final_out : (dats m 0 c).arrAt 10 (cfgs 0).N = fun j : S8448x2048.Idx =>
    ((out scale X S ((j 0).val / 128) ((j 0).val % 128) ((j 1).val / 512) ((j 1).val / 128 % 4) ((j 1).val % 128) : ℝ) : EReal) := by
  refine (dats m 0 c).arrAt_eq_of_covers 10 _ (by decide +kernel) fun t hf y => ?_
  obtain ⟨mx, hM⟩ := rowMax_at hX t
  have q0 := fwd_out_0 (logits_at hX t) (sinkCol_at hS t) hM (fwd_values_at hX t)
  have q1 := fwd_out_1 (logits_at hX t) (sinkCol_at hS t) hM (fwd_values_at hX t)
  have q2 := fwd_out_2 (logits_at hX t) (sinkCol_at hS t) hM (fwd_values_at hX t)
  have q3 := fwd_out_3 (logits_at hX t) (sinkCol_at hS t) hM (fwd_values_at hX t)
  obtain ⟨i0, i1⟩ := fwd_index_10 t
  have key : ∀ (x : S128x128.Idx) (g : ℕ), g < 4 → (y 0).val = (x 0).val → (y 1).val = 128 * g + (x 1).val →
      ((out scale X S (t.val % 66) (x 0).val (t.val / 66) g (x 1).val : ℝ) : EReal)
      = ((out scale X S ((win0_10.index t 0 * 128 + 1 * (y 0).val) / 128) ((win0_10.index t 0 * 128 + 1 * (y 0).val) % 128)
        ((win0_10.index t 1 * 512 + 1 * (y 1).val) / 512) ((win0_10.index t 1 * 512 + 1 * (y 1).val) / 128 % 4)
        ((win0_10.index t 1 * 512 + 1 * (y 1).val) % 128) : ℝ) : EReal) := by
    intro x g hg h0 h1
    have b0 : (x 0).val < 128 := (x 0).isLt
    have b1 : (x 1).val < 128 := (x 1).isLt
    rw [i0, i1, h0, h1]
    have e0 : (t.val % 66 * 128 + 1 * (x 0).val) / 128 = t.val % 66 := by omega
    have e1 : (t.val % 66 * 128 + 1 * (x 0).val) % 128 = (x 0).val := by omega
    have e2 : (t.val / 66 * 512 + 1 * (128 * g + (x 1).val)) / 512 = t.val / 66 := by omega
    have e3 : (t.val / 66 * 512 + 1 * (128 * g + (x 1).val)) / 128 % 4 = g := by omega
    have e4 : (t.val / 66 * 512 + 1 * (128 * g + (x 1).val)) % 128 = (x 1).val := by omega
    rw [e0, e1, e2, e3, e4]
  rw [after0_10]
  unfold out0_10
  rw [read_values, read_sinks, read_logits, read_max]
  canon_tiles x h
  · rw [fwd_part x]
    exact (q3 (x 0) (x 1)).trans (key x 3 (by omega) h0 (h1.trans (by omega)))
  · rw [fwd_part x]
    exact (q2 (x 0) (x 1)).trans (key x 2 (by omega) h0 (h1.trans (by omega)))
  · rw [fwd_part x]
    exact (q1 (x 0) (x 1)).trans (key x 1 (by omega) h0 (h1.trans (by omega)))
  · rw [fwd_part x]
    exact (q0 (x 0) (x 1)).trans (key x 0 (by omega) h0 (h1.trans (by omega)))

set_option maxHeartbeats 2000000 in
/-- Its second result is the log-sum-exps. -/
theorem final_lse : (dats m 0 c).arrAt 11 (cfgs 0).N = fun j : S8448x512.Idx =>
    ((if (j 1).val % 128 < 4 then Real.log (den scale X S ((j 0).val / 128) ((j 0).val % 128) ((j 1).val / 128) ((j 1).val % 128)) else 0 : ℝ) : EReal) := by
  refine (dats m 0 c).arrAt_eq_of_covers 11 _ (by decide +kernel) fun t hf y => ?_
  obtain ⟨mx, hM⟩ := rowMax_at hX t
  have q := fwd_lse_tile (logits_at hX t) (sinkCol_at hS t) hM
  obtain ⟨i0, i1⟩ := fwd_index_11 t
  have b0 : (y 0).val < 128 := (y 0).isLt
  have b1 : (y 1).val < 128 := (y 1).isLt
  have key : ((if (y 1).val < 4 then Real.log (den scale X S (t.val % 66) (y 0).val (t.val / 66) (y 1).val) else 0 : ℝ) : EReal)
      = ((if (win0_11.index t 1 * 128 + 1 * (y 1).val) % 128 < 4 then Real.log (den scale X S ((win0_11.index t 0 * 128 + 1 * (y 0).val) / 128)
        ((win0_11.index t 0 * 128 + 1 * (y 0).val) % 128) ((win0_11.index t 1 * 128 + 1 * (y 1).val) / 128)
        ((win0_11.index t 1 * 128 + 1 * (y 1).val) % 128)) else 0 : ℝ) : EReal) := by
    rw [i0, i1]
    have e0 : (t.val % 66 * 128 + 1 * (y 0).val) / 128 = t.val % 66 := by omega
    have e1 : (t.val % 66 * 128 + 1 * (y 0).val) % 128 = (y 0).val := by omega
    have e2 : (t.val / 66 * 128 + 1 * (y 1).val) / 128 = t.val / 66 := by omega
    have e3 : (t.val / 66 * 128 + 1 * (y 1).val) % 128 = (y 1).val := by omega
    rw [e0, e1, e2, e3]
  rw [after0_11]
  unfold out0_11
  rw [read_sinks, read_logits, read_max]
  canon_tiles x h
  have e0 : (x 0).val = (y 0).val := h0.symm
  have e1 : (x 1).val = (y 1).val := h1.symm
  rw [fwd_part x]
  refine (q (x 0) (x 1)).trans (Eq.trans ?_ key)
  rw [e0, e1]

end Cert.AttnGrad

end
-- ==== Proof.FwdRun.lean ====
/- The run of the forward kernel: its two results as the pipeline leaves them, its arguments unchanged. -/
module

public import proofs.«01_k».proof.Proof.Gen.Kernel2Ideal.Frame
public import proofs.«01_k».proof.Proof.Finite

@[expose] public section

set_option maxRecDepth 16384

noncomputable section

namespace Cert.AttnGrad

open Idealize.ShloMosaic Idealize.ShloMosaic.TcCoe Idealize.SL.Sem
open Cert.Kernel2Ideal Cert.Kernel2Ideal.Gen

theorem run_forward (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3_0) = (dats m 0 c).arrAt 10 (cfgs 0).N
      ∧ r.2.mem ((c.tc : Thread nD τ).loc main_v3_1) = (dats m 0 c).arrAt 11 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h.2 c).1 10, (h.2 c).1 11, (h.1 c).1, (h.1 c).2⟩) (θ_run_and (unchanged m ρ) (run_main m ρ))

end Cert.AttnGrad

end
-- ==== Proof.FwdReference.lean ====
/- The run of the forward reference: its two results as its lines compute them. -/
module

public import proofs.«01_k».proof.Proof.Gen.Reference2Ideal.Run
public import proofs.«01_k».proof.Proof.Gen.Reference2Ideal.Read
public import proofs.«01_k».proof.Proof.Finite

@[expose] public section

set_option maxRecDepth 16384

noncomputable section

namespace Cert.AttnGrad

open Idealize.ShloMosaic Idealize.ShloMosaic.TcCoe Idealize.SL.Sem
open Cert.Reference2Ideal Cert.Reference2Ideal.Gen Cert.Reference2Ideal.Read Idealize.ShloMosaic.StableHlo

theorem run_forward_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v124) = val_main_v124 (F := Ideal) (m ((c.tc : Thread nD τ).loc main_arg0)) (m ((c.tc : Thread nD τ).loc main_arg1))
      ∧ r.2.mem ((c.tc : Thread nD τ).loc main_v123) = val_main_v123 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v124_eq m c), (h c).2.1.trans (val_main_v123_eq m c),
    (h c).2.2⟩) (Cert.Reference2Ideal.Value.run (F := Ideal) m ρ)

end Cert.AttnGrad

end
-- ==== Proof.FwdClaim.lean ====
/- The forward kernel computes what the forward reference computes. -/
module

public import proofs.«01_k».proof.Proof.FwdFinal
public import proofs.«01_k».proof.Proof.FwdRun
public import proofs.«01_k».proof.Proof.FwdReference
public import proofs.«01_k».proof.Proof.Decode
public import proofs.«01_k».proof.Proof.Softmax
public import proofs.«01_k».proof.Defs

@[expose] public section

set_option maxRecDepth 16384

noncomputable section

namespace Cert.AttnGrad

open Idealize.ShloMosaic Idealize.ShloMosaic.TcCoe Idealize.SL.Sem
open Idealize.ShloMosaic

theorem holds2_entry {s0 s1 : ℕ} {x : (⟨2, ![s0, s1]⟩ : Shape).Idx → EReal} {f : ℕ → ℕ → ℝ} (hx : Holds2 x f) :
    x = fun j => ((f (j 0).val (j 1).val : ℝ) : EReal) := by
  funext j
  exact hx.at j rfl rfl

set_option maxHeartbeats 20000000 in
/-- The forward kernel computes the attention and its log-sum-exps. -/
theorem algebraic_forward : Cert.algebraic_Kernel2Ideal_Reference2Ideal_pre_finite2 := by
  intro m g m' g' hpre hagree
  refine ⟨fun c => (Cert.Kernel2Ideal.Gen.dats m 0 c).arrAt 10 (Cert.Kernel2Ideal.cfgs 0).N,
    fun c => (Cert.Kernel2Ideal.Gen.dats m 0 c).arrAt 11 (Cert.Kernel2Ideal.cfgs 0).N, run_forward m g,
    (θ_run Cert.Reference2Ideal.defs _ _).mono (fun r h c => ?_) (run_forward_reference m' g')⟩
  obtain ⟨h0, h1, ha⟩ := h c
  obtain ⟨p0, p1⟩ := hpre c
  obtain ⟨e0, e1⟩ := hagree c
  have hX := finite2_qkv p0
  have hS := finite2_sinks p1
  rw [e0, e1] at h0 h1
  exact ⟨h0.trans ((holds2_entry (s0 := 8448) (s1 := 2048) (forward_out hX hS)).trans (final_out hX hS).symm),
    h1.trans ((holds2_entry (s0 := 8448) (s1 := 512) (forward_lse hX hS)).trans (final_lse hX hS).symm), ha⟩

end Cert.AttnGrad

end
-- ==== Proof.Frames.lean ====
/- The references end with their arguments unchanged and every semaphore at zero. -/
module

public import proofs.«01_k».proof.Defs
public import proofs.«01_k».proof.Proof.Gen.ReferenceIdeal.Run
public import proofs.«01_k».proof.Proof.Gen.Reference2Ideal.Run
public import proofs.«01_k».proof.Proof.Gen.Pre_finite
public import proofs.«01_k».proof.Proof.Gen.Pre_finite2
public import Idealize.ShloMosaic.Lib.Claim

@[expose] public section

set_option maxRecDepth 16384

noncomputable section

namespace Cert.AttnGrad

open Idealize.ShloMosaic Idealize.ShloMosaic.TcCoe Idealize.SL.Sem

/-- The backward reference declares no semaphore; its run leaves its arguments as they were. -/
theorem reference_quiescent : Cert.quiescent_ReferenceIdeal := fun m g _ =>
  (θ_run Cert.ReferenceIdeal.defs _ _).mono (fun r h => ⟨fun c => (h c).2.2.2.2.2.2, sem_eq_zero_of_no_sems (by decide) r.2⟩)
    (Cert.ReferenceIdeal.Value.run (F := Ideal) m g)

theorem reference_quiescent_finite : Cert.quiescent_ReferenceIdeal_pre_finite := fun m g _ => reference_quiescent m g trivial

/-- So does the forward reference. -/
theorem forward_quiescent : Cert.quiescent_Reference2Ideal := fun m g _ =>
  (θ_run Cert.Reference2Ideal.defs _ _).mono (fun r h => ⟨fun c => (h c).2.2, sem_eq_zero_of_no_sems (by decide) r.2⟩)
    (Cert.Reference2Ideal.Value.run (F := Ideal) m g)

theorem forward_quiescent_finite : Cert.quiescent_Reference2Ideal_pre_finite2 := fun m g _ => forward_quiescent m g trivial

end Cert.AttnGrad

end
-- ==== Proof.Product.lean ====
/- A product of two matrices, summed block by block, is the product summed at once. -/
module

public import Idealize.ShloMosaic.Lib.Pointwise
public import Mathlib.Data.EReal.Operations
public import Mathlib.Algebra.BigOperators.Fin

@[expose] public section

set_option maxRecDepth 16384

noncomputable section

namespace Cert.Product

open Idealize.ShloMosaic

/-- The matrix `x` at two numbers; 0 outside it. -/
def rd2 {s0 s1 : ℕ} (x : (⟨2, ![s0, s1]⟩ : Shape).Idx → EReal) (a b : ℕ) : EReal :=
  if h : a < s0 ∧ b < s1 then x (ix2 ⟨a, h.1⟩ ⟨b, h.2⟩) else 0

/-- The same for an array of three axes. -/
def rd3 {s0 s1 s2 : ℕ} (x : (⟨3, ![s0, s1, s2]⟩ : Shape).Idx → EReal) (a b c : ℕ) : EReal :=
  if h : a < s0 ∧ b < s1 ∧ c < s2 then x (ix3 ⟨a, h.1⟩ ⟨b, h.2.1⟩ ⟨c, h.2.2⟩) else 0

theorem rd2_at {s0 s1 : ℕ} (x : (⟨2, ![s0, s1]⟩ : Shape).Idx → EReal) (i : (⟨2, ![s0, s1]⟩ : Shape).Idx) {a b : ℕ}
    (h0 : (i 0).val = a) (h1 : (i 1).val = b) : x i = rd2 x a b := by
  subst h0 h1
  rw [rd2, dif_pos ⟨(i 0).isLt, (i 1).isLt⟩]
  refine congrArg x ?_
  funext a
  match a with
  | ⟨0, _⟩ => rfl
  | ⟨1, _⟩ => rfl

theorem rd3_at {s0 s1 s2 : ℕ} (x : (⟨3, ![s0, s1, s2]⟩ : Shape).Idx → EReal) (i : (⟨3, ![s0, s1, s2]⟩ : Shape).Idx) {a b c : ℕ}
    (h0 : (i 0).val = a) (h1 : (i 1).val = b) (h2 : (i 2).val = c) : x i = rd3 x a b c := by
  subst h0 h1 h2
  rw [rd3, dif_pos ⟨(i 0).isLt, (i 1).isLt, (i 2).isLt⟩]
  refine congrArg x ?_
  funext a
  match a with
  | ⟨0, _⟩ => rfl
  | ⟨1, _⟩ => rfl
  | ⟨2, _⟩ => rfl

/-- `n` blocks of `k` terms are the `n * k` terms. -/
theorem sum_blocks (n k : ℕ) (f : ℕ → EReal) : ∑ s : Fin n, ∑ e : Fin k, f (k * s.val + e.val) = ∑ q : Fin (n * k), f q.val := by
  rw [Fin.sum_univ_eq_sum_range f (n * k)]
  induction n with
  | zero => simp
  | succ n ih =>
    rw [Fin.sum_univ_castSucc, Nat.succ_mul, Finset.sum_range_add, ← ih]
    congr 1
    rw [← Fin.sum_univ_eq_sum_range]
    refine Finset.sum_congr rfl fun e _ => ?_
    rw [Fin.val_last, Nat.mul_comm]

/-- The product of the rows of `x` with the rows of `w`, each over the columns of its parts. -/
def spec3 (x : (⟨3, ![2, 8448, 5632]⟩ : Shape).Idx → EReal) (w : (⟨3, ![4, 2048, 2816]⟩ : Shape).Idx → EReal) (r s : ℕ) : EReal :=
  ∑ q : Fin 11264, rd3 x (q.val / 5632) r (q.val % 5632) * rd3 w (q.val / 2816) s (q.val % 2816)

/-- The product of a column of `x` with a column of the parts of `d`. -/
def spec4 (x : (⟨2, ![8448, 2048]⟩ : Shape).Idx → EReal) (d : (⟨3, ![2, 8448, 5632]⟩ : Shape).Idx → EReal) (r s : ℕ) : EReal :=
  ∑ q : Fin 8448, rd2 x q.val r * rd3 d (s / 5632) q.val (s % 5632)

/-- The product of a row of `x` with a column of the parts of `w`. -/
def spec5 (x : (⟨2, ![8448, 2048]⟩ : Shape).Idx → EReal) (w : (⟨3, ![4, 2048, 2816]⟩ : Shape).Idx → EReal) (r s : ℕ) : EReal :=
  ∑ q : Fin 2048, rd2 x r q.val * rd3 w (s / 2816) q.val (s % 2816)

/-- The product of a row of `x` with a row of `w`. -/
def spec6 (x : (⟨2, ![8448, 2048]⟩ : Shape).Idx → EReal) (w : (⟨2, ![5632, 2048]⟩ : Shape).Idx → EReal) (r s : ℕ) : EReal :=
  ∑ q : Fin 2048, rd2 x r q.val * rd2 w s q.val

/-- The same over 10368 columns. -/
def spec7 (x : (⟨2, ![8448, 10368]⟩ : Shape).Idx → EReal) (w : (⟨2, ![2048, 10368]⟩ : Shape).Idx → EReal) (r s : ℕ) : EReal :=
  ∑ q : Fin 10368, rd2 x r q.val * rd2 w s q.val

/-- The product of a column of `x` with a column of `d`. -/
def spec8 (x : (⟨2, ![8448, 2048]⟩ : Shape).Idx → EReal) (d : (⟨2, ![8448, 10368]⟩ : Shape).Idx → EReal) (r s : ℕ) : EReal :=
  ∑ q : Fin 8448, rd2 x q.val r * rd2 d q.val s

/-- The product of a row of `x` with a column of `w`. -/
def spec9 (x : (⟨2, ![8448, 2048]⟩ : Shape).Idx → EReal) (w : (⟨2, ![2048, 10368]⟩ : Shape).Idx → EReal) (r s : ℕ) : EReal :=
  ∑ q : Fin 2048, rd2 x r q.val * rd2 w q.val s

end Cert.Product

end
-- ==== Proof.Product3.lean ====
/- The gradient of ffn_up's rows: what its kernel's array ends holding. -/
module

public import proofs.«01_k».proof.Proof.Product
public import proofs.«01_k».proof.Proof.Gen.Kernel3Ideal.Frame
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Product.P3

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

theorem bounds (t : Fin cfg0.N) : t.val < 96 := lt_of_lt_of_eq t.isLt (by decide)

theorem index_0 : ∀ t : Fin grid0.N, win0_0.index t 0 = (t.val % 8) / 4 ∧ win0_0.index t 1 = (t.val / 8 % 6) ∧ win0_0.index t 2 = (t.val % 8) % 4 := by decide +kernel
theorem index_1 : ∀ t : Fin grid0.N, win0_1.index t 0 = (t.val % 8) / 2 ∧ win0_1.index t 1 = (t.val / 48) ∧ win0_1.index t 2 = (t.val % 8) % 2 := by decide +kernel
theorem index_2 : ∀ t : Fin grid0.N, win0_2.index t 0 = (t.val / 8 % 6) ∧ win0_2.index t 1 = (t.val / 48) := by decide +kernel

/-- What a grid point adds at an entry of its block. -/
def term (t : ℕ) (x : S1408x1024.Idx) : EReal := ∑ e : Fin 1408,
  rd3 (s0 := 2) (s1 := 8448) (s2 := 5632) (m (c, main_arg0)) ((1408 * (t % 8) + e.val) / 5632) (1408 * (t / 8 % 6) + (x 0).val) ((1408 * (t % 8) + e.val) % 5632)
    * rd3 (s0 := 4) (s1 := 2048) (s2 := 2816) (m (c, main_arg1)) ((1408 * (t % 8) + e.val) / 2816) (1024 * (t / 48) + (x 1).val) ((1408 * (t % 8) + e.val) % 2816)

theorem pay (v0 : FVec Ideal S1x1408x1408 .bf16) (v1 : FVec Ideal S1x1024x1408 .bf16) (x : S1408x1024.Idx) :
    k0_pay1 (F := Ideal) v0 v1 x = ∑ e : Fin 1408, v0 (ix3 0 (x 0) e) * v1 (ix3 0 (x 1) e) := by
  pointwise [k0_pay1]

theorem pay_first (v0 : FVec Ideal S1x1408x1408 .bf16) (v1 : FVec Ideal S1x1024x1408 .bf16) (x : S1408x1024.Idx) :
    k0_pay2 (F := Ideal) v0 v1 x = k0_pay1 (F := Ideal) v0 v1 x := by
  pointwise [k0_pay2]

theorem pay_next (v0 : FVec Ideal S1x1408x1408 .bf16) (v1 : FVec Ideal S1x1024x1408 .bf16) (a : FVec Ideal S1408x1024 .f32) (x : S1408x1024.Idx) :
    k0_pay3 (F := Ideal) v0 v1 a x = a x + k0_pay1 (F := Ideal) v0 v1 x := by
  pointwise [k0_pay3]

theorem block_0 (t : Fin cfg0.N) (r : Fin 1408) (e : Fin 1408) : iblk m c 0 t (ix3 0 r e)
    = rd3 (s0 := 2) (s1 := 8448) (s2 := 5632) (m (c, main_arg0)) ((1408 * (t.val % 8) + e.val) / 5632) (1408 * (t.val / 8 % 6) + r.val) ((1408 * (t.val % 8) + e.val) % 5632) := by
  have hb := bounds t
  have hr := r.isLt
  have he := e.isLt
  rw [← V_main_arg0 m c]
  exact rd3_at (s0 := 2) (s1 := 8448) (s2 := 5632) (V m c main_arg0) _
    (by show win0_0.index t 0 * 1 + 1 * 0 = _; rw [(index_0 t).1]; omega)
    (by show win0_0.index t 1 * 1408 + 1 * r.val = _; rw [(index_0 t).2.1]; omega)
    (by show win0_0.index t 2 * 1408 + 1 * e.val = _; rw [(index_0 t).2.2]; omega)

theorem block_1 (t : Fin cfg0.N) (r : Fin 1024) (e : Fin 1408) : iblk m c 1 t (ix3 0 r e)
    = rd3 (s0 := 4) (s1 := 2048) (s2 := 2816) (m (c, main_arg1)) ((1408 * (t.val % 8) + e.val) / 2816) (1024 * (t.val / 48) + r.val) ((1408 * (t.val % 8) + e.val) % 2816) := by
  have hb := bounds t
  have hr := r.isLt
  have he := e.isLt
  rw [← V_main_arg1 m c]
  exact rd3_at (s0 := 4) (s1 := 2048) (s2 := 2816) (V m c main_arg1) _
    (by show win0_1.index t 0 * 1 + 1 * 0 = _; rw [(index_1 t).1]; omega)
    (by show win0_1.index t 1 * 1024 + 1 * r.val = _; rw [(index_1 t).2.1]; omega)
    (by show win0_1.index t 2 * 1408 + 1 * e.val = _; rw [(index_1 t).2.2]; omega)

theorem point (t : Fin cfg0.N) (x : S1408x1024.Idx) : k0_pay1 (F := Ideal) (iblk m c 0 t) (iblk m c 1 t) x = term m c t.val x := by
  rw [pay, term]
  exact Finset.sum_congr rfl fun e _ => congrArg₂ (fun a b : EReal => a * b) (block_0 m c t (x 0) e) (block_1 m c t (x 1) e)

theorem part_A (t : Fin cfg0.N) (ht : t.val % 8 = 0) (x : S1408x1024.Idx) : (outsAt0 m c t.val t.isLt).2 x = 0 + term m c t.val x := by
  rw [outsAt0_A m c t ht (by omega) (by omega)]
  frame_out
  rw [pay_first, point, zero_add]

theorem part_B (t : Fin cfg0.N) (ht : ¬ t.val % 8 = 0) (x : S1408x1024.Idx) : (outsAt0 m c t.val t.isLt).2 x
    = (outsAt0 m c (t.val - 1) (Nat.lt_of_le_of_lt (Nat.sub_le _ _) t.isLt)).2 x + term m c t.val x := by
  by_cases hl : t.val % 8 = 7
  · rw [outsAt0_C m c t (by omega) (by omega) (by omega)]
    frame_out
    rw [pay_next, point]
    simp only [read_unread_whole]
  · rw [outsAt0_B m c t (by omega) (by omega) (by omega)]
    frame_out
    rw [pay_next, point]
    simp only [read_unread_whole]

theorem last (t : Fin cfg0.N) (ht : t.val % 8 = 7) (x : S1408x1024.Idx) : (outsAt0 m c t.val t.isLt).1 x = (outsAt0 m c t.val t.isLt).2 x := by
  rw [outsAt0_C m c t (by omega) (by omega) (by omega)]
  frame_out

/-- The kernel's array ends holding the product. -/
theorem final : (dats m 0 c).arrAt 2 (cfgs 0).N = fun j : S8448x2048.Idx => spec3 (m (c, main_arg0)) (m (c, main_arg1)) (j 0).val (j 1).val := by
  refine (dats m 0 c).arrAt_eq_of_covers 2 _ (by decide +kernel) fun t hf y => ?_
  obtain ⟨i0, i1⟩ := index_2 t
  blk_simp
  have hlast := (flush0_2 t).mp hf
  rw [after0_2]
  refine (last m c t (by omega) y).trans ?_
  refine (Pipeline.eq_sum_fin_of_reset_step_apply_of_flush (M := EReal) (ι := S1408x1024.Idx) (fun n h => (outsAt0 m c n h).2) 8 (fun _ => 0) _
    (part_A m c) (part_B m c) t hlast y).trans ?_
  have hb := bounds t
  have b0 : (y 0).val < 1408 := (y 0).isLt
  have b1 : (y 1).val < 1024 := (y 1).isLt
  rw [zero_add, spec3]
  refine Eq.trans (Finset.sum_congr rfl fun s _ => ?_) (sum_blocks 8 1408 (fun q => rd3 (s0 := 2) (s1 := 8448) (s2 := 5632) (m (c, main_arg0)) ((q) / 5632) (_) ((q) % 5632) * rd3 (s0 := 4) (s1 := 2048) (s2 := 2816) (m (c, main_arg1)) ((q) / 2816) (_) ((q) % 2816)))
  have e0 : (8 * (t.val / 8) + s.val) / 8 % 6 = t.val / 8 % 6 := by omega
  have e1 : (8 * (t.val / 8) + s.val) % 8 = s.val := by omega
  have e2 : (8 * (t.val / 8) + s.val) / 48 = t.val / 48 := by omega
  rw [i0, i1, term, e0, e1, e2, Nat.mul_comm 1408 (t.val / 8 % 6), Nat.mul_comm 1024 (t.val / 48)]

end Cert.Product.P3

end
-- ==== Proof.Product4.lean ====
/- The gradient of ffn_up's weights, written into one layer's rows of the gradients' buffer: what its kernel's array ends holding. -/
module

public import proofs.«01_k».proof.Proof.Product
public import proofs.«01_k».proof.Proof.Gen.Kernel4Ideal.Frame
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Product.P4

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

theorem bounds (t : Fin cfg0.N) : t.val < 192 := lt_of_lt_of_eq t.isLt (by decide)

theorem index_0 : ∀ t : Fin grid0.N, win0_0.index t 0 = (t.val % 6) ∧ win0_0.index t 1 = (t.val / 6 % 4) := by decide +kernel
theorem index_1 : ∀ t : Fin grid0.N, win0_1.index t 0 = (t.val / 24) / 4 ∧ win0_1.index t 1 = (t.val % 6) ∧ win0_1.index t 2 = (t.val / 24) % 4 := by decide +kernel
theorem index_2 : ∀ t : Fin grid0.N, win0_2.index t 0 = (t.val / 24) / 2 ∧ win0_2.index t 1 = (t.val / 6 % 4) ∧ win0_2.index t 2 = (t.val / 24) % 2 := by decide +kernel

/-- What a grid point adds at an entry of its block. -/
def term (t : ℕ) (x : S512x1408.Idx) : EReal := ∑ e : Fin 1408,
  rd2 (s0 := 8448) (s1 := 2048) (m (c, main_arg0)) (1408 * (t % 6) + e.val) (512 * (t / 6 % 4) + (x 0).val)
    * rd3 (s0 := 2) (s1 := 8448) (s2 := 5632) (m (c, main_arg1)) ((1408 * (t / 24) + (x 1).val) / 5632) (1408 * (t % 6) + e.val) ((1408 * (t / 24) + (x 1).val) % 5632)

theorem pay (v0 : FVec Ideal S1408x512 .bf16) (v1 : FVec Ideal S1x1408x1408 .bf16) (x : S512x1408.Idx) :
    k0_pay1 (F := Ideal) v0 v1 x = ∑ e : Fin 1408, v0 (ix2 e (x 0)) * v1 (ix3 0 e (x 1)) := by
  pointwise [k0_pay1]

theorem pay_first (v0 : FVec Ideal S1408x512 .bf16) (v1 : FVec Ideal S1x1408x1408 .bf16) (x : S512x1408.Idx) :
    k0_pay2 (F := Ideal) v0 v1 x = k0_pay1 (F := Ideal) v0 v1 x := by
  pointwise [k0_pay2]

theorem pay_next (v0 : FVec Ideal S1408x512 .bf16) (v1 : FVec Ideal S1x1408x1408 .bf16) (a : FVec Ideal S512x1408 .f32) (x : S512x1408.Idx) :
    k0_pay3 (F := Ideal) v0 v1 a x = a x + k0_pay1 (F := Ideal) v0 v1 x := by
  pointwise [k0_pay3]

theorem pay_out (a : FVec Ideal S512x1408 .f32) (x : S1x512x1408.Idx) : k0_pay4 (F := Ideal) a x = a (ix2 (x 1) (x 2)) := by
  pointwise [k0_pay4]

theorem block_0 (t : Fin cfg0.N) (r : Fin 512) (e : Fin 1408) : iblk m c 0 t (ix2 e r)
    = rd2 (s0 := 8448) (s1 := 2048) (m (c, main_arg0)) (1408 * (t.val % 6) + e.val) (512 * (t.val / 6 % 4) + r.val) := by
  have hb := bounds t
  have hr := r.isLt
  have he := e.isLt
  rw [← V_main_arg0 m c]
  exact rd2_at (s0 := 8448) (s1 := 2048) (V m c main_arg0) _
    (by show win0_0.index t 0 * 1408 + 1 * e.val = _; rw [(index_0 t).1]; omega)
    (by show win0_0.index t 1 * 512 + 1 * r.val = _; rw [(index_0 t).2]; omega)

theorem block_1 (t : Fin cfg0.N) (r : Fin 1408) (e : Fin 1408) : iblk m c 1 t (ix3 0 e r)
    = rd3 (s0 := 2) (s1 := 8448) (s2 := 5632) (m (c, main_arg1)) ((1408 * (t.val / 24) + r.val) / 5632) (1408 * (t.val % 6) + e.val) ((1408 * (t.val / 24) + r.val) % 5632) := by
  have hb := bounds t
  have hr := r.isLt
  have he := e.isLt
  rw [← V_main_arg1 m c]
  exact rd3_at (s0 := 2) (s1 := 8448) (s2 := 5632) (V m c main_arg1) _
    (by show win0_1.index t 0 * 1 + 1 * 0 = _; rw [(index_1 t).1]; omega)
    (by show win0_1.index t 1 * 1408 + 1 * e.val = _; rw [(index_1 t).2.1]; omega)
    (by show win0_1.index t 2 * 1408 + 1 * r.val = _; rw [(index_1 t).2.2]; omega)

theorem point (t : Fin cfg0.N) (x : S512x1408.Idx) : k0_pay1 (F := Ideal) (iblk m c 0 t) (iblk m c 1 t) x = term m c t.val x := by
  rw [pay, term]
  exact Finset.sum_congr rfl fun e _ => congrArg₂ (fun a b : EReal => a * b) (block_0 m c t (x 0) e) (block_1 m c t (x 1) e)

theorem part_A (t : Fin cfg0.N) (ht : t.val % 6 = 0) (x : S512x1408.Idx) : (outsAt0 m c t.val t.isLt).2 x = 0 + term m c t.val x := by
  rw [outsAt0_A m c t ht (by omega) (by omega)]
  frame_out
  rw [pay_first, point, zero_add]

theorem part_B (t : Fin cfg0.N) (ht : ¬ t.val % 6 = 0) (x : S512x1408.Idx) : (outsAt0 m c t.val t.isLt).2 x
    = (outsAt0 m c (t.val - 1) (Nat.lt_of_le_of_lt (Nat.sub_le _ _) t.isLt)).2 x + term m c t.val x := by
  by_cases hl : t.val % 6 = 5
  · rw [outsAt0_C m c t (by omega) (by omega) (by omega)]
    frame_out
    rw [pay_next, point]
    simp only [read_unread_whole]
  · rw [outsAt0_B m c t (by omega) (by omega) (by omega)]
    frame_out
    rw [pay_next, point]
    simp only [read_unread_whole]

theorem last (t : Fin cfg0.N) (ht : t.val % 6 = 5) (x : S1x512x1408.Idx) : (outsAt0 m c t.val t.isLt).1 x = (outsAt0 m c t.val t.isLt).2 (ix2 (x 1) (x 2)) := by
  rw [outsAt0_C m c t (by omega) (by omega) (by omega)]
  frame_out
  rw [pay_out]

/-- Before the first grid point the result's array holds the buffer. -/
theorem entry_buffer : (dats m 0 c).A 2 = m (c, main_arg2) := by
  rw [A_eq m c 2]
  entry_read
  rfl

/-- The kernel's array ends holding the product. -/
theorem final : (dats m 0 c).arrAt 2 (cfgs 0).N = fun j : S4x8192x2816.Idx =>
    if (j 1).val < 2048 then spec4 (m (c, main_arg0)) (m (c, main_arg1)) (j 1).val (2816 * (j 0).val + (j 2).val) else m (c, main_arg2) j := by
  rw [← entry_buffer m c]
  refine (dats m 0 c).arrAt_eq_of_coversWhere 2 (fun j : S4x8192x2816.Idx => spec4 (m (c, main_arg0)) (m (c, main_arg1)) (j 1).val (2816 * (j 0).val + (j 2).val)) (fun β => β 1 < 4) (by decide +kernel) (fun t hf y => ?_) (fun j => by blk_simp [Pipeline.Window.cell_apply]; omega)
  obtain ⟨i0, i1, i2⟩ := index_2 t
  blk_simp
  have hlast := (flush0_2 t).mp hf
  rw [after0_2]
  refine (last m c t (by omega) y).trans ?_
  refine (Pipeline.eq_sum_fin_of_reset_step_apply_of_flush (M := EReal) (ι := S512x1408.Idx) (fun n h => (outsAt0 m c n h).2) 6 (fun _ => 0) _
    (part_A m c) (part_B m c) t hlast (ix2 (y 1) (y 2))).trans ?_
  have hb := bounds t
  have b0 : (y 0).val < 1 := (y 0).isLt
  have b1 : (y 1).val < 512 := (y 1).isLt
  have b2 : (y 2).val < 1408 := (y 2).isLt
  have c0 : 1408 * (t.val / 24) + (y 2).val = 2816 * (t.val / 24 / 2) + (t.val / 24 % 2 * 1408 + (y 2).val) := by omega
  rw [zero_add, spec4]
  refine Eq.trans (Finset.sum_congr rfl fun s _ => ?_) (sum_blocks 6 1408 (fun q => rd2 (s0 := 8448) (s1 := 2048) (m (c, main_arg0)) (q) (_) * rd3 (s0 := 2) (s1 := 8448) (s2 := 5632) (m (c, main_arg1)) ((_) / 5632) (q) ((_) % 5632)))
  have e0 : (6 * (t.val / 6) + s.val) / 6 % 4 = t.val / 6 % 4 := by omega
  have e1 : (6 * (t.val / 6) + s.val) % 6 = s.val := by omega
  have e2 : (6 * (t.val / 6) + s.val) / 24 = t.val / 24 := by omega
  rw [i0, i1, i2, term, e0, e1, e2, Nat.mul_comm 512 (t.val / 6 % 4), ← c0]
  rfl

end Cert.Product.P4

end
-- ==== Proof.Product5.lean ====
/- The ffn_up product: what its kernel's array ends holding. -/
module

public import proofs.«01_k».proof.Proof.Product
public import proofs.«01_k».proof.Proof.Gen.Kernel5Ideal.Frame
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Product.P5

open Idealize.ShloMosaic Idealize.ShloMosaic.TcCoe Idealize.SL.Sem
open Cert.Kernel5Ideal Cert.Kernel5Ideal.Gen

variable (m : (ℓ : Loc nD τ sig) → Buf (Elt Ideal) ℓ) (c : Dev nD)

theorem bounds (t : Fin cfg0.N) : t.val < 96 := lt_of_lt_of_eq t.isLt (by decide)

theorem index_0 : ∀ t : Fin grid0.N, win0_0.index t 0 = (t.val / 2 % 6) ∧ win0_0.index t 1 = (t.val % 2) := by decide +kernel
theorem index_1 : ∀ t : Fin grid0.N, win0_1.index t 0 = (t.val / 12) / 2 ∧ win0_1.index t 1 = (t.val % 2) ∧ win0_1.index t 2 = (t.val / 12) % 2 := by decide +kernel
theorem index_2 : ∀ t : Fin grid0.N, win0_2.index t 0 = (t.val / 2 % 6) ∧ win0_2.index t 1 = (t.val / 12) := by decide +kernel

/-- What a grid point adds at an entry of its block. -/
def term (t : ℕ) (x : S1408x1408.Idx) : EReal := ∑ e : Fin 1024,
  rd2 (s0 := 8448) (s1 := 2048) (m (c, main_arg0)) (1408 * (t / 2 % 6) + (x 0).val) (1024 * (t % 2) + e.val)
    * rd3 (s0 := 4) (s1 := 2048) (s2 := 2816) (m (c, main_arg1)) ((1408 * (t / 12) + (x 1).val) / 2816) (1024 * (t % 2) + e.val) ((1408 * (t / 12) + (x 1).val) % 2816)

theorem pay (v0 : FVec Ideal S1408x1024 .bf16) (v1 : FVec Ideal S1x1024x1408 .bf16) (x : S1408x1408.Idx) :
    k0_pay1 (F := Ideal) v0 v1 x = ∑ e : Fin 1024, v0 (ix2 (x 0) e) * v1 (ix3 0 e (x 1)) := by
  pointwise [k0_pay1]

theorem pay_first (v0 : FVec Ideal S1408x1024 .bf16) (v1 : FVec Ideal S1x1024x1408 .bf16) (x : S1408x1408.Idx) :
    k0_pay2 (F := Ideal) v0 v1 x = k0_pay1 (F := Ideal) v0 v1 x := by
  pointwise [k0_pay2]

theorem pay_next (v0 : FVec Ideal S1408x1024 .bf16) (v1 : FVec Ideal S1x1024x1408 .bf16) (a : FVec Ideal S1408x1408 .f32) (x : S1408x1408.Idx) :
    k0_pay3 (F := Ideal) v0 v1 a x = a x + k0_pay1 (F := Ideal) v0 v1 x := by
  pointwise [k0_pay3]

theorem pay_out (a : FVec Ideal S1408x1408 .f32) (x : S1408x1408.Idx) : k0_pay4 (F := Ideal) a x = a (x) := by
  pointwise [k0_pay4]

theorem block_0 (t : Fin cfg0.N) (r : Fin 1408) (e : Fin 1024) : iblk m c 0 t (ix2 r e)
    = rd2 (s0 := 8448) (s1 := 2048) (m (c, main_arg0)) (1408 * (t.val / 2 % 6) + r.val) (1024 * (t.val % 2) + e.val) := by
  have hb := bounds t
  have hr := r.isLt
  have he := e.isLt
  rw [← V_main_arg0 m c]
  exact rd2_at (s0 := 8448) (s1 := 2048) (V m c main_arg0) _
    (by show win0_0.index t 0 * 1408 + 1 * r.val = _; rw [(index_0 t).1]; omega)
    (by show win0_0.index t 1 * 1024 + 1 * e.val = _; rw [(index_0 t).2]; omega)

theorem block_1 (t : Fin cfg0.N) (r : Fin 1408) (e : Fin 1024) : iblk m c 1 t (ix3 0 e r)
    = rd3 (s0 := 4) (s1 := 2048) (s2 := 2816) (m (c, main_arg1)) ((1408 * (t.val / 12) + r.val) / 2816) (1024 * (t.val % 2) + e.val) ((1408 * (t.val / 12) + r.val) % 2816) := by
  have hb := bounds t
  have hr := r.isLt
  have he := e.isLt
  rw [← V_main_arg1 m c]
  exact rd3_at (s0 := 4) (s1 := 2048) (s2 := 2816) (V m c main_arg1) _
    (by show win0_1.index t 0 * 1 + 1 * 0 = _; rw [(index_1 t).1]; omega)
    (by show win0_1.index t 1 * 1024 + 1 * e.val = _; rw [(index_1 t).2.1]; omega)
    (by show win0_1.index t 2 * 1408 + 1 * r.val = _; rw [(index_1 t).2.2]; omega)

theorem point (t : Fin cfg0.N) (x : S1408x1408.Idx) : k0_pay1 (F := Ideal) (iblk m c 0 t) (iblk m c 1 t) x = term m c t.val x := by
  rw [pay, term]
  exact Finset.sum_congr rfl fun e _ => congrArg₂ (fun a b : EReal => a * b) (block_0 m c t (x 0) e) (block_1 m c t (x 1) e)

theorem part_A (t : Fin cfg0.N) (ht : t.val % 2 = 0) (x : S1408x1408.Idx) : (outsAt0 m c t.val t.isLt).2 x = 0 + term m c t.val x := by
  rw [outsAt0_A m c t ht (by omega) (by omega)]
  frame_out
  rw [pay_first, point, zero_add]

theorem part_B (t : Fin cfg0.N) (ht : ¬ t.val % 2 = 0) (x : S1408x1408.Idx) : (outsAt0 m c t.val t.isLt).2 x
    = (outsAt0 m c (t.val - 1) (Nat.lt_of_le_of_lt (Nat.sub_le _ _) t.isLt)).2 x + term m c t.val x := by
  rw [outsAt0_B m c t (by omega) (by omega) (by omega)]
  frame_out
  rw [pay_next, point]
  simp only [read_unread_whole]

theorem last (t : Fin cfg0.N) (ht : t.val % 2 = 1) (x : S1408x1408.Idx) : (outsAt0 m c t.val t.isLt).1 x = (outsAt0 m c t.val t.isLt).2 x := by
  rw [outsAt0_B m c t (by omega) (by omega) (by omega)]
  frame_out
  rw [pay_out]

/-- The kernel's array ends holding the product. -/
theorem final : (dats m 0 c).arrAt 2 (cfgs 0).N = fun j : S8448x11264.Idx => spec5 (m (c, main_arg0)) (m (c, main_arg1)) (j 0).val (j 1).val := by
  refine (dats m 0 c).arrAt_eq_of_covers 2 _ (by decide +kernel) fun t hf y => ?_
  obtain ⟨i0, i1⟩ := index_2 t
  blk_simp
  have hlast := (flush0_2 t).mp hf
  rw [after0_2]
  refine (last m c t (by omega) y).trans ?_
  refine (Pipeline.eq_sum_fin_of_reset_step_apply_of_flush (M := EReal) (ι := S1408x1408.Idx) (fun n h => (outsAt0 m c n h).2) 2 (fun _ => 0) _
    (part_A m c) (part_B m c) t hlast y).trans ?_
  have hb := bounds t
  have b0 : (y 0).val < 1408 := (y 0).isLt
  have b1 : (y 1).val < 1408 := (y 1).isLt
  rw [zero_add, spec5]
  refine Eq.trans (Finset.sum_congr rfl fun s _ => ?_) (sum_blocks 2 1024 (fun q => rd2 (s0 := 8448) (s1 := 2048) (m (c, main_arg0)) (_) (q) * rd3 (s0 := 4) (s1 := 2048) (s2 := 2816) (m (c, main_arg1)) ((_) / 2816) (q) ((_) % 2816)))
  have e0 : (2 * (t.val / 2) + s.val) / 2 % 6 = t.val / 2 % 6 := by omega
  have e1 : (2 * (t.val / 2) + s.val) % 2 = s.val := by omega
  have e2 : (2 * (t.val / 2) + s.val) / 12 = t.val / 12 := by omega
  rw [i0, i1, term, e0, e1, e2, Nat.mul_comm 1408 (t.val / 2 % 6), Nat.mul_comm 1408 (t.val / 12)]

end Cert.Product.P5

end
-- ==== Proof.Product6.lean ====
/- The gradient of ffn_down's rows: what its kernel's array ends holding. -/
module

public import proofs.«01_k».proof.Proof.Product
public import proofs.«01_k».proof.Proof.Gen.Kernel6Ideal.Frame
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Product.P6

open Idealize.ShloMosaic Idealize.ShloMosaic.TcCoe Idealize.SL.Sem
open Cert.Kernel6Ideal Cert.Kernel6Ideal.Gen

variable (m : (ℓ : Loc nD τ sig) → Buf (Elt Ideal) ℓ) (c : Dev nD)

theorem bounds (t : Fin cfg0.N) : t.val < 48 := lt_of_lt_of_eq t.isLt (by decide)

theorem index_0 : ∀ t : Fin grid0.N, win0_0.index t 0 = (t.val / 2 % 6) ∧ win0_0.index t 1 = (t.val % 2) := by decide +kernel
theorem index_1 : ∀ t : Fin grid0.N, win0_1.index t 0 = (t.val / 12) ∧ win0_1.index t 1 = (t.val % 2) := by decide +kernel
theorem index_2 : ∀ t : Fin grid0.N, win0_2.index t 0 = (t.val / 2 % 6) ∧ win0_2.index t 1 = (t.val / 12) := by decide +kernel

/-- What a grid point adds at an entry of its block. -/
def term (t : ℕ) (x : S1408x1408.Idx) : EReal := ∑ e : Fin 1024,
  rd2 (s0 := 8448) (s1 := 2048) (m (c, main_arg0)) (1408 * (t / 2 % 6) + (x 0).val) (1024 * (t % 2) + e.val)
    * rd2 (s0 := 5632) (s1 := 2048) (m (c, main_arg1)) (1408 * (t / 12) + (x 1).val) (1024 * (t % 2) + e.val)

theorem pay (v0 : FVec Ideal S1408x1024 .bf16) (v1 : FVec Ideal S1408x1024 .bf16) (x : S1408x1408.Idx) :
    k0_pay1 (F := Ideal) v0 v1 x = ∑ e : Fin 1024, v0 (ix2 (x 0) e) * v1 (ix2 (x 1) e) := by
  pointwise [k0_pay1]

theorem pay_first (v0 : FVec Ideal S1408x1024 .bf16) (v1 : FVec Ideal S1408x1024 .bf16) (x : S1408x1408.Idx) :
    k0_pay2 (F := Ideal) v0 v1 x = k0_pay1 (F := Ideal) v0 v1 x := by
  pointwise [k0_pay2]

theorem pay_next (v0 : FVec Ideal S1408x1024 .bf16) (v1 : FVec Ideal S1408x1024 .bf16) (a : FVec Ideal S1408x1408 .f32) (x : S1408x1408.Idx) :
    k0_pay3 (F := Ideal) v0 v1 a x = a x + k0_pay1 (F := Ideal) v0 v1 x := by
  pointwise [k0_pay3]

theorem block_0 (t : Fin cfg0.N) (r : Fin 1408) (e : Fin 1024) : iblk m c 0 t (ix2 r e)
    = rd2 (s0 := 8448) (s1 := 2048) (m (c, main_arg0)) (1408 * (t.val / 2 % 6) + r.val) (1024 * (t.val % 2) + e.val) := by
  have hb := bounds t
  have hr := r.isLt
  have he := e.isLt
  rw [← V_main_arg0 m c]
  exact rd2_at (s0 := 8448) (s1 := 2048) (V m c main_arg0) _
    (by show win0_0.index t 0 * 1408 + 1 * r.val = _; rw [(index_0 t).1]; omega)
    (by show win0_0.index t 1 * 1024 + 1 * e.val = _; rw [(index_0 t).2]; omega)

theorem block_1 (t : Fin cfg0.N) (r : Fin 1408) (e : Fin 1024) : iblk m c 1 t (ix2 r e)
    = rd2 (s0 := 5632) (s1 := 2048) (m (c, main_arg1)) (1408 * (t.val / 12) + r.val) (1024 * (t.val % 2) + e.val) := by
  have hb := bounds t
  have hr := r.isLt
  have he := e.isLt
  rw [← V_main_arg1 m c]
  exact rd2_at (s0 := 5632) (s1 := 2048) (V m c main_arg1) _
    (by show win0_1.index t 0 * 1408 + 1 * r.val = _; rw [(index_1 t).1]; omega)
    (by show win0_1.index t 1 * 1024 + 1 * e.val = _; rw [(index_1 t).2]; omega)

theorem point (t : Fin cfg0.N) (x : S1408x1408.Idx) : k0_pay1 (F := Ideal) (iblk m c 0 t) (iblk m c 1 t) x = term m c t.val x := by
  rw [pay, term]
  exact Finset.sum_congr rfl fun e _ => congrArg₂ (fun a b : EReal => a * b) (block_0 m c t (x 0) e) (block_1 m c t (x 1) e)

theorem part_A (t : Fin cfg0.N) (ht : t.val % 2 = 0) (x : S1408x1408.Idx) : (outsAt0 m c t.val t.isLt).2 x = 0 + term m c t.val x := by
  rw [outsAt0_A m c t ht (by omega) (by omega)]
  frame_out
  rw [pay_first, point, zero_add]

theorem part_B (t : Fin cfg0.N) (ht : ¬ t.val % 2 = 0) (x : S1408x1408.Idx) : (outsAt0 m c t.val t.isLt).2 x
    = (outsAt0 m c (t.val - 1) (Nat.lt_of_le_of_lt (Nat.sub_le _ _) t.isLt)).2 x + term m c t.val x := by
  rw [outsAt0_B m c t (by omega) (by omega) (by omega)]
  frame_out
  rw [pay_next, point]
  simp only [read_unread_whole]

theorem last (t : Fin cfg0.N) (ht : t.val % 2 = 1) (x : S1408x1408.Idx) : (outsAt0 m c t.val t.isLt).1 x = (outsAt0 m c t.val t.isLt).2 x := by
  rw [outsAt0_B m c t (by omega) (by omega) (by omega)]
  frame_out

/-- The kernel's array ends holding the product. -/
theorem final : (dats m 0 c).arrAt 2 (cfgs 0).N = fun j : S8448x5632.Idx => spec6 (m (c, main_arg0)) (m (c, main_arg1)) (j 0).val (j 1).val := by
  refine (dats m 0 c).arrAt_eq_of_covers 2 _ (by decide +kernel) fun t hf y => ?_
  obtain ⟨i0, i1⟩ := index_2 t
  blk_simp
  have hlast := (flush0_2 t).mp hf
  rw [after0_2]
  refine (last m c t (by omega) y).trans ?_
  refine (Pipeline.eq_sum_fin_of_reset_step_apply_of_flush (M := EReal) (ι := S1408x1408.Idx) (fun n h => (outsAt0 m c n h).2) 2 (fun _ => 0) _
    (part_A m c) (part_B m c) t hlast y).trans ?_
  have hb := bounds t
  have b0 : (y 0).val < 1408 := (y 0).isLt
  have b1 : (y 1).val < 1408 := (y 1).isLt
  rw [zero_add, spec6]
  refine Eq.trans (Finset.sum_congr rfl fun s _ => ?_) (sum_blocks 2 1024 (fun q => rd2 (s0 := 8448) (s1 := 2048) (m (c, main_arg0)) (_) (q) * rd2 (s0 := 5632) (s1 := 2048) (m (c, main_arg1)) (_) (q)))
  have e0 : (2 * (t.val / 2) + s.val) / 2 % 6 = t.val / 2 % 6 := by omega
  have e1 : (2 * (t.val / 2) + s.val) % 2 = s.val := by omega
  have e2 : (2 * (t.val / 2) + s.val) / 12 = t.val / 12 := by omega
  rw [i0, i1, term, e0, e1, e2, Nat.mul_comm 1408 (t.val / 2 % 6), Nat.mul_comm 1408 (t.val / 12)]

end Cert.Product.P6

end
-- ==== Proof.Product7.lean ====
/- The gradient of ssd_in's rows: what its kernel's array ends holding. -/
module

public import proofs.«01_k».proof.Proof.Product
public import proofs.«01_k».proof.Proof.Gen.Kernel7Ideal.Frame
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Product.P7

open Idealize.ShloMosaic Idealize.ShloMosaic.TcCoe Idealize.SL.Sem
open Cert.Kernel7Ideal Cert.Kernel7Ideal.Gen

variable (m : (ℓ : Loc nD τ sig) → Buf (Elt Ideal) ℓ) (c : Dev nD)

theorem bounds (t : Fin cfg0.N) : t.val < 108 := lt_of_lt_of_eq t.isLt (by decide)

theorem index_0 : ∀ t : Fin grid0.N, win0_0.index t 0 = (t.val / 9 % 6) ∧ win0_0.index t 1 = (t.val % 9) := by decide +kernel
theorem index_1 : ∀ t : Fin grid0.N, win0_1.index t 0 = (t.val / 54) ∧ win0_1.index t 1 = (t.val % 9) := by decide +kernel
theorem index_2 : ∀ t : Fin grid0.N, win0_2.index t 0 = (t.val / 9 % 6) ∧ win0_2.index t 1 = (t.val / 54) := by decide +kernel

/-- What a grid point adds at an entry of its block. -/
def term (t : ℕ) (x : S1408x1024.Idx) : EReal := ∑ e : Fin 1152,
  rd2 (s0 := 8448) (s1 := 10368) (m (c, main_arg0)) (1408 * (t / 9 % 6) + (x 0).val) (1152 * (t % 9) + e.val)
    * rd2 (s0 := 2048) (s1 := 10368) (m (c, main_arg1)) (1024 * (t / 54) + (x 1).val) (1152 * (t % 9) + e.val)

theorem pay (v0 : FVec Ideal S1408x1152 .bf16) (v1 : FVec Ideal S1024x1152 .bf16) (x : S1408x1024.Idx) :
    k0_pay1 (F := Ideal) v0 v1 x = ∑ e : Fin 1152, v0 (ix2 (x 0) e) * v1 (ix2 (x 1) e) := by
  pointwise [k0_pay1]

theorem pay_first (v0 : FVec Ideal S1408x1152 .bf16) (v1 : FVec Ideal S1024x1152 .bf16) (x : S1408x1024.Idx) :
    k0_pay2 (F := Ideal) v0 v1 x = k0_pay1 (F := Ideal) v0 v1 x := by
  pointwise [k0_pay2]

theorem pay_next (v0 : FVec Ideal S1408x1152 .bf16) (v1 : FVec Ideal S1024x1152 .bf16) (a : FVec Ideal S1408x1024 .f32) (x : S1408x1024.Idx) :
    k0_pay3 (F := Ideal) v0 v1 a x = a x + k0_pay1 (F := Ideal) v0 v1 x := by
  pointwise [k0_pay3]

theorem block_0 (t : Fin cfg0.N) (r : Fin 1408) (e : Fin 1152) : iblk m c 0 t (ix2 r e)
    = rd2 (s0 := 8448) (s1 := 10368) (m (c, main_arg0)) (1408 * (t.val / 9 % 6) + r.val) (1152 * (t.val % 9) + e.val) := by
  have hb := bounds t
  have hr := r.isLt
  have he := e.isLt
  rw [← V_main_arg0 m c]
  exact rd2_at (s0 := 8448) (s1 := 10368) (V m c main_arg0) _
    (by show win0_0.index t 0 * 1408 + 1 * r.val = _; rw [(index_0 t).1]; omega)
    (by show win0_0.index t 1 * 1152 + 1 * e.val = _; rw [(index_0 t).2]; omega)

theorem block_1 (t : Fin cfg0.N) (r : Fin 1024) (e : Fin 1152) : iblk m c 1 t (ix2 r e)
    = rd2 (s0 := 2048) (s1 := 10368) (m (c, main_arg1)) (1024 * (t.val / 54) + r.val) (1152 * (t.val % 9) + e.val) := by
  have hb := bounds t
  have hr := r.isLt
  have he := e.isLt
  rw [← V_main_arg1 m c]
  exact rd2_at (s0 := 2048) (s1 := 10368) (V m c main_arg1) _
    (by show win0_1.index t 0 * 1024 + 1 * r.val = _; rw [(index_1 t).1]; omega)
    (by show win0_1.index t 1 * 1152 + 1 * e.val = _; rw [(index_1 t).2]; omega)

theorem point (t : Fin cfg0.N) (x : S1408x1024.Idx) : k0_pay1 (F := Ideal) (iblk m c 0 t) (iblk m c 1 t) x = term m c t.val x := by
  rw [pay, term]
  exact Finset.sum_congr rfl fun e _ => congrArg₂ (fun a b : EReal => a * b) (block_0 m c t (x 0) e) (block_1 m c t (x 1) e)

theorem part_A (t : Fin cfg0.N) (ht : t.val % 9 = 0) (x : S1408x1024.Idx) : (outsAt0 m c t.val t.isLt).2 x = 0 + term m c t.val x := by
  rw [outsAt0_A m c t ht (by omega) (by omega)]
  frame_out
  rw [pay_first, point, zero_add]

theorem part_B (t : Fin cfg0.N) (ht : ¬ t.val % 9 = 0) (x : S1408x1024.Idx) : (outsAt0 m c t.val t.isLt).2 x
    = (outsAt0 m c (t.val - 1) (Nat.lt_of_le_of_lt (Nat.sub_le _ _) t.isLt)).2 x + term m c t.val x := by
  by_cases hl : t.val % 9 = 8
  · rw [outsAt0_C m c t (by omega) (by omega) (by omega)]
    frame_out
    rw [pay_next, point]
    simp only [read_unread_whole]
  · rw [outsAt0_B m c t (by omega) (by omega) (by omega)]
    frame_out
    rw [pay_next, point]
    simp only [read_unread_whole]

theorem last (t : Fin cfg0.N) (ht : t.val % 9 = 8) (x : S1408x1024.Idx) : (outsAt0 m c t.val t.isLt).1 x = (outsAt0 m c t.val t.isLt).2 x := by
  rw [outsAt0_C m c t (by omega) (by omega) (by omega)]
  frame_out

/-- The kernel's array ends holding the product. -/
theorem final : (dats m 0 c).arrAt 2 (cfgs 0).N = fun j : S8448x2048.Idx => spec7 (m (c, main_arg0)) (m (c, main_arg1)) (j 0).val (j 1).val := by
  refine (dats m 0 c).arrAt_eq_of_covers 2 _ (by decide +kernel) fun t hf y => ?_
  obtain ⟨i0, i1⟩ := index_2 t
  blk_simp
  have hlast := (flush0_2 t).mp hf
  rw [after0_2]
  refine (last m c t (by omega) y).trans ?_
  refine (Pipeline.eq_sum_fin_of_reset_step_apply_of_flush (M := EReal) (ι := S1408x1024.Idx) (fun n h => (outsAt0 m c n h).2) 9 (fun _ => 0) _
    (part_A m c) (part_B m c) t hlast y).trans ?_
  have hb := bounds t
  have b0 : (y 0).val < 1408 := (y 0).isLt
  have b1 : (y 1).val < 1024 := (y 1).isLt
  rw [zero_add, spec7]
  refine Eq.trans (Finset.sum_congr rfl fun s _ => ?_) (sum_blocks 9 1152 (fun q => rd2 (s0 := 8448) (s1 := 10368) (m (c, main_arg0)) (_) (q) * rd2 (s0 := 2048) (s1 := 10368) (m (c, main_arg1)) (_) (q)))
  have e0 : (9 * (t.val / 9) + s.val) / 9 % 6 = t.val / 9 % 6 := by omega
  have e1 : (9 * (t.val / 9) + s.val) % 9 = s.val := by omega
  have e2 : (9 * (t.val / 9) + s.val) / 54 = t.val / 54 := by omega
  rw [i0, i1, term, e0, e1, e2, Nat.mul_comm 1408 (t.val / 9 % 6), Nat.mul_comm 1024 (t.val / 54)]

end Cert.Product.P7

end
-- ==== Proof.Product8.lean ====
/- The gradient of ssd_in's weights: what its kernel's array ends holding. -/
module

public import proofs.«01_k».proof.Proof.Product
public import proofs.«01_k».proof.Proof.Gen.Kernel8Ideal.Frame
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Product.P8

open Idealize.ShloMosaic Idealize.ShloMosaic.TcCoe Idealize.SL.Sem
open Cert.Kernel8Ideal Cert.Kernel8Ideal.Gen

variable (m : (ℓ : Loc nD τ sig) → Buf (Elt Ideal) ℓ) (c : Dev nD)

theorem bounds (t : Fin cfg0.N) : t.val < 216 := lt_of_lt_of_eq t.isLt (by decide)

theorem index_0 : ∀ t : Fin grid0.N, win0_0.index t 0 = (t.val % 6) ∧ win0_0.index t 1 = (t.val / 6 % 4) := by decide +kernel
theorem index_1 : ∀ t : Fin grid0.N, win0_1.index t 0 = (t.val % 6) ∧ win0_1.index t 1 = (t.val / 24) := by decide +kernel
theorem index_2 : ∀ t : Fin grid0.N, win0_2.index t 0 = (t.val / 6 % 4) ∧ win0_2.index t 1 = (t.val / 24) := by decide +kernel

/-- What a grid point adds at an entry of its block. -/
def term (t : ℕ) (x : S512x1152.Idx) : EReal := ∑ e : Fin 1408,
  rd2 (s0 := 8448) (s1 := 2048) (m (c, main_arg0)) (1408 * (t % 6) + e.val) (512 * (t / 6 % 4) + (x 0).val)
    * rd2 (s0 := 8448) (s1 := 10368) (m (c, main_arg1)) (1408 * (t % 6) + e.val) (1152 * (t / 24) + (x 1).val)

theorem pay (v0 : FVec Ideal S1408x512 .bf16) (v1 : FVec Ideal S1408x1152 .bf16) (x : S512x1152.Idx) :
    k0_pay1 (F := Ideal) v0 v1 x = ∑ e : Fin 1408, v0 (ix2 e (x 0)) * v1 (ix2 e (x 1)) := by
  pointwise [k0_pay1]

theorem pay_first (v0 : FVec Ideal S1408x512 .bf16) (v1 : FVec Ideal S1408x1152 .bf16) (x : S512x1152.Idx) :
    k0_pay2 (F := Ideal) v0 v1 x = k0_pay1 (F := Ideal) v0 v1 x := by
  pointwise [k0_pay2]

theorem pay_next (v0 : FVec Ideal S1408x512 .bf16) (v1 : FVec Ideal S1408x1152 .bf16) (a : FVec Ideal S512x1152 .f32) (x : S512x1152.Idx) :
    k0_pay3 (F := Ideal) v0 v1 a x = a x + k0_pay1 (F := Ideal) v0 v1 x := by
  pointwise [k0_pay3]

theorem block_0 (t : Fin cfg0.N) (r : Fin 512) (e : Fin 1408) : iblk m c 0 t (ix2 e r)
    = rd2 (s0 := 8448) (s1 := 2048) (m (c, main_arg0)) (1408 * (t.val % 6) + e.val) (512 * (t.val / 6 % 4) + r.val) := by
  have hb := bounds t
  have hr := r.isLt
  have he := e.isLt
  rw [← V_main_arg0 m c]
  exact rd2_at (s0 := 8448) (s1 := 2048) (V m c main_arg0) _
    (by show win0_0.index t 0 * 1408 + 1 * e.val = _; rw [(index_0 t).1]; omega)
    (by show win0_0.index t 1 * 512 + 1 * r.val = _; rw [(index_0 t).2]; omega)

theorem block_1 (t : Fin cfg0.N) (r : Fin 1152) (e : Fin 1408) : iblk m c 1 t (ix2 e r)
    = rd2 (s0 := 8448) (s1 := 10368) (m (c, main_arg1)) (1408 * (t.val % 6) + e.val) (1152 * (t.val / 24) + r.val) := by
  have hb := bounds t
  have hr := r.isLt
  have he := e.isLt
  rw [← V_main_arg1 m c]
  exact rd2_at (s0 := 8448) (s1 := 10368) (V m c main_arg1) _
    (by show win0_1.index t 0 * 1408 + 1 * e.val = _; rw [(index_1 t).1]; omega)
    (by show win0_1.index t 1 * 1152 + 1 * r.val = _; rw [(index_1 t).2]; omega)

theorem point (t : Fin cfg0.N) (x : S512x1152.Idx) : k0_pay1 (F := Ideal) (iblk m c 0 t) (iblk m c 1 t) x = term m c t.val x := by
  rw [pay, term]
  exact Finset.sum_congr rfl fun e _ => congrArg₂ (fun a b : EReal => a * b) (block_0 m c t (x 0) e) (block_1 m c t (x 1) e)

theorem part_A (t : Fin cfg0.N) (ht : t.val % 6 = 0) (x : S512x1152.Idx) : (outsAt0 m c t.val t.isLt).2 x = 0 + term m c t.val x := by
  rw [outsAt0_A m c t ht (by omega) (by omega)]
  frame_out
  rw [pay_first, point, zero_add]

theorem part_B (t : Fin cfg0.N) (ht : ¬ t.val % 6 = 0) (x : S512x1152.Idx) : (outsAt0 m c t.val t.isLt).2 x
    = (outsAt0 m c (t.val - 1) (Nat.lt_of_le_of_lt (Nat.sub_le _ _) t.isLt)).2 x + term m c t.val x := by
  by_cases hl : t.val % 6 = 5
  · rw [outsAt0_C m c t (by omega) (by omega) (by omega)]
    frame_out
    rw [pay_next, point]
    simp only [read_unread_whole]
  · rw [outsAt0_B m c t (by omega) (by omega) (by omega)]
    frame_out
    rw [pay_next, point]
    simp only [read_unread_whole]

theorem last (t : Fin cfg0.N) (ht : t.val % 6 = 5) (x : S512x1152.Idx) : (outsAt0 m c t.val t.isLt).1 x = (outsAt0 m c t.val t.isLt).2 x := by
  rw [outsAt0_C m c t (by omega) (by omega) (by omega)]
  frame_out

/-- The kernel's array ends holding the product. -/
theorem final : (dats m 0 c).arrAt 2 (cfgs 0).N = fun j : S2048x10368.Idx => spec8 (m (c, main_arg0)) (m (c, main_arg1)) (j 0).val (j 1).val := by
  refine (dats m 0 c).arrAt_eq_of_covers 2 _ (by decide +kernel) fun t hf y => ?_
  obtain ⟨i0, i1⟩ := index_2 t
  blk_simp
  have hlast := (flush0_2 t).mp hf
  rw [after0_2]
  refine (last m c t (by omega) y).trans ?_
  refine (Pipeline.eq_sum_fin_of_reset_step_apply_of_flush (M := EReal) (ι := S512x1152.Idx) (fun n h => (outsAt0 m c n h).2) 6 (fun _ => 0) _
    (part_A m c) (part_B m c) t hlast y).trans ?_
  have hb := bounds t
  have b0 : (y 0).val < 512 := (y 0).isLt
  have b1 : (y 1).val < 1152 := (y 1).isLt
  rw [zero_add, spec8]
  refine Eq.trans (Finset.sum_congr rfl fun s _ => ?_) (sum_blocks 6 1408 (fun q => rd2 (s0 := 8448) (s1 := 2048) (m (c, main_arg0)) (q) (_) * rd2 (s0 := 8448) (s1 := 10368) (m (c, main_arg1)) (q) (_)))
  have e0 : (6 * (t.val / 6) + s.val) / 6 % 4 = t.val / 6 % 4 := by omega
  have e1 : (6 * (t.val / 6) + s.val) % 6 = s.val := by omega
  have e2 : (6 * (t.val / 6) + s.val) / 24 = t.val / 24 := by omega
  rw [i0, i1, term, e0, e1, e2, Nat.mul_comm 512 (t.val / 6 % 4), Nat.mul_comm 1152 (t.val / 24)]

end Cert.Product.P8

end
-- ==== Proof.Product9.lean ====
/- The ssd_in product: what its kernel's array ends holding. -/
module

public import proofs.«01_k».proof.Proof.Product
public import proofs.«01_k».proof.Proof.Gen.Kernel9Ideal.Frame
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Product.P9

open Idealize.ShloMosaic Idealize.ShloMosaic.TcCoe Idealize.SL.Sem
open Cert.Kernel9Ideal Cert.Kernel9Ideal.Gen

variable (m : (ℓ : Loc nD τ sig) → Buf (Elt Ideal) ℓ) (c : Dev nD)

theorem bounds (t : Fin cfg0.N) : t.val < 108 := lt_of_lt_of_eq t.isLt (by decide)

theorem index_0 : ∀ t : Fin grid0.N, win0_0.index t 0 = (t.val / 2 % 6) ∧ win0_0.index t 1 = (t.val % 2) := by decide +kernel
theorem index_1 : ∀ t : Fin grid0.N, win0_1.index t 0 = (t.val % 2) ∧ win0_1.index t 1 = (t.val / 12) := by decide +kernel
theorem index_2 : ∀ t : Fin grid0.N, win0_2.index t 0 = (t.val / 2 % 6) ∧ win0_2.index t 1 = (t.val / 12) := by decide +kernel

/-- What a grid point adds at an entry of its block. -/
def term (t : ℕ) (x : S1408x1152.Idx) : EReal := ∑ e : Fin 1024,
  rd2 (s0 := 8448) (s1 := 2048) (m (c, main_arg0)) (1408 * (t / 2 % 6) + (x 0).val) (1024 * (t % 2) + e.val)
    * rd2 (s0 := 2048) (s1 := 10368) (m (c, main_arg1)) (1024 * (t % 2) + e.val) (1152 * (t / 12) + (x 1).val)

theorem pay (v0 : FVec Ideal S1408x1024 .bf16) (v1 : FVec Ideal S1024x1152 .bf16) (x : S1408x1152.Idx) :
    k0_pay1 (F := Ideal) v0 v1 x = ∑ e : Fin 1024, v0 (ix2 (x 0) e) * v1 (ix2 e (x 1)) := by
  pointwise [k0_pay1]

theorem pay_first (v0 : FVec Ideal S1408x1024 .bf16) (v1 : FVec Ideal S1024x1152 .bf16) (x : S1408x1152.Idx) :
    k0_pay2 (F := Ideal) v0 v1 x = k0_pay1 (F := Ideal) v0 v1 x := by
  pointwise [k0_pay2]

theorem pay_next (v0 : FVec Ideal S1408x1024 .bf16) (v1 : FVec Ideal S1024x1152 .bf16) (a : FVec Ideal S1408x1152 .f32) (x : S1408x1152.Idx) :
    k0_pay3 (F := Ideal) v0 v1 a x = a x + k0_pay1 (F := Ideal) v0 v1 x := by
  pointwise [k0_pay3]

theorem block_0 (t : Fin cfg0.N) (r : Fin 1408) (e : Fin 1024) : iblk m c 0 t (ix2 r e)
    = rd2 (s0 := 8448) (s1 := 2048) (m (c, main_arg0)) (1408 * (t.val / 2 % 6) + r.val) (1024 * (t.val % 2) + e.val) := by
  have hb := bounds t
  have hr := r.isLt
  have he := e.isLt
  rw [← V_main_arg0 m c]
  exact rd2_at (s0 := 8448) (s1 := 2048) (V m c main_arg0) _
    (by show win0_0.index t 0 * 1408 + 1 * r.val = _; rw [(index_0 t).1]; omega)
    (by show win0_0.index t 1 * 1024 + 1 * e.val = _; rw [(index_0 t).2]; omega)

theorem block_1 (t : Fin cfg0.N) (r : Fin 1152) (e : Fin 1024) : iblk m c 1 t (ix2 e r)
    = rd2 (s0 := 2048) (s1 := 10368) (m (c, main_arg1)) (1024 * (t.val % 2) + e.val) (1152 * (t.val / 12) + r.val) := by
  have hb := bounds t
  have hr := r.isLt
  have he := e.isLt
  rw [← V_main_arg1 m c]
  exact rd2_at (s0 := 2048) (s1 := 10368) (V m c main_arg1) _
    (by show win0_1.index t 0 * 1024 + 1 * e.val = _; rw [(index_1 t).1]; omega)
    (by show win0_1.index t 1 * 1152 + 1 * r.val = _; rw [(index_1 t).2]; omega)

theorem point (t : Fin cfg0.N) (x : S1408x1152.Idx) : k0_pay1 (F := Ideal) (iblk m c 0 t) (iblk m c 1 t) x = term m c t.val x := by
  rw [pay, term]
  exact Finset.sum_congr rfl fun e _ => congrArg₂ (fun a b : EReal => a * b) (block_0 m c t (x 0) e) (block_1 m c t (x 1) e)

theorem part_A (t : Fin cfg0.N) (ht : t.val % 2 = 0) (x : S1408x1152.Idx) : (outsAt0 m c t.val t.isLt).2 x = 0 + term m c t.val x := by
  rw [outsAt0_A m c t ht (by omega) (by omega)]
  frame_out
  rw [pay_first, point, zero_add]

theorem part_B (t : Fin cfg0.N) (ht : ¬ t.val % 2 = 0) (x : S1408x1152.Idx) : (outsAt0 m c t.val t.isLt).2 x
    = (outsAt0 m c (t.val - 1) (Nat.lt_of_le_of_lt (Nat.sub_le _ _) t.isLt)).2 x + term m c t.val x := by
  rw [outsAt0_B m c t (by omega) (by omega) (by omega)]
  frame_out
  rw [pay_next, point]
  simp only [read_unread_whole]

theorem last (t : Fin cfg0.N) (ht : t.val % 2 = 1) (x : S1408x1152.Idx) : (outsAt0 m c t.val t.isLt).1 x = (outsAt0 m c t.val t.isLt).2 x := by
  rw [outsAt0_B m c t (by omega) (by omega) (by omega)]
  frame_out

/-- The kernel's array ends holding the product. -/
theorem final : (dats m 0 c).arrAt 2 (cfgs 0).N = fun j : S8448x10368.Idx => spec9 (m (c, main_arg0)) (m (c, main_arg1)) (j 0).val (j 1).val := by
  refine (dats m 0 c).arrAt_eq_of_covers 2 _ (by decide +kernel) fun t hf y => ?_
  obtain ⟨i0, i1⟩ := index_2 t
  blk_simp
  have hlast := (flush0_2 t).mp hf
  rw [after0_2]
  refine (last m c t (by omega) y).trans ?_
  refine (Pipeline.eq_sum_fin_of_reset_step_apply_of_flush (M := EReal) (ι := S1408x1152.Idx) (fun n h => (outsAt0 m c n h).2) 2 (fun _ => 0) _
    (part_A m c) (part_B m c) t hlast y).trans ?_
  have hb := bounds t
  have b0 : (y 0).val < 1408 := (y 0).isLt
  have b1 : (y 1).val < 1152 := (y 1).isLt
  rw [zero_add, spec9]
  refine Eq.trans (Finset.sum_congr rfl fun s _ => ?_) (sum_blocks 2 1024 (fun q => rd2 (s0 := 8448) (s1 := 2048) (m (c, main_arg0)) (_) (q) * rd2 (s0 := 2048) (s1 := 10368) (m (c, main_arg1)) (q) (_)))
  have e0 : (2 * (t.val / 2) + s.val) / 2 % 6 = t.val / 2 % 6 := by omega
  have e1 : (2 * (t.val / 2) + s.val) % 2 = s.val := by omega
  have e2 : (2 * (t.val / 2) + s.val) / 12 = t.val / 12 := by omega
  rw [i0, i1, term, e0, e1, e2, Nat.mul_comm 1408 (t.val / 2 % 6), Nat.mul_comm 1152 (t.val / 12)]

end Cert.Product.P9

end
-- ==== Proof.ProductRefs.lean ====
/- The references of the products, entry by entry. -/
module

public import proofs.«01_k».proof.Proof.Product
public import proofs.«01_k».proof.Proof.Gen.Reference3Ideal.Read
public import proofs.«01_k».proof.Proof.Gen.Reference4Ideal.Read
public import proofs.«01_k».proof.Proof.Gen.Reference5Ideal.Read
public import proofs.«01_k».proof.Proof.Gen.Reference6Ideal.Read
public import proofs.«01_k».proof.Proof.Gen.Reference7Ideal.Read
public import proofs.«01_k».proof.Proof.Gen.Reference8Ideal.Read
public import proofs.«01_k».proof.Proof.Gen.Reference9Ideal.Read

@[expose] public section

set_option maxRecDepth 16384

noncomputable section

namespace Cert.Product

open Idealize.ShloMosaic Idealize.ShloMosaic.TcCoe Idealize.SL.Sem

section
open Cert.Reference6Ideal Cert.Reference6Ideal.Read
theorem reference6 (x0 : S8448x2048.Idx → EReal) (x1 : S5632x2048.Idx → EReal) :
    val_main_v4 (F := Ideal) x0 x1 = fun i : S8448x5632.Idx => spec6 x0 x1 (i 0).val (i 1).val := by
  funext i
  rw [val_main_v4_apply, spec6]
  exact Finset.sum_congr rfl fun q _ => congrArg₂ (fun a b : EReal => a * b)
    (rd2_at (s0 := 8448) (s1 := 2048) x0 _ rfl rfl) (rd2_at (s0 := 5632) (s1 := 2048) x1 _ rfl rfl)
end

section
open Cert.Reference7Ideal Cert.Reference7Ideal.Read
theorem reference7 (x0 : S8448x10368.Idx → EReal) (x1 : S2048x10368.Idx → EReal) :
    val_main_v4 (F := Ideal) x0 x1 = fun i : S8448x2048.Idx => spec7 x0 x1 (i 0).val (i 1).val := by
  funext i
  rw [val_main_v4_apply, spec7]
  exact Finset.sum_congr rfl fun q _ => congrArg₂ (fun a b : EReal => a * b)
    (rd2_at (s0 := 8448) (s1 := 10368) x0 _ rfl rfl) (rd2_at (s0 := 2048) (s1 := 10368) x1 _ rfl rfl)
end

section
open Cert.Reference9Ideal Cert.Reference9Ideal.Read
theorem reference9 (x0 : S8448x2048.Idx → EReal) (x1 : S2048x10368.Idx → EReal) :
    val_main_v2 (F := Ideal) x0 x1 = fun i : S8448x10368.Idx => spec9 x0 x1 (i 0).val (i 1).val := by
  funext i
  rw [val_main_v2_apply, spec9]
  exact Finset.sum_congr rfl fun q _ => congrArg₂ (fun a b : EReal => a * b)
    (rd2_at (s0 := 8448) (s1 := 2048) x0 _ rfl rfl) (rd2_at (s0 := 2048) (s1 := 10368) x1 _ rfl rfl)
end

section
open Cert.Reference8Ideal Cert.Reference8Ideal.Read
theorem reference8 (x0 : S8448x2048.Idx → EReal) (x1 : S8448x10368.Idx → EReal) :
    val_main_v5 (F := Ideal) x0 x1 = fun i : S2048x10368.Idx => spec8 x0 x1 (i 0).val (i 1).val := by
  funext i
  rw [val_main_v5_apply, val_main_v4_apply, spec8]
  exact Finset.sum_congr rfl fun q _ => (mul_comm (G := EReal) _ _).trans (congrArg₂ (fun a b : EReal => a * b)
    (rd2_at (s0 := 8448) (s1 := 2048) x0 _ rfl rfl) (rd2_at (s0 := 8448) (s1 := 10368) x1 _ rfl rfl))
end

section
open Cert.Reference3Ideal Cert.Reference3Ideal.Read
theorem reference3 (x0 : S2x8448x5632.Idx → EReal) (x1 : S4x2048x2816.Idx → EReal) :
    val_main_v8 (F := Ideal) x0 x1 = fun i : S8448x2048.Idx => spec3 x0 x1 (i 0).val (i 1).val := by
  funext i
  rw [val_main_v8_apply, spec3]
  refine Finset.sum_congr rfl fun q _ => ?_
  have hq := q.isLt
  exact congrArg₂ (fun a b : EReal => a * b)
    ((val_main_v5_apply (F := Ideal) x0 _).trans ((val_main_v4_apply (F := Ideal) x0 _).trans (rd3_at (s0 := 2) (s1 := 8448) (s2 := 5632) x0 _
      (by show ((i 0).val * 11264 + q.val) / 5632 % 2 = q.val / 5632; omega) (by show ((i 0).val * 11264 + q.val) / 11264 = (i 0).val; omega) (by show ((i 0).val * 11264 + q.val) % 5632 = q.val % 5632; omega))))
    ((val_main_v2_apply (F := Ideal) x1 _).trans ((val_main_v1_apply (F := Ideal) x1 _).trans (rd3_at (s0 := 4) (s1 := 2048) (s2 := 2816) x1 _
      (by show ((i 1).val * 11264 + q.val) / 2816 % 4 = q.val / 2816; omega) (by show ((i 1).val * 11264 + q.val) / 11264 = (i 1).val; omega) (by show ((i 1).val * 11264 + q.val) % 2816 = q.val % 2816; omega))))
end

section
open Cert.Reference5Ideal Cert.Reference5Ideal.Read
theorem reference5 (x0 : S8448x2048.Idx → EReal) (x1 : S4x2048x2816.Idx → EReal) :
    val_main_v5 (F := Ideal) x0 x1 = fun i : S8448x11264.Idx => spec5 x0 x1 (i 0).val (i 1).val := by
  funext i
  refine (val_main_v4_apply x0 x1 i).trans ?_
  rw [spec5]
  refine Finset.sum_congr rfl fun q _ => ?_
  have hq : (i 1).val < 11264 := (i 1).isLt
  exact congrArg₂ (fun a b : EReal => a * b) (rd2_at (s0 := 8448) (s1 := 2048) x0 _ rfl rfl)
    ((val_main_v3_apply (F := Ideal) x1 _).trans ((val_main_v2_apply (F := Ideal) x1 _).trans (rd3_at (s0 := 4) (s1 := 2048) (s2 := 2816) x1 _
      (by show (q.val * 11264 + (i 1).val) / 2816 % 4 = (i 1).val / 2816; omega) (by show (q.val * 11264 + (i 1).val) / 11264 = q.val; omega) (by show (q.val * 11264 + (i 1).val) % 2816 = (i 1).val % 2816; omega))))
end

section
open Cert.Reference4Ideal Cert.Reference4Ideal.Read
theorem gradient4 (x0 : S8448x2048.Idx → EReal) (x1 : S2x8448x5632.Idx → EReal) (i : S4x2048x2816.Idx) :
    val_main_v9 (F := Ideal) x0 x1 i = spec4 x0 x1 (i 1).val (2816 * (i 0).val + (i 2).val) := by
  have h0 : (i 0).val < 4 := (i 0).isLt
  have h1 : (i 1).val < 2048 := (i 1).isLt
  have h2 : (i 2).val < 2816 := (i 2).isLt
  rw [val_main_v9_apply, val_main_v8_apply, val_main_v7_apply, val_main_v6_apply, spec4]
  refine Finset.sum_congr rfl fun q _ => (mul_comm (G := EReal) _ _).trans ?_
  have e : (((i 1).val * 4 + (i 0).val) * 2816 + (i 2).val) % 11264 = 2816 * (i 0).val + (i 2).val := by omega
  refine congrArg₂ (fun a b : EReal => a * b)
    (rd2_at (s0 := 8448) (s1 := 2048) x0 _ rfl (by show (((i 1).val * 4 + (i 0).val) * 2816 + (i 2).val) / 11264 = (i 1).val; omega)) ?_
  refine (val_main_v3_apply (F := Ideal) x1 _).trans ((val_main_v2_apply (F := Ideal) x1 _).trans (rd3_at (s0 := 2) (s1 := 8448) (s2 := 5632) x1 _ ?_ ?_ ?_))
  · show (q.val * 11264 + (((i 1).val * 4 + (i 0).val) * 2816 + (i 2).val) % 11264) / 5632 % 2 = _
    rw [e]; omega
  · show (q.val * 11264 + (((i 1).val * 4 + (i 0).val) * 2816 + (i 2).val) % 11264) / 11264 = _
    rw [e]; omega
  · show (q.val * 11264 + (((i 1).val * 4 + (i 0).val) * 2816 + (i 2).val) % 11264) % 5632 = _
    rw [e]; omega

theorem reference4 (x0 : S8448x2048.Idx → EReal) (x1 : S2x8448x5632.Idx → EReal) (x2 : S4x8192x2816.Idx → EReal) :
    val_main_v13 (F := Ideal) x0 x1 x2 = fun i : S4x8192x2816.Idx =>
      if (i 1).val < 2048 then spec4 x0 x1 (i 1).val (2816 * (i 0).val + (i 2).val) else x2 i := by
  funext i
  have g := gradient4 x0 x1
  have k : ∀ i, val_main_v11 (F := Ideal) x2 i = x2 (idx_main_v10 i) := fun i => val_main_v10_apply (F := Ideal) x2 i
  refine (?_ : _ = val_main_v12 (F := Ideal) x0 x1 x2 i).trans ?_
  · rfl
  pointwise [val_main_v12, g, k]
  by_cases h : (i 1).val < 2048
  · rw [dif_pos h, if_pos h]
  · rw [dif_neg h, if_neg h]
    refine congrArg x2 ?_
    funext a
    match a with
    | ⟨0, _⟩ => rfl
    | ⟨1, _⟩ => exact Fin.ext (by show 2048 + ((i 1).val - 2048) = (i 1).val; omega)
    | ⟨2, _⟩ => rfl
end

end Cert.Product

end
-- ==== Proof.ProductClaims.lean ====
/- Each product's kernel computes what its reference computes, and both leave their arguments and semaphores. -/
module

public import proofs.«01_k».proof.Proof.Product3
public import proofs.«01_k».proof.Proof.Gen.Kernel3Ideal.Value
public import proofs.«01_k».proof.Proof.Gen.Reference3Ideal.Run
public import proofs.«01_k».proof.Proof.Product4
public import proofs.«01_k».proof.Proof.Gen.Kernel4Ideal.Value
public import proofs.«01_k».proof.Proof.Gen.Reference4Ideal.Run
public import proofs.«01_k».proof.Proof.Product5
public import proofs.«01_k».proof.Proof.Gen.Kernel5Ideal.Value
public import proofs.«01_k».proof.Proof.Gen.Reference5Ideal.Run
public import proofs.«01_k».proof.Proof.Product6
public import proofs.«01_k».proof.Proof.Gen.Kernel6Ideal.Value
public import proofs.«01_k».proof.Proof.Gen.Reference6Ideal.Run
public import proofs.«01_k».proof.Proof.Product7
public import proofs.«01_k».proof.Proof.Gen.Kernel7Ideal.Value
public import proofs.«01_k».proof.Proof.Gen.Reference7Ideal.Run
public import proofs.«01_k».proof.Proof.Product8
public import proofs.«01_k».proof.Proof.Gen.Kernel8Ideal.Value
public import proofs.«01_k».proof.Proof.Gen.Reference8Ideal.Run
public import proofs.«01_k».proof.Proof.Product9
public import proofs.«01_k».proof.Proof.Gen.Kernel9Ideal.Value
public import proofs.«01_k».proof.Proof.Gen.Reference9Ideal.Run
public import proofs.«01_k».proof.Proof.ProductRefs
public import proofs.«01_k».proof.Defs
public import Idealize.ShloMosaic.Lib.Claim

@[expose] public section

set_option maxRecDepth 16384

noncomputable section

namespace Cert.Product

open Idealize.ShloMosaic Idealize.ShloMosaic.TcCoe Idealize.SL.Sem

theorem quiescent3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem algebraic3 : Cert.algebraic_Kernel3Ideal_Reference3Ideal := by
  intro m g m' g' _ hagree
  refine ⟨fun c => (Cert.Kernel3Ideal.Gen.dats m 0 c).arrAt 2 (Cert.Kernel3Ideal.cfgs 0).N, Cert.Kernel3Ideal.Value.run_blocks (F := Ideal) m g,
    (θ_run Cert.Reference3Ideal.defs _ _).mono (fun r h c => ?_) (Cert.Reference3Ideal.Value.run (F := Ideal) m' g')⟩
  obtain ⟨h0, ha⟩ := h c
  obtain ⟨e0, e1⟩ := hagree c
  rw [Cert.Reference3Ideal.Read.val_main_v8_eq, reference3, e0, e1] at h0
  exact ⟨h0.trans (P3.final m c).symm, ha⟩

theorem quiescent4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem algebraic4 : Cert.algebraic_Kernel4Ideal_Reference4Ideal := by
  intro m g m' g' _ hagree
  refine ⟨fun c => (Cert.Kernel4Ideal.Gen.dats m 0 c).arrAt 2 (Cert.Kernel4Ideal.cfgs 0).N, Cert.Kernel4Ideal.Value.run_blocks (F := Ideal) m g,
    (θ_run Cert.Reference4Ideal.defs _ _).mono (fun r h c => ?_) (Cert.Reference4Ideal.Value.run (F := Ideal) m' g')⟩
  obtain ⟨h0, ha⟩ := h c
  obtain ⟨e0, e1, e2⟩ := hagree c
  rw [Cert.Reference4Ideal.Read.val_main_v13_eq, reference4, e0, e1, e2] at h0
  exact ⟨h0.trans (P4.final m c).symm, ha⟩

theorem quiescent5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem algebraic5 : Cert.algebraic_Kernel5Ideal_Reference5Ideal := by
  intro m g m' g' _ hagree
  refine ⟨fun c => (Cert.Kernel5Ideal.Gen.dats m 0 c).arrAt 2 (Cert.Kernel5Ideal.cfgs 0).N, Cert.Kernel5Ideal.Value.run_blocks (F := Ideal) m g,
    (θ_run Cert.Reference5Ideal.defs _ _).mono (fun r h c => ?_) (Cert.Reference5Ideal.Value.run (F := Ideal) m' g')⟩
  obtain ⟨h0, ha⟩ := h c
  obtain ⟨e0, e1⟩ := hagree c
  rw [Cert.Reference5Ideal.Read.val_main_v5_eq, reference5, e0, e1] at h0
  exact ⟨h0.trans (P5.final m c).symm, ha⟩

theorem quiescent6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem algebraic6 : Cert.algebraic_Kernel6Ideal_Reference6Ideal := by
  intro m g m' g' _ hagree
  refine ⟨fun c => (Cert.Kernel6Ideal.Gen.dats m 0 c).arrAt 2 (Cert.Kernel6Ideal.cfgs 0).N, Cert.Kernel6Ideal.Value.run_blocks (F := Ideal) m g,
    (θ_run Cert.Reference6Ideal.defs _ _).mono (fun r h c => ?_) (Cert.Reference6Ideal.Value.run (F := Ideal) m' g')⟩
  obtain ⟨h0, ha⟩ := h c
  obtain ⟨e0, e1⟩ := hagree c
  rw [Cert.Reference6Ideal.Read.val_main_v4_eq, reference6, e0, e1] at h0
  exact ⟨h0.trans (P6.final m c).symm, ha⟩

theorem quiescent7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem algebraic7 : Cert.algebraic_Kernel7Ideal_Reference7Ideal := by
  intro m g m' g' _ hagree
  refine ⟨fun c => (Cert.Kernel7Ideal.Gen.dats m 0 c).arrAt 2 (Cert.Kernel7Ideal.cfgs 0).N, Cert.Kernel7Ideal.Value.run_blocks (F := Ideal) m g,
    (θ_run Cert.Reference7Ideal.defs _ _).mono (fun r h c => ?_) (Cert.Reference7Ideal.Value.run (F := Ideal) m' g')⟩
  obtain ⟨h0, ha⟩ := h c
  obtain ⟨e0, e1⟩ := hagree c
  rw [Cert.Reference7Ideal.Read.val_main_v4_eq, reference7, e0, e1] at h0
  exact ⟨h0.trans (P7.final m c).symm, ha⟩

theorem quiescent8 : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

theorem algebraic8 : Cert.algebraic_Kernel8Ideal_Reference8Ideal := by
  intro m g m' g' _ hagree
  refine ⟨fun c => (Cert.Kernel8Ideal.Gen.dats m 0 c).arrAt 2 (Cert.Kernel8Ideal.cfgs 0).N, Cert.Kernel8Ideal.Value.run_blocks (F := Ideal) m g,
    (θ_run Cert.Reference8Ideal.defs _ _).mono (fun r h c => ?_) (Cert.Reference8Ideal.Value.run (F := Ideal) m' g')⟩
  obtain ⟨h0, ha⟩ := h c
  obtain ⟨e0, e1⟩ := hagree c
  rw [Cert.Reference8Ideal.Read.val_main_v5_eq, reference8, e0, e1] at h0
  exact ⟨h0.trans (P8.final m c).symm, ha⟩

theorem quiescent9 : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

theorem algebraic9 : Cert.algebraic_Kernel9Ideal_Reference9Ideal := by
  intro m g m' g' _ hagree
  refine ⟨fun c => (Cert.Kernel9Ideal.Gen.dats m 0 c).arrAt 2 (Cert.Kernel9Ideal.cfgs 0).N, Cert.Kernel9Ideal.Value.run_blocks (F := Ideal) m g,
    (θ_run Cert.Reference9Ideal.defs _ _).mono (fun r h c => ?_) (Cert.Reference9Ideal.Value.run (F := Ideal) m' g')⟩
  obtain ⟨h0, ha⟩ := h c
  obtain ⟨e0, e1⟩ := hagree c
  rw [Cert.Reference9Ideal.Read.val_main_v2_eq, reference9, e0, e1] at h0
  exact ⟨h0.trans (P9.final m c).symm, ha⟩

end Cert.Product

end
-- ==== Proof.Down.lean ====
/- The FFN's down product: the gradient of its weights, and the product with the gate and the residual. Their formulas, and the references. -/
module

public import proofs.«01_k».proof.Proof.Product
public import proofs.«01_k».proof.Proof.Gen.Reference10Ideal.Read
public import proofs.«01_k».proof.Proof.Gen.Reference11Ideal.Read

@[expose] public section

set_option maxRecDepth 16384

noncomputable section

namespace Cert.Product

open Idealize.ShloMosaic Idealize.ShloMosaic.TcCoe Idealize.SL.Sem

/-- The product of a column of `x` with a column of `d`. -/
def spec10 (x : (⟨2, ![8448, 5632]⟩ : Shape).Idx → EReal) (d : (⟨2, ![8448, 2048]⟩ : Shape).Idx → EReal) (r s : ℕ) : EReal :=
  ∑ q : Fin 8448, rd2 x q.val r * rd2 d q.val s

/-- The product of a row of `x` with a column of `w`. -/
def spec11 (x : (⟨2, ![8448, 5632]⟩ : Shape).Idx → EReal) (w : (⟨2, ![5632, 2048]⟩ : Shape).Idx → EReal) (r s : ℕ) : EReal :=
  ∑ q : Fin 5632, rd2 x r q.val * rd2 w q.val s

/-- The residual and the gated product: a context row takes the first gate, a latent's row the second. -/
def gated (x : (⟨2, ![8448, 5632]⟩ : Shape).Idx → EReal) (w : (⟨2, ![5632, 2048]⟩ : Shape).Idx → EReal)
    (res : (⟨2, ![8448, 2048]⟩ : Shape).Idx → EReal) (gate : (⟨2, ![2, 2048]⟩ : Shape).Idx → EReal) (r s : ℕ) : EReal :=
  rd2 res r s + (if r < 256 then rd2 gate 0 s else rd2 gate 1 s) * spec11 x w r s

section
open Cert.Reference10Ideal Cert.Reference10Ideal.Read

theorem gradient10 (x0 : S8448x5632.Idx → EReal) (x1 : S8448x2048.Idx → EReal) (i : S4x1408x2048.Idx) :
    val_main_v6 (F := Ideal) x0 x1 i = spec10 x0 x1 (1408 * (i 0).val + (i 1).val) (i 2).val := by
  have h0 : (i 0).val < 4 := (i 0).isLt
  have h1 : (i 1).val < 1408 := (i 1).isLt
  have h2 : (i 2).val < 2048 := (i 2).isLt
  rw [val_main_v6_apply, val_main_v5_apply, val_main_v4_apply, spec10]
  refine Finset.sum_congr rfl fun q _ => (mul_comm (G := EReal) _ _).trans ?_
  exact congrArg₂ (fun a b : EReal => a * b)
    (rd2_at (s0 := 8448) (s1 := 5632) x0 _ rfl (by show (((i 0).val * 1408 + (i 1).val) * 2048 + (i 2).val) / 2048 = 1408 * (i 0).val + (i 1).val; omega))
    (rd2_at (s0 := 8448) (s1 := 2048) x1 _ rfl (by show (((i 0).val * 1408 + (i 1).val) * 2048 + (i 2).val) % 2048 = (i 2).val; omega))

theorem reference10 (x0 : S8448x5632.Idx → EReal) (x1 : S8448x2048.Idx → EReal) (x2 : S4x5632x2048.Idx → EReal) :
    val_main_v10 (F := Ideal) x0 x1 x2 = fun i : S4x5632x2048.Idx =>
      if (i 1).val < 1408 then spec10 x0 x1 (1408 * (i 0).val + (i 1).val) (i 2).val else x2 i := by
  funext i
  have g := gradient10 x0 x1
  have k : ∀ i, val_main_v8 (F := Ideal) x2 i = x2 (idx_main_v7 i) := fun i => val_main_v7_apply (F := Ideal) x2 i
  refine (?_ : _ = val_main_v9 (F := Ideal) x0 x1 x2 i).trans ?_
  · rfl
  pointwise [val_main_v9, g, k]
  by_cases h : (i 1).val < 1408
  · rw [dif_pos h, if_pos h]
  · rw [dif_neg h, if_neg h]
    refine congrArg x2 ?_
    funext a
    match a with
    | ⟨0, _⟩ => rfl
    | ⟨1, _⟩ => exact Fin.ext (by show 1408 + ((i 1).val - 1408) = (i 1).val; omega)
    | ⟨2, _⟩ => rfl
end

section
open Cert.Reference11Ideal Cert.Reference11Ideal.Read

theorem product11 (x0 : S8448x5632.Idx → EReal) (x1 : S5632x2048.Idx → EReal) :
    val_main_v2 (F := Ideal) x0 x1 = fun i : S8448x2048.Idx => spec11 x0 x1 (i 0).val (i 1).val := by
  funext i
  rw [val_main_v2_apply, spec11]
  exact Finset.sum_congr rfl fun q _ => congrArg₂ (fun a b : EReal => a * b)
    (rd2_at (s0 := 8448) (s1 := 5632) x0 _ rfl rfl) (rd2_at (s0 := 5632) (s1 := 2048) x1 _ rfl rfl)

theorem context11 (x0 : S8448x5632.Idx → EReal) (x1 : S5632x2048.Idx → EReal) (x2 : S8448x2048.Idx → EReal) (x3 : S2x2048.Idx → EReal)
    (i : S256x2048.Idx) : val_main_v10 (F := Ideal) x0 x1 x2 x3 i
      = rd2 (s0 := 8448) (s1 := 2048) x2 (i 0).val (i 1).val + rd2 (s0 := 2) (s1 := 2048) x3 0 (i 1).val * spec11 x0 x1 (i 0).val (i 1).val := by
  have h : (i 1).val < 2048 := (i 1).isLt
  rw [val_main_v10_apply, val_main_v9_apply, val_main_v3_apply, val_main_v8_apply, val_main_v7_apply, val_main_v5_apply, val_main_v4_apply, val_main_v6_apply, product11]
  refine congrArg₂ (fun a b : EReal => a + b) (rd2_at (s0 := 8448) (s1 := 2048) x2 _ ?_ ?_)
    (congrArg₂ (fun a b : EReal => a * b) (rd2_at (s0 := 2) (s1 := 2048) x3 _ ?_ ?_) (congrArg₂ (fun a b : ℕ => spec11 x0 x1 a b) ?_ ?_))
  all_goals first | rfl | exact Nat.mod_eq_of_lt h | exact Nat.add_comm _ _

theorem latents11 (x0 : S8448x5632.Idx → EReal) (x1 : S5632x2048.Idx → EReal) (x2 : S8448x2048.Idx → EReal) (x3 : S2x2048.Idx → EReal)
    (i : S8192x2048.Idx) : val_main_v18 (F := Ideal) x0 x1 x2 x3 i
      = rd2 (s0 := 8448) (s1 := 2048) x2 (256 + (i 0).val) (i 1).val
        + rd2 (s0 := 2) (s1 := 2048) x3 1 (i 1).val * spec11 x0 x1 (256 + (i 0).val) (i 1).val := by
  have h : (i 1).val < 2048 := (i 1).isLt
  rw [val_main_v18_apply, val_main_v17_apply, val_main_v11_apply, val_main_v16_apply, val_main_v15_apply, val_main_v13_apply, val_main_v12_apply, val_main_v14_apply, product11]
  refine congrArg₂ (fun a b : EReal => a + b) (rd2_at (s0 := 8448) (s1 := 2048) x2 _ ?_ ?_)
    (congrArg₂ (fun a b : EReal => a * b) (rd2_at (s0 := 2) (s1 := 2048) x3 _ ?_ ?_) (congrArg₂ (fun a b : ℕ => spec11 x0 x1 a b) ?_ ?_))
  all_goals first | rfl | exact Nat.mod_eq_of_lt h | exact Nat.add_comm _ _

theorem reference11 (x0 : S8448x5632.Idx → EReal) (x1 : S5632x2048.Idx → EReal) (x2 : S8448x2048.Idx → EReal) (x3 : S2x2048.Idx → EReal) :
    val_main_v19 (F := Ideal) x0 x1 x2 x3 = fun i : S8448x2048.Idx => gated x0 x1 x2 x3 (i 0).val (i 1).val := by
  funext i
  have g := context11 x0 x1 x2 x3
  have k := latents11 x0 x1 x2 x3
  pointwise [val_main_v19, g, k]
  by_cases h : (i 0).val < 256
  · rw [dif_pos h, gated, if_pos h]
  · rw [dif_neg h, gated, if_neg h]
    have e : 256 + ((i 0).val - 256) = (i 0).val := by omega
    rw [e]
end

end Cert.Product

end
-- ==== Proof.Product10.lean ====
/- The gradient of ffn_down's weights, written into one layer's rows of the gradients' buffer: what its kernel's array ends holding. -/
module

public import proofs.«01_k».proof.Proof.Down
public import proofs.«01_k».proof.Proof.Gen.Kernel10Ideal.Frame
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Product.P10

open Idealize.ShloMosaic Idealize.ShloMosaic.TcCoe Idealize.SL.Sem
open Cert.Kernel10Ideal Cert.Kernel10Ideal.Gen

variable (m : (ℓ : Loc nD τ sig) → Buf (Elt Ideal) ℓ) (c : Dev nD)

theorem bounds (t : Fin cfg0.N) : t.val < 48 := lt_of_lt_of_eq t.isLt (by decide)

theorem index_0 : ∀ t : Fin grid0.N, win0_0.index t 0 = (t.val % 6) ∧ win0_0.index t 1 = (t.val / 6 % 4) := by decide +kernel
theorem index_1 : ∀ t : Fin grid0.N, win0_1.index t 0 = (t.val % 6) ∧ win0_1.index t 1 = (t.val / 24) := by decide +kernel
theorem index_2 : ∀ t : Fin grid0.N, win0_2.index t 0 = (t.val / 6 % 4) ∧ win0_2.index t 1 = 0 ∧ win0_2.index t 2 = (t.val / 24) := by decide +kernel

/-- What a grid point adds at an entry of its block. -/
def term (t : ℕ) (x : S1408x1024.Idx) : EReal := ∑ e : Fin 1408,
  rd2 (s0 := 8448) (s1 := 5632) (m (c, main_arg0)) (1408 * (t % 6) + e.val) (1408 * (t / 6 % 4) + (x 0).val)
    * rd2 (s0 := 8448) (s1 := 2048) (m (c, main_arg1)) (1408 * (t % 6) + e.val) (1024 * (t / 24) + (x 1).val)

theorem pay (v0 : FVec Ideal S1408x1408 .bf16) (v1 : FVec Ideal S1408x1024 .bf16) (x : S1408x1024.Idx) :
    k0_pay1 (F := Ideal) v0 v1 x = ∑ e : Fin 1408, v0 (ix2 e (x 0)) * v1 (ix2 e (x 1)) := by
  pointwise [k0_pay1]

theorem pay_first (v0 : FVec Ideal S1408x1408 .bf16) (v1 : FVec Ideal S1408x1024 .bf16) (x : S1408x1024.Idx) :
    k0_pay2 (F := Ideal) v0 v1 x = k0_pay1 (F := Ideal) v0 v1 x := by
  pointwise [k0_pay2]

theorem pay_next (v0 : FVec Ideal S1408x1408 .bf16) (v1 : FVec Ideal S1408x1024 .bf16) (a : FVec Ideal S1408x1024 .f32) (x : S1408x1024.Idx) :
    k0_pay3 (F := Ideal) v0 v1 a x = a x + k0_pay1 (F := Ideal) v0 v1 x := by
  pointwise [k0_pay3]

theorem pay_out (a : FVec Ideal S1408x1024 .f32) (x : S1x1408x1024.Idx) : k0_pay4 (F := Ideal) a x = a (ix2 (x 1) (x 2)) := by
  pointwise [k0_pay4]

theorem block_0 (t : Fin cfg0.N) (r : Fin 1408) (e : Fin 1408) : iblk m c 0 t (ix2 e r)
    = rd2 (s0 := 8448) (s1 := 5632) (m (c, main_arg0)) (1408 * (t.val % 6) + e.val) (1408 * (t.val / 6 % 4) + r.val) := by
  have hb := bounds t
  have hr := r.isLt
  have he := e.isLt
  rw [← V_main_arg0 m c]
  exact rd2_at (s0 := 8448) (s1 := 5632) (V m c main_arg0) _
    (by show win0_0.index t 0 * 1408 + 1 * e.val = _; rw [(index_0 t).1]; omega)
    (by show win0_0.index t 1 * 1408 + 1 * r.val = _; rw [(index_0 t).2]; omega)

theorem block_1 (t : Fin cfg0.N) (r : Fin 1024) (e : Fin 1408) : iblk m c 1 t (ix2 e r)
    = rd2 (s0 := 8448) (s1 := 2048) (m (c, main_arg1)) (1408 * (t.val % 6) + e.val) (1024 * (t.val / 24) + r.val) := by
  have hb := bounds t
  have hr := r.isLt
  have he := e.isLt
  rw [← V_main_arg1 m c]
  exact rd2_at (s0 := 8448) (s1 := 2048) (V m c main_arg1) _
    (by show win0_1.index t 0 * 1408 + 1 * e.val = _; rw [(index_1 t).1]; omega)
    (by show win0_1.index t 1 * 1024 + 1 * r.val = _; rw [(index_1 t).2]; omega)

theorem point (t : Fin cfg0.N) (x : S1408x1024.Idx) : k0_pay1 (F := Ideal) (iblk m c 0 t) (iblk m c 1 t) x = term m c t.val x := by
  rw [pay, term]
  exact Finset.sum_congr rfl fun e _ => congrArg₂ (fun a b : EReal => a * b) (block_0 m c t (x 0) e) (block_1 m c t (x 1) e)

theorem part_A (t : Fin cfg0.N) (ht : t.val % 6 = 0) (x : S1408x1024.Idx) : (outsAt0 m c t.val t.isLt).2 x = 0 + term m c t.val x := by
  rw [outsAt0_A m c t ht (by omega) (by omega)]
  frame_out
  rw [pay_first, point, zero_add]

theorem part_B (t : Fin cfg0.N) (ht : ¬ t.val % 6 = 0) (x : S1408x1024.Idx) : (outsAt0 m c t.val t.isLt).2 x
    = (outsAt0 m c (t.val - 1) (Nat.lt_of_le_of_lt (Nat.sub_le _ _) t.isLt)).2 x + term m c t.val x := by
  by_cases hl : t.val % 6 = 5
  · rw [outsAt0_C m c t (by omega) (by omega) (by omega)]
    frame_out
    rw [pay_next, point]
    simp only [read_unread_whole]
  · rw [outsAt0_B m c t (by omega) (by omega) (by omega)]
    frame_out
    rw [pay_next, point]
    simp only [read_unread_whole]

theorem last (t : Fin cfg0.N) (ht : t.val % 6 = 5) (x : S1x1408x1024.Idx) : (outsAt0 m c t.val t.isLt).1 x = (outsAt0 m c t.val t.isLt).2 (ix2 (x 1) (x 2)) := by
  rw [outsAt0_C m c t (by omega) (by omega) (by omega)]
  frame_out
  rw [pay_out]

/-- Before the first grid point the result's array holds the buffer. -/
theorem entry_buffer : (dats m 0 c).A 2 = m (c, main_arg2) := by
  rw [A_eq m c 2]
  entry_read
  rfl

/-- The kernel's array ends holding the product. -/
theorem final : (dats m 0 c).arrAt 2 (cfgs 0).N = fun j : S4x5632x2048.Idx =>
    if (j 1).val < 1408 then spec10 (m (c, main_arg0)) (m (c, main_arg1)) (1408 * (j 0).val + (j 1).val) (j 2).val else m (c, main_arg2) j := by
  rw [← entry_buffer m c]
  refine (dats m 0 c).arrAt_eq_of_coversWhere 2 (fun j : S4x5632x2048.Idx => spec10 (m (c, main_arg0)) (m (c, main_arg1)) (1408 * (j 0).val + (j 1).val) (j 2).val) (fun β => β 1 < 1) (by decide +kernel) (fun t hf y => ?_) (fun j => by blk_simp [Pipeline.Window.cell_apply]; omega)
  obtain ⟨i0, i1, i2⟩ := index_2 t
  blk_simp
  have hlast := (flush0_2 t).mp hf
  rw [after0_2]
  refine (last m c t (by omega) y).trans ?_
  refine (Pipeline.eq_sum_fin_of_reset_step_apply_of_flush (M := EReal) (ι := S1408x1024.Idx) (fun n h => (outsAt0 m c n h).2) 6 (fun _ => 0) _
    (part_A m c) (part_B m c) t hlast (ix2 (y 1) (y 2))).trans ?_
  have hb := bounds t
  have b0 : (y 0).val < 1 := (y 0).isLt
  have b1 : (y 1).val < 1408 := (y 1).isLt
  have b2 : (y 2).val < 1024 := (y 2).isLt
  have c0 : 1408 * (t.val / 6 % 4) + (y 1).val = 1408 * (t.val / 6 % 4) + (0 * 1408 + (y 1).val) := by omega
  rw [zero_add, spec10]
  refine Eq.trans (Finset.sum_congr rfl fun s _ => ?_) (sum_blocks 6 1408 (fun q => rd2 (s0 := 8448) (s1 := 5632) (m (c, main_arg0)) (q) (_) * rd2 (s0 := 8448) (s1 := 2048) (m (c, main_arg1)) (q) (_)))
  have e0 : (6 * (t.val / 6) + s.val) / 6 % 4 = t.val / 6 % 4 := by omega
  have e1 : (6 * (t.val / 6) + s.val) % 6 = s.val := by omega
  have e2 : (6 * (t.val / 6) + s.val) / 24 = t.val / 24 := by omega
  rw [i0, i1, i2, term, e0, e1, e2, Nat.mul_comm 1024 (t.val / 24), ← c0]
  rfl

end Cert.Product.P10

end
-- ==== Proof.Product11.lean ====
/- The ffn_down product, gated and added to the residual: what its kernel's two arrays end holding. -/
module

public import proofs.«01_k».proof.Proof.Down
public import proofs.«01_k».proof.Proof.Words
public import proofs.«01_k».proof.Proof.Gen.Kernel11Ideal.Frame
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Product.P11

open Idealize.ShloMosaic Idealize.ShloMosaic.TcCoe Idealize.SL.Sem
open Cert.Kernel11Ideal Cert.Kernel11Ideal.Gen

variable (m : (ℓ : Loc nD τ sig) → Buf (Elt Ideal) ℓ) (c : Dev nD)

theorem bounds (t : Fin cfg0.N) : t.val < 88 := lt_of_lt_of_eq t.isLt (by decide)

theorem index_0 : ∀ t : Fin grid0.N, win0_0.index t 0 = t.val / 4 % 11 ∧ win0_0.index t 1 = t.val % 4 := by decide +kernel
theorem index_1 : ∀ t : Fin grid0.N, win0_1.index t 0 = t.val % 4 ∧ win0_1.index t 1 = t.val / 44 := by decide +kernel
theorem index_2 : ∀ t : Fin grid0.N, win0_2.index t 0 = t.val / 4 % 11 ∧ win0_2.index t 1 = t.val / 44 := by decide +kernel
theorem index_3 : ∀ t : Fin grid0.N, win0_3.index t 0 = 0 ∧ win0_3.index t 1 = t.val / 44 := by decide +kernel
theorem index_4 : ∀ t : Fin grid0.N, win0_4.index t 0 = t.val / 4 % 11 ∧ win0_4.index t 1 = t.val / 44 := by decide +kernel
theorem index_5 : ∀ t : Fin grid0.N, win0_5.index t 0 = t.val / 4 % 11 ∧ win0_5.index t 1 = t.val / 44 := by decide +kernel
theorem coord_1 : ∀ t : Fin grid0.N, ((grid0.coords t) 1).val = t.val / 4 % 11 := by decide +kernel

/-- What a grid point adds at an entry of its block. -/
def term (t : ℕ) (x : S768x1024.Idx) : EReal := ∑ e : Fin 1408,
  rd2 (s0 := 8448) (s1 := 5632) (m (c, main_arg0)) (768 * (t / 4 % 11) + (x 0).val) (1408 * (t % 4) + e.val)
    * rd2 (s0 := 5632) (s1 := 2048) (m (c, main_arg1)) (1408 * (t % 4) + e.val) (1024 * (t / 44) + (x 1).val)

theorem pay (v0 : FVec Ideal S768x1408 .bf16) (v1 : FVec Ideal S1408x1024 .bf16) (x : S768x1024.Idx) :
    k0_pay1 (F := Ideal) v0 v1 x = ∑ e : Fin 1408, v0 (ix2 (x 0) e) * v1 (ix2 e (x 1)) := by
  pointwise [k0_pay1]

theorem pay_first (v0 : FVec Ideal S768x1408 .bf16) (v1 : FVec Ideal S1408x1024 .bf16) (x : S768x1024.Idx) :
    k0_pay2 (F := Ideal) v0 v1 x = k0_pay1 (F := Ideal) v0 v1 x := by
  pointwise [k0_pay2]

theorem pay_next (v0 : FVec Ideal S768x1408 .bf16) (v1 : FVec Ideal S1408x1024 .bf16) (a : FVec Ideal S768x1024 .f32) (x : S768x1024.Idx) :
    k0_pay3 (F := Ideal) v0 v1 a x = a x + k0_pay1 (F := Ideal) v0 v1 x := by
  pointwise [k0_pay3]

/-- The kernel's test of a row: below 256 it is a context row. -/
theorem context_word {b r : ℕ} (hb : b < 11) (hr : r < 768) :
    IntOp.cmpi CmpIPredicate.slt (IntOp.addi (IntOp.muli (BitVec.ofNat 32 b) 768#32) (BitVec.ofNat 32 r)) 256#32
      = BitVec.ofBool (decide (768 * b + r < 256)) := by
  have n := fun {x : ℕ} (h : x < 2 ^ 20) => AttnGrad.sword_nat h
  have e := AttnGrad.sword_add (AttnGrad.sword_mul (n (x := b) (by omega)) (n (x := 768) (by omega)) (by rw [abs_lt]; push_cast; omega)) (n (x := r) (by omega))
    (by rw [abs_lt]; push_cast; omega)
  rw [AttnGrad.sword_lt e (n (x := 256) (by omega))]
  congr 1
  rw [decide_eq_decide]
  push_cast
  omega

theorem pay_gate (t : Fin cfg0.N) (a : FVec Ideal S768x1024 .f32) (g0 g1 : FVec Ideal S1x1024 .f32) (r : FVec Ideal S768x1024 .f32) (x : S768x1024.Idx) :
    k0_pay4 (F := Ideal) (grid0.coords t) a g0 g1 r x
      = r x + (if 768 * (t.val / 4 % 11) + (x 0).val < 256 then g0 (ix2 0 (x 1)) else g1 (ix2 0 (x 1))) * a x := by
  have hb := bounds t
  have hx : (x 0).val < 768 := (x 0).isLt
  pointwise [k0_pay4]
  rw [coord_1 t]
  have e : IntOp.cmpi CmpIPredicate.slt (IntOp.addi (Scalar.muli (BitVec.ofNat 32 (t.val / 4 % 11)) 768#32) (BitVec.ofNat 32 (x 0).val)) 256#32
      = BitVec.ofBool (decide (768 * (t.val / 4 % 11) + (x 0).val < 256)) := context_word (by omega) hx
  rw [e]
  by_cases h : 768 * (t.val / 4 % 11) + (x 0).val < 256
  · rw [if_pos h, decide_eq_true h]
    rfl
  · rw [if_neg h, decide_eq_false h]
    rfl

theorem block_0 (t : Fin cfg0.N) (r : Fin 768) (e : Fin 1408) : iblk m c 0 t (ix2 r e)
    = rd2 (s0 := 8448) (s1 := 5632) (m (c, main_arg0)) (768 * (t.val / 4 % 11) + r.val) (1408 * (t.val % 4) + e.val) := by
  have hb := bounds t
  rw [← V_main_arg0 m c]
  exact rd2_at (s0 := 8448) (s1 := 5632) (V m c main_arg0) _
    (by show win0_0.index t 0 * 768 + 1 * r.val = _; rw [(index_0 t).1]; omega)
    (by show win0_0.index t 1 * 1408 + 1 * e.val = _; rw [(index_0 t).2]; omega)

theorem block_1 (t : Fin cfg0.N) (e : Fin 1408) (r : Fin 1024) : iblk m c 1 t (ix2 e r)
    = rd2 (s0 := 5632) (s1 := 2048) (m (c, main_arg1)) (1408 * (t.val % 4) + e.val) (1024 * (t.val / 44) + r.val) := by
  have hb := bounds t
  rw [← V_main_arg1 m c]
  exact rd2_at (s0 := 5632) (s1 := 2048) (V m c main_arg1) _
    (by show win0_1.index t 0 * 1408 + 1 * e.val = _; rw [(index_1 t).1]; omega)
    (by show win0_1.index t 1 * 1024 + 1 * r.val = _; rw [(index_1 t).2]; omega)

theorem block_2 (t : Fin cfg0.N) (x : S768x1024.Idx) : iblk m c 2 t x
    = rd2 (s0 := 8448) (s1 := 2048) (m (c, main_arg2)) (768 * (t.val / 4 % 11) + (x 0).val) (1024 * (t.val / 44) + (x 1).val) := by
  have hb := bounds t
  rw [← V_main_arg2 m c]
  exact rd2_at (s0 := 8448) (s1 := 2048) (V m c main_arg2) _
    (by show win0_2.index t 0 * 768 + 1 * (x 0).val = _; rw [(index_2 t).1]; omega)
    (by show win0_2.index t 1 * 1024 + 1 * (x 1).val = _; rw [(index_2 t).2]; omega)

theorem gate_0 (t : Fin cfg0.N) (r : Fin 1024) : View.ld (iblk m c 3 t) (Rect.unit ![0, 0] ![1, 1024] inb_S2x1024_S1x1024_0_0) (ix2 0 r)
    = rd2 (s0 := 2) (s1 := 2048) (m (c, main_arg3)) 0 (1024 * (t.val / 44) + r.val) := by
  have hb := bounds t
  rw [← V_main_arg3 m c]
  exact rd2_at (s0 := 2) (s1 := 2048) (V m c main_arg3) _
    (by show win0_3.index t 0 * 2 + 1 * (0 + 1 * 0) = _; rw [(index_3 t).1])
    (by show win0_3.index t 1 * 1024 + 1 * (0 + 1 * r.val) = _; rw [(index_3 t).2]; omega)

theorem gate_1 (t : Fin cfg0.N) (r : Fin 1024) : View.ld (iblk m c 3 t) (Rect.unit ![1, 0] ![1, 1024] inb_S2x1024_S1x1024_1_0) (ix2 0 r)
    = rd2 (s0 := 2) (s1 := 2048) (m (c, main_arg3)) 1 (1024 * (t.val / 44) + r.val) := by
  have hb := bounds t
  rw [← V_main_arg3 m c]
  exact rd2_at (s0 := 2) (s1 := 2048) (V m c main_arg3) _
    (by show win0_3.index t 0 * 2 + 1 * (1 + 1 * 0) = _; rw [(index_3 t).1])
    (by show win0_3.index t 1 * 1024 + 1 * (0 + 1 * r.val) = _; rw [(index_3 t).2]; omega)

theorem point (t : Fin cfg0.N) (x : S768x1024.Idx) : k0_pay1 (F := Ideal) (iblk m c 0 t) (iblk m c 1 t) x = term m c t.val x := by
  rw [pay, term]
  exact Finset.sum_congr rfl fun e _ => congrArg₂ (fun a b : EReal => a * b) (block_0 m c t (x 0) e) (block_1 m c t e (x 1))

theorem part_A (t : Fin cfg0.N) (ht : t.val % 4 = 0) (x : S768x1024.Idx) : (outsAt0 m c t.val t.isLt).2.2 x = 0 + term m c t.val x := by
  rw [outsAt0_A m c t ht (by omega) (by omega)]
  frame_out
  rw [pay_first, point, zero_add]

theorem part_B (t : Fin cfg0.N) (ht : ¬ t.val % 4 = 0) (x : S768x1024.Idx) : (outsAt0 m c t.val t.isLt).2.2 x
    = (outsAt0 m c (t.val - 1) (Nat.lt_of_le_of_lt (Nat.sub_le _ _) t.isLt)).2.2 x + term m c t.val x := by
  by_cases hl : t.val % 4 = 3
  · rw [outsAt0_C m c t (by omega) (by omega) (by omega)]
    frame_out
    rw [pay_next, point]
    simp only [read_unread_whole]
  · rw [outsAt0_B m c t (by omega) (by omega) (by omega)]
    frame_out
    rw [pay_next, point]
    simp only [read_unread_whole]

theorem last (t : Fin cfg0.N) (ht : t.val % 4 = 3) (x : S768x1024.Idx) : (outsAt0 m c t.val t.isLt).2.1 x = (outsAt0 m c t.val t.isLt).2.2 x := by
  rw [outsAt0_C m c t (by omega) (by omega) (by omega)]
  frame_out

theorem last_gated (t : Fin cfg0.N) (ht : t.val % 4 = 3) (x : S768x1024.Idx) : (outsAt0 m c t.val t.isLt).1 x
    = rd2 (s0 := 8448) (s1 := 2048) (m (c, main_arg2)) (768 * (t.val / 4 % 11) + (x 0).val) (1024 * (t.val / 44) + (x 1).val)
      + (if 768 * (t.val / 4 % 11) + (x 0).val < 256 then rd2 (s0 := 2) (s1 := 2048) (m (c, main_arg3)) 0 (1024 * (t.val / 44) + (x 1).val)
          else rd2 (s0 := 2) (s1 := 2048) (m (c, main_arg3)) 1 (1024 * (t.val / 44) + (x 1).val)) * (outsAt0 m c t.val t.isLt).2.2 x := by
  rw [outsAt0_C m c t (by omega) (by omega) (by omega)]
  frame_out
  rw [pay_gate, block_2]
  by_cases h : 768 * (t.val / 4 % 11) + (x 0).val < 256
  · rw [if_pos h, if_pos h]
    exact congrArg (fun g : EReal => _ + g * _) (gate_0 m c t (x 1))
  · rw [if_neg h, if_neg h]
    exact congrArg (fun g : EReal => _ + g * _) (gate_1 m c t (x 1))

/-- The accumulator at a block's last point is the product. -/
theorem sum (t : Fin cfg0.N) (ht : t.val % 4 = 3) (y : S768x1024.Idx) : (outsAt0 m c t.val t.isLt).2.2 y
    = spec11 (m (c, main_arg0)) (m (c, main_arg1)) (768 * (t.val / 4 % 11) + (y 0).val) (1024 * (t.val / 44) + (y 1).val) := by
  refine (Pipeline.eq_sum_fin_of_reset_step_apply_of_flush (M := EReal) (ι := S768x1024.Idx) (fun n h => (outsAt0 m c n h).2.2) 4 (fun _ => 0) _
    (part_A m c) (part_B m c) t ht y).trans ?_
  have hb := bounds t
  rw [zero_add, spec11]
  refine Eq.trans (Finset.sum_congr rfl fun s _ => ?_) (sum_blocks 4 1408 (fun q => rd2 (s0 := 8448) (s1 := 5632) (m (c, main_arg0)) (_) (q) * rd2 (s0 := 5632) (s1 := 2048) (m (c, main_arg1)) (q) (_)))
  have e0 : (4 * (t.val / 4) + s.val) / 4 % 11 = t.val / 4 % 11 := by omega
  have e1 : (4 * (t.val / 4) + s.val) % 4 = s.val := by omega
  have e2 : (4 * (t.val / 4) + s.val) / 44 = t.val / 44 := by omega
  rw [term, e0, e1, e2]

/-- The second array ends holding the product. -/
theorem final_5 : (dats m 0 c).arrAt 5 (cfgs 0).N = fun j : S8448x2048.Idx => spec11 (m (c, main_arg0)) (m (c, main_arg1)) (j 0).val (j 1).val := by
  refine (dats m 0 c).arrAt_eq_of_covers 5 _ (by decide +kernel) fun t hf y => ?_
  obtain ⟨i0, i1⟩ := index_5 t
  blk_simp
  have hlast := (flush0_5 t).mp hf
  rw [after0_5]
  refine (last m c t (by omega) y).trans ((sum m c t (by omega) y).trans ?_)
  rw [i0, i1, Nat.mul_comm 768 (t.val / 4 % 11), Nat.mul_comm 1024 (t.val / 44)]

/-- The first array ends holding the residual with the gated product. -/
theorem final_4 : (dats m 0 c).arrAt 4 (cfgs 0).N = fun j : S8448x2048.Idx =>
    gated (m (c, main_arg0)) (m (c, main_arg1)) (m (c, main_arg2)) (m (c, main_arg3)) (j 0).val (j 1).val := by
  refine (dats m 0 c).arrAt_eq_of_covers 4 _ (by decide +kernel) fun t hf y => ?_
  obtain ⟨i0, i1⟩ := index_4 t
  blk_simp
  have hlast := (flush0_4 t).mp hf
  rw [after0_4]
  refine (last_gated m c t (by omega) y).trans ?_
  rw [sum m c t (by omega) y, gated, i0, i1, Nat.mul_comm 768 (t.val / 4 % 11), Nat.mul_comm 1024 (t.val / 44)]

end Cert.Product.P11

end
-- ==== Proof.DownClaims.lean ====
/- The FFN's down product: its kernels compute what their references compute, and all leave their arguments and semaphores. -/
module

public import proofs.«01_k».proof.Proof.Product10
public import proofs.«01_k».proof.Proof.Gen.Kernel10Ideal.Value
public import proofs.«01_k».proof.Proof.Gen.Reference10Ideal.Run
public import proofs.«01_k».proof.Proof.Product11
public import proofs.«01_k».proof.Proof.Gen.Kernel11Ideal.Value
public import proofs.«01_k».proof.Proof.Gen.Reference11Ideal.Run
public import proofs.«01_k».proof.Defs
public import Idealize.ShloMosaic.Lib.Claim

@[expose] public section

set_option maxRecDepth 16384

noncomputable section

namespace Cert.Product

open Idealize.ShloMosaic Idealize.ShloMosaic.TcCoe Idealize.SL.Sem

theorem quiescent10 : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

theorem algebraic10 : Cert.algebraic_Kernel10Ideal_Reference10Ideal := by
  intro m g m' g' _ hagree
  refine ⟨fun c => (Cert.Kernel10Ideal.Gen.dats m 0 c).arrAt 2 (Cert.Kernel10Ideal.cfgs 0).N, Cert.Kernel10Ideal.Value.run_blocks (F := Ideal) m g,
    (θ_run Cert.Reference10Ideal.defs _ _).mono (fun r h c => ?_) (Cert.Reference10Ideal.Value.run (F := Ideal) m' g')⟩
  obtain ⟨h0, ha⟩ := h c
  obtain ⟨e0, e1, e2⟩ := hagree c
  rw [Cert.Reference10Ideal.Read.val_main_v10_eq, reference10, e0, e1, e2] at h0
  exact ⟨h0.trans (P10.final m c).symm, ha⟩

theorem quiescent11 : Cert.quiescent_Reference11Ideal := fun m g _ =>
  (θ_run Cert.Reference11Ideal.defs _ _).mono (fun r h => ⟨fun c => (h c).2.2, sem_eq_zero_of_no_sems (by decide) r.2⟩)
    (Cert.Reference11Ideal.Value.run (F := Ideal) m g)

theorem algebraic11 : Cert.algebraic_Kernel11Ideal_Reference11Ideal := by
  intro m g m' g' _ hagree
  refine ⟨fun c => (Cert.Kernel11Ideal.Gen.dats m 0 c).arrAt 4 (Cert.Kernel11Ideal.cfgs 0).N,
    fun c => (Cert.Kernel11Ideal.Gen.dats m 0 c).arrAt 5 (Cert.Kernel11Ideal.cfgs 0).N, Cert.Kernel11Ideal.Value.run_blocks (F := Ideal) m g,
    (θ_run Cert.Reference11Ideal.defs _ _).mono (fun r h c => ?_) (Cert.Reference11Ideal.Value.run (F := Ideal) m' g')⟩
  obtain ⟨h0, h1, ha⟩ := h c
  obtain ⟨e0, e1, e2, e3⟩ := hagree c
  rw [Cert.Reference11Ideal.Read.val_main_v19_eq, reference11, e0, e1, e2, e3] at h0
  rw [Cert.Reference11Ideal.Read.val_main_v2_eq, product11, e0, e1] at h1
  exact ⟨h0.trans (P11.final_4 m c).symm, h1.trans (P11.final_5 m c).symm, ha⟩

end Cert.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite
public import proofs.«01_k».proof.Proof.Gen.Pre_finite2
public import proofs.«01_k».proof.Proof.Backward
public import proofs.«01_k».proof.Proof.FwdClaim
public import proofs.«01_k».proof.Proof.Frames
public import proofs.«01_k».proof.Proof.ProductClaims
public import proofs.«01_k».proof.Proof.DownClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_finite.Gen.facts, Cert.Pre_finite2.Gen.facts,
  fun m ρ _ => Cert.Kernel.Gen.frame m ρ, fun m ρ _ => Cert.KernelIdeal.Gen.frame m ρ, fun m ρ _ => Cert.KernelIdeal.Gen.frame m ρ,
  Cert.AttnGrad.reference_quiescent, Cert.AttnGrad.reference_quiescent_finite,
  fun m ρ _ => Cert.Kernel2.Gen.frame m ρ, fun m ρ _ => Cert.Kernel2Ideal.Gen.frame m ρ, fun m ρ _ => Cert.Kernel2Ideal.Gen.frame m ρ,
  Cert.AttnGrad.forward_quiescent, Cert.AttnGrad.forward_quiescent_finite,
  fun m ρ _ => Cert.Kernel3.Gen.frame m ρ, fun m ρ _ => Cert.Kernel3Ideal.Gen.frame m ρ, Cert.Product.quiescent3,
  fun m ρ _ => Cert.Kernel4.Gen.frame m ρ, fun m ρ _ => Cert.Kernel4Ideal.Gen.frame m ρ, Cert.Product.quiescent4,
  fun m ρ _ => Cert.Kernel5.Gen.frame m ρ, fun m ρ _ => Cert.Kernel5Ideal.Gen.frame m ρ, Cert.Product.quiescent5,
  fun m ρ _ => Cert.Kernel6.Gen.frame m ρ, fun m ρ _ => Cert.Kernel6Ideal.Gen.frame m ρ, Cert.Product.quiescent6,
  fun m ρ _ => Cert.Kernel7.Gen.frame m ρ, fun m ρ _ => Cert.Kernel7Ideal.Gen.frame m ρ, Cert.Product.quiescent7,
  fun m ρ _ => Cert.Kernel8.Gen.frame m ρ, fun m ρ _ => Cert.Kernel8Ideal.Gen.frame m ρ, Cert.Product.quiescent8,
  fun m ρ _ => Cert.Kernel9.Gen.frame m ρ, fun m ρ _ => Cert.Kernel9Ideal.Gen.frame m ρ, Cert.Product.quiescent9,
  fun m ρ _ => Cert.Kernel10.Gen.frame m ρ, fun m ρ _ => Cert.Kernel10Ideal.Gen.frame m ρ, Cert.Product.quiescent10,
  fun m ρ _ => Cert.Kernel11.Gen.frame m ρ, fun m ρ _ => Cert.Kernel11Ideal.Gen.frame m ρ, Cert.Product.quiescent11,
  trivial, Cert.AttnGrad.algebraic_backward, trivial, Cert.AttnGrad.algebraic_forward,
  trivial, Cert.Product.algebraic3, trivial, Cert.Product.algebraic4, trivial, Cert.Product.algebraic5, trivial, Cert.Product.algebraic6, trivial, Cert.Product.algebraic7, trivial, Cert.Product.algebraic8, trivial, Cert.Product.algebraic9, trivial, Cert.Product.algebraic10, trivial, Cert.Product.algebraic11⟩

end Cert.Proof

end
